-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S8192x12288 : Shape := ⟨2, ![8192, 12288]⟩
abbrev S8192x768 : Shape := ⟨2, ![8192, 768]⟩
abbrev S128x768 : Shape := ⟨2, ![128, 768]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 14
  | .smem => 0
  | _ => 0

abbrev bufTy : (tb : Table) → Fin (tcTables nBuf tb) → BufTy
  | .hbm, ⟨0, _⟩ => ⟨S8192x12288, .f32⟩
  | .hbm, ⟨1, _⟩ => ⟨S8192x768, .f32⟩
  | .hbm, ⟨2, _⟩ => ⟨S8192x768, .f32⟩
  | .local _ .vmem, ⟨0, _⟩ => ⟨S128x768, .f32⟩
  | .local _ .vmem, ⟨1, _⟩ => ⟨S128x768, .f32⟩
  | .local _ .vmem, ⟨2, _⟩ => ⟨S128x768, .f32⟩
  | .local _ .vmem, ⟨3, _⟩ => ⟨S128x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x768, .f32⟩
  | .local _ .vmem, ⟨9, _⟩ => ⟨S128x768, .f32⟩
  | .local _ .vmem, ⟨10, _⟩ => ⟨S128x768, .f32⟩
  | .local _ .vmem, ⟨11, _⟩ => ⟨S128x768, .f32⟩
  | .local _ .vmem, ⟨12, _⟩ => ⟨S128x768, .f32⟩
  | .local _ .vmem, ⟨13, _⟩ => ⟨S128x768, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.muli arg1 c1_i32
  let c6_i32 : BitVec 32 := 6#32
  let v3 : BitVec 32 := Scalar.addi c6_i32 v2
  let c0_i32_1 : BitVec 32 := 0#32
  let v4 : BitVec 32 := Scalar.addi v3 c0_i32_1
  let c0_i32_2 : BitVec 32 := 0#32
  ![v1.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.muli arg1 c1_i32
  let c9_i32 : BitVec 32 := 9#32
  let v3 : BitVec 32 := Scalar.addi c9_i32 v2
  let c0_i32_1 : BitVec 32 := 0#32
  let v4 : BitVec 32 := Scalar.addi v3 c0_i32_1
  let c0_i32_2 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.muli arg1 c1_i32_0
  let c9_i32 : BitVec 32 := 9#32
  let v3 : BitVec 32 := Scalar.addi c9_i32 v2
  let c0_i32_1 : BitVec 32 := 0#32
  let v4 : BitVec 32 := Scalar.addi v3 c0_i32_1
  let c0_i32_2 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let v2 : BitVec 32 := Scalar.muli arg1 c1_i32
  let c12_i32 : BitVec 32 := 12#32
  let v3 : BitVec 32 := Scalar.addi c12_i32 v2
  let c0_i32_1 : BitVec 32 := 0#32
  let v4 : BitVec 32 := Scalar.addi v3 c0_i32_1
  let c0_i32_2 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let v2 : BitVec 32 := Scalar.muli arg1 c1_i32_0
  let c12_i32 : BitVec 32 := 12#32
  let v3 : BitVec 32 := Scalar.addi c12_i32 v2
  let c0_i32_1 : BitVec 32 := 0#32
  let v4 : BitVec 32 := Scalar.addi v3 c0_i32_1
  let c0_i32_2 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x12288 : Shape := ⟨2, ![8192, 12288]⟩
abbrev S8192x768 : Shape := ⟨2, ![8192, 768]⟩
abbrev S8192x6x128 : Shape := ⟨3, ![8192, 6, 128]⟩
abbrev S64x128x6x128 : Shape := ⟨4, ![64, 128, 6, 128]⟩
abbrev S_ : Shape := ⟨0, ![]⟩
abbrev S65x128x6x128 : Shape := ⟨4, ![65, 128, 6, 128]⟩
abbrev S64x256x6x128 : Shape := ⟨4, ![64, 256, 6, 128]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S256 : Shape := ⟨1, ![256]⟩
abbrev S1x1x256 : Shape := ⟨3, ![1, 1, 256]⟩
abbrev S64x1x256 : Shape := ⟨3, ![64, 1, 256]⟩
abbrev S64x128x256 : Shape := ⟨3, ![64, 128, 256]⟩
abbrev S64x6x128x256 : Shape := ⟨4, ![64, 6, 128, 256]⟩
abbrev S64x1x128x256 : Shape := ⟨4, ![64, 1, 128, 256]⟩
abbrev S64x6x128 : Shape := ⟨3, ![64, 6, 128]⟩
abbrev S64x6x128x1 : Shape := ⟨4, ![64, 6, 128, 1]⟩
abbrev S64x6x128x128 : Shape := ⟨4, ![64, 6, 128, 128]⟩
abbrev S64x128x6 : Shape := ⟨3, ![64, 128, 6]⟩
abbrev S64x128x6x1 : Shape := ⟨4, ![64, 128, 6, 1]⟩

abbrev nBuf : Space → Nat
  | .hbm => 87
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x768, .f32⟩
  | .hbm, ⟨2, _⟩ => ⟨S8192x6x128, .f32⟩
  | .hbm, ⟨3, _⟩ => ⟨S8192x768, .f32⟩
  | .hbm, ⟨4, _⟩ => ⟨S8192x6x128, .f32⟩
  | .hbm, ⟨5, _⟩ => ⟨S8192x768, .f32⟩
  | .hbm, ⟨6, _⟩ => ⟨S8192x6x128, .f32⟩
  | .hbm, ⟨7, _⟩ => ⟨S64x128x6x128, .f32⟩
  | .hbm, ⟨8, _⟩ => ⟨S64x128x6x128, .f32⟩
  | .hbm, ⟨9, _⟩ => ⟨S_, .i32⟩
  | .hbm, ⟨10, _⟩ => ⟨S_, .f32⟩
  | .hbm, ⟨11, _⟩ => ⟨S65x128x6x128, .f32⟩
  | .hbm, ⟨12, _⟩ => ⟨S64x128x6x128, .f32⟩
  | .hbm, ⟨13, _⟩ => ⟨S64x256x6x128, .f32⟩
  | .hbm, ⟨14, _⟩ => ⟨S64x128x6x128, .f32⟩
  | .hbm, ⟨15, _⟩ => ⟨S_, .i32⟩
  | .hbm, ⟨16, _⟩ => ⟨S_, .f32⟩
  | .hbm, ⟨17, _⟩ => ⟨S65x128x6x128, .f32⟩
  | .hbm, ⟨18, _⟩ => ⟨S64x128x6x128, .f32⟩
  | .hbm, ⟨19, _⟩ => ⟨S64x256x6x128, .f32⟩
  | .hbm, ⟨20, _⟩ => ⟨S64, .i32⟩
  | .hbm, ⟨21, _⟩ => ⟨S64x1x1, .i32⟩
  | .hbm, ⟨22, _⟩ => ⟨S_, .i32⟩
  | .hbm, ⟨23, _⟩ => ⟨S64x1x1, .i32⟩
  | .hbm, ⟨24, _⟩ => ⟨S64x1x1, .i32⟩
  | .hbm, ⟨25, _⟩ => ⟨S128, .i32⟩
  | .hbm, ⟨26, _⟩ => ⟨S1x128x1, .i32⟩
  | .hbm, ⟨27, _⟩ => ⟨S64x128x1, .i32⟩
  | .hbm, ⟨28, _⟩ => ⟨S64x128x1, .i32⟩
  | .hbm, ⟨29, _⟩ => ⟨S64x128x1, .i32⟩
  | .hbm, ⟨30, _⟩ => ⟨S64, .i32⟩
  | .hbm, ⟨31, _⟩ => ⟨S64x1x1, .i32⟩
  | .hbm, ⟨32, _⟩ => ⟨S_, .i32⟩
  | .hbm, ⟨33, _⟩ => ⟨S64x1x1, .i32⟩
  | .hbm, ⟨34, _⟩ => ⟨S64x1x1, .i32⟩
  | .hbm, ⟨35, _⟩ => ⟨S_, .i32⟩
  | .hbm, ⟨36, _⟩ => ⟨S64x1x1, .i32⟩
  | .hbm, ⟨37, _⟩ => ⟨S64x1x1, .i32⟩
  | .hbm, ⟨38, _⟩ => ⟨S256, .i32⟩
  | .hbm, ⟨39, _⟩ => ⟨S1x1x256, .i32⟩
  | .hbm, ⟨40, _⟩ => ⟨S64x1x256, .i32⟩
  | .hbm, ⟨41, _⟩ => ⟨S64x1x256, .i32⟩
  | .hbm, ⟨42, _⟩ => ⟨S64x1x256, .i32⟩
  | .hbm, ⟨43, _⟩ => ⟨S64x128x256, .i32⟩
  | .hbm, ⟨44, _⟩ => ⟨S64x128x256, .i32⟩
  | .hbm, ⟨45, _⟩ => ⟨S64x128x256, .i32⟩
  | .hbm, ⟨46, _⟩ => ⟨S_, .i32⟩
  | .hbm, ⟨47, _⟩ => ⟨S64x128x256, .i32⟩
  | .hbm, ⟨48, _⟩ => ⟨S64x128x256, .i1⟩
  | .hbm, ⟨49, _⟩ => ⟨S_, .i32⟩
  | .hbm, ⟨50, _⟩ => ⟨S64x128x256, .i32⟩
  | .hbm, ⟨51, _⟩ => ⟨S64x128x256, .i1⟩
  | .hbm, ⟨52, _⟩ => ⟨S64x128x256, .i1⟩
  | .hbm, ⟨53, _⟩ => ⟨S_, .i32⟩
  | .hbm, ⟨54, _⟩ => ⟨S64x1x256, .i32⟩
  | .hbm, ⟨55, _⟩ => ⟨S64x1x256, .i1⟩
  | .hbm, ⟨56, _⟩ => ⟨S64x128x256, .i1⟩
  | .hbm, ⟨57, _⟩ => ⟨S64x128x256, .i1⟩
  | .hbm, ⟨58, _⟩ => ⟨S64x6x128x256, .f32⟩
  | .hbm, ⟨59, _⟩ => ⟨S64x1x128x256, .i1⟩
  | .hbm, ⟨60, _⟩ => ⟨S_, .f32⟩
  | .hbm, ⟨61, _⟩ => ⟨S_, .f32⟩
  | .hbm, ⟨62, _⟩ => ⟨S64x6x128x256, .i1⟩
  | .hbm, ⟨63, _⟩ => ⟨S64x6x128x256, .f32⟩
  | .hbm, ⟨64, _⟩ => ⟨S64x6x128x256, .f32⟩
  | .hbm, ⟨65, _⟩ => ⟨S_, .f32⟩
  | .hbm, ⟨66, _⟩ => ⟨S64x6x128, .f32⟩
  | .hbm, ⟨67, _⟩ => ⟨S64x6x128x1, .f32⟩
  | .hbm, ⟨68, _⟩ => ⟨S64x6x128x256, .f32⟩
  | .hbm, ⟨69, _⟩ => ⟨S64x6x128x256, .f32⟩
  | .hbm, ⟨70, _⟩ => ⟨S64x6x128x256, .f32⟩
  | .hbm, ⟨71, _⟩ => ⟨S_, .f32⟩
  | .hbm, ⟨72, _⟩ => ⟨S64x6x128, .f32⟩
  | .hbm, ⟨73, _⟩ => ⟨S64x6x128x128, .f32⟩
  | .hbm, ⟨74, _⟩ => ⟨S64x128x6x128, .f32⟩
  | .hbm, ⟨75, _⟩ => ⟨S64x128x6, .f32⟩
  | .hbm, ⟨76, _⟩ => ⟨S64x128x6x1, .f32⟩
  | .hbm, ⟨77, _⟩ => ⟨S64x128x6x128, .f32⟩
  | .hbm, ⟨78, _⟩ => ⟨S64x128x6x128, .f32⟩
  | .hbm, ⟨79, _⟩ => ⟨S64x6x128, .f32⟩
  | .hbm, ⟨80, _⟩ => ⟨S64x6x128, .f32⟩
  | .hbm, ⟨81, _⟩ => ⟨S64x6x128, .f32⟩
  | .hbm, ⟨82, _⟩ => ⟨S64x128x6, .f32⟩
  | .hbm, ⟨83, _⟩ => ⟨S64x128x6x1, .f32⟩
  | .hbm, ⟨84, _⟩ => ⟨S64x128x6x128, .f32⟩
  | .hbm, ⟨85, _⟩ => ⟨S8192x768, .f32⟩
  | .hbm, ⟨86, _⟩ => ⟨S8192x768, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_call1_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_c_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_4 : Ref sig .tc := ⟨.hbm, 46, rfl⟩
abbrev main_v38 : Ref sig .tc := ⟨.hbm, 47, rfl⟩
abbrev main_v39 : Ref sig .tc := ⟨.hbm, 48, rfl⟩
abbrev main_c_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S8192x2048 : Shape := ⟨2, ![8192, 2048]⟩
abbrev S8192x768 : Shape := ⟨2, ![8192, 768]⟩
abbrev S2x2048x20480 : Shape := ⟨3, ![2, 2048, 20480]⟩
abbrev S2x4x768x2048 : Shape := ⟨4, ![2, 4, 768, 2048]⟩
abbrev S2x2048x2048 : Shape := ⟨3, ![2, 2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S2048x72 : Shape := ⟨2, ![2048, 72]⟩
abbrev S_ : Shape := ⟨0, ![]⟩
abbrev S2048x128 : Shape := ⟨2, ![2048, 128]⟩
abbrev S72 : Shape := ⟨1, ![72]⟩
abbrev S128 : Shape := ⟨1, ![128]⟩
abbrev S1x128 : Shape := ⟨2, ![1, 128]⟩
abbrev S1x2048 : Shape := ⟨2, ![1, 2048]⟩
abbrev S8192x128 : Shape := ⟨2, ![8192, 128]⟩
abbrev S512x2048 : Shape := ⟨2, ![512, 2048]⟩
abbrev S512x768 : Shape := ⟨2, ![512, 768]⟩
abbrev S1x2048x256 : Shape := ⟨3, ![1, 2048, 256]⟩
abbrev S1x1x768x256 : Shape := ⟨4, ![1, 1, 768, 256]⟩
abbrev S1x256x2048 : Shape := ⟨3, ![1, 256, 2048]⟩
abbrev S512x128 : Shape := ⟨2, ![512, 128]⟩
abbrev S2048x256 : Shape := ⟨2, ![2048, 256]⟩
abbrev S512x256 : Shape := ⟨2, ![512, 256]⟩
abbrev S768x256 : Shape := ⟨2, ![768, 256]⟩
abbrev S256x2048 : Shape := ⟨2, ![256, 2048]⟩
abbrev S512 : Shape := ⟨1, ![512]⟩
abbrev S512x1 : Shape := ⟨2, ![512, 1]⟩

abbrev nBuf : Space → Nat
  | .hbm => 28
  | .vmem => 38
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S8192x768, .bf16⟩
  | .hbm, ⟨3, _⟩ => ⟨S8192x768, .f32⟩
  | .hbm, ⟨4, _⟩ => ⟨S8192x768, .bf16⟩
  | .hbm, ⟨5, _⟩ => ⟨S2x2048x20480, .bf16⟩
  | .hbm, ⟨6, _⟩ => ⟨S2x4x768x2048, .f32⟩
  | .hbm, ⟨7, _⟩ => ⟨S2x2048x2048, .f32⟩
  | .hbm, ⟨8, _⟩ => ⟨S8192x2048, .f32⟩
  | .hbm, ⟨9, _⟩ => ⟨S2048, .f32⟩
  | .hbm, ⟨10, _⟩ => ⟨S2048x8, .f32⟩
  | .hbm, ⟨11, _⟩ => ⟨S8, .f32⟩
  | .hbm, ⟨12, _⟩ => ⟨S2048x64, .f32⟩
  | .hbm, ⟨13, _⟩ => ⟨S64, .f32⟩
  | .hbm, ⟨14, _⟩ => ⟨S2048x72, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S72, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S2x4x768x2048, .bf16⟩
  | .hbm, ⟨24, _⟩ => ⟨S2x2048x2048, .bf16⟩
  | .hbm, ⟨25, _⟩ => ⟨S1x2048, .f32⟩
  | .hbm, ⟨26, _⟩ => ⟨S8192x2048, .f32⟩
  | .hbm, ⟨27, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | .local _ .vmem, ⟨7, _⟩ => ⟨S512x768, .f32⟩
  | .local _ .vmem, ⟨8, _⟩ => ⟨S512x768, .bf16⟩
  | .local _ .vmem, ⟨9, _⟩ => ⟨S512x768, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x1x768x256, .bf16⟩
  | .local _ .vmem, ⟨19, _⟩ => ⟨S1x1x768x256, .bf16⟩
  | .local _ .vmem, ⟨20, _⟩ => ⟨S1x1x768x256, .bf16⟩
  | .local _ .vmem, ⟨21, _⟩ => ⟨S1x1x768x256, .bf16⟩
  | .local _ .vmem, ⟨22, _⟩ => ⟨S1x1x768x256, .bf16⟩
  | .local _ .vmem, ⟨23, _⟩ => ⟨S1x1x768x256, .bf16⟩
  | .local _ .vmem, ⟨24, _⟩ => ⟨S1x1x768x256, .bf16⟩
  | .local _ .vmem, ⟨25, _⟩ => ⟨S1x1x768x256, .bf16⟩
  | .local _ .vmem, ⟨26, _⟩ => ⟨S1x256x2048, .bf16⟩
  | .local _ .vmem, ⟨27, _⟩ => ⟨S1x256x2048, .bf16⟩
  | .local _ .vmem, ⟨28, _⟩ => ⟨S512x2048, .f32⟩
  | .local _ .vmem, ⟨29, _⟩ => ⟨S512x2048, .f32⟩
  | .local _ .vmem, ⟨30, _⟩ => ⟨S1x2048, .f32⟩
  | .local _ .vmem, ⟨31, _⟩ => ⟨S2048x128, .f32⟩
  | .local _ .vmem, ⟨32, _⟩ => ⟨S1x128, .f32⟩
  | .local _ .vmem, ⟨33, _⟩ => ⟨S512x2048, .f32⟩
  | .local _ .vmem, ⟨34, _⟩ => ⟨S512x2048, .f32⟩
  | .local _ .vmem, ⟨35, _⟩ => ⟨S512x128, .f32⟩
  | .local _ .vmem, ⟨36, _⟩ => ⟨S512x128, .f32⟩
  | .local _ .vmem, ⟨37, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_65 : BitVec 32 := 0#32
  let v79 : BitVec 1 := Scalar.cmpi .ne v78 c0_i32_65
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x768x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x768x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2048x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference2Ideal.lean ====
abbrev S8192x2048 : Shape := ⟨2, ![8192, 2048]⟩
abbrev S8192x768 : Shape := ⟨2, ![8192, 768]⟩
abbrev S2x2048x20480 : Shape := ⟨3, ![2, 2048, 20480]⟩
abbrev S2x4x768x2048 : Shape := ⟨4, ![2, 4, 768, 2048]⟩
abbrev S2x2048x2048 : Shape := ⟨3, ![2, 2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S1x2048x8192 : Shape := ⟨3, ![1, 2048, 8192]⟩
abbrev S2048x8192 : Shape := ⟨2, ![2048, 8192]⟩
abbrev S8192x8192 : Shape := ⟨2, ![8192, 8192]⟩
abbrev S8192x1x768 : Shape := ⟨3, ![8192, 1, 768]⟩
abbrev S8192x4x768 : Shape := ⟨3, ![8192, 4, 768]⟩
abbrev S1x4x768x2048 : Shape := ⟨4, ![1, 4, 768, 2048]⟩
abbrev S4x768x2048 : Shape := ⟨3, ![4, 768, 2048]⟩
abbrev S4x2048x8192 : Shape := ⟨3, ![4, 2048, 8192]⟩
abbrev S8192x4x2048 : Shape := ⟨3, ![8192, 4, 2048]⟩
abbrev S_ : Shape := ⟨0, ![]⟩
abbrev S1x2048x2048 : Shape := ⟨3, ![1, 2048, 2048]⟩
abbrev S2048x2048 : Shape := ⟨2, ![2048, 2048]⟩
abbrev S8192 : Shape := ⟨1, ![8192]⟩
abbrev S8192x1 : Shape := ⟨2, ![8192, 1]⟩
abbrev S1x2048 : Shape := ⟨2, ![1, 2048]⟩
abbrev S8192x8 : Shape := ⟨2, ![8192, 8]⟩
abbrev S1x8 : Shape := ⟨2, ![1, 8]⟩
abbrev S8192x64 : Shape := ⟨2, ![8192, 64]⟩
abbrev S1x64 : Shape := ⟨2, ![1, 64]⟩
abbrev S8192x72 : Shape := ⟨2, ![8192, 72]⟩
abbrev S8192x128 : Shape := ⟨2, ![8192, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S8192x768, .bf16⟩
  | .hbm, ⟨3, _⟩ => ⟨S8192x768, .f32⟩
  | .hbm, ⟨4, _⟩ => ⟨S8192x768, .bf16⟩
  | .hbm, ⟨5, _⟩ => ⟨S2x2048x20480, .bf16⟩
  | .hbm, ⟨6, _⟩ => ⟨S2x4x768x2048, .f32⟩
  | .hbm, ⟨7, _⟩ => ⟨S2x2048x2048, .f32⟩
  | .hbm, ⟨8, _⟩ => ⟨S8192x2048, .f32⟩
  | .hbm, ⟨9, _⟩ => ⟨S2048, .f32⟩
  | .hbm, ⟨10, _⟩ => ⟨S2048x8, .f32⟩
  | .hbm, ⟨11, _⟩ => ⟨S8, .f32⟩
  | .hbm, ⟨12, _⟩ => ⟨S2048x64, .f32⟩
  | .hbm, ⟨13, _⟩ => ⟨S64, .f32⟩
  | .hbm, ⟨14, _⟩ => ⟨S8192x2048, .f32⟩
  | .hbm, ⟨15, _⟩ => ⟨S1x2048x8192, .bf16⟩
  | .hbm, ⟨16, _⟩ => ⟨S2048x8192, .bf16⟩
  | .hbm, ⟨17, _⟩ => ⟨S2048x8192, .f32⟩
  | .hbm, ⟨18, _⟩ => ⟨S8192x8192, .f32⟩
  | .hbm, ⟨19, _⟩ => ⟨S8192x768, .f32⟩
  | .hbm, ⟨20, _⟩ => ⟨S8192x768, .f32⟩
  | .hbm, ⟨21, _⟩ => ⟨S8192x768, .f32⟩
  | .hbm, ⟨22, _⟩ => ⟨S8192x1x768, .f32⟩
  | .hbm, ⟨23, _⟩ => ⟨S8192x1x768, .f32⟩
  | .hbm, ⟨24, _⟩ => ⟨S8192x1x768, .f32⟩
  | .hbm, ⟨25, _⟩ => ⟨S8192x1x768, .f32⟩
  | .hbm, ⟨26, _⟩ => ⟨S8192x4x768, .f32⟩
  | .hbm, ⟨27, _⟩ => ⟨S1x4x768x2048, .f32⟩
  | .hbm, ⟨28, _⟩ => ⟨S4x768x2048, .f32⟩
  | .hbm, ⟨29, _⟩ => ⟨S4x2048x8192, .f32⟩
  | .hbm, ⟨30, _⟩ => ⟨S8192x4x2048, .f32⟩
  | .hbm, ⟨31, _⟩ => ⟨S8192x4x2048, .f32⟩
  | .hbm, ⟨32, _⟩ => ⟨S8192x4x2048, .f32⟩
  | .hbm, ⟨33, _⟩ => ⟨S8192x4x2048, .f32⟩
  | .hbm, ⟨34, _⟩ => ⟨S_, .f32⟩
  | .hbm, ⟨35, _⟩ => ⟨S8192x4x2048, .f32⟩
  | .hbm, ⟨36, _⟩ => ⟨S8192x4x2048, .f32⟩
  | .hbm, ⟨37, _⟩ => ⟨S_, .f32⟩
  | .hbm, ⟨38, _⟩ => ⟨S8192x4x2048, .f32⟩
  | .hbm, ⟨39, _⟩ => ⟨S8192x4x2048, .f32⟩
  | .hbm, ⟨40, _⟩ => ⟨S8192x4x2048, .f32⟩
  | .hbm, ⟨41, _⟩ => ⟨S_, .f32⟩
  | .hbm, ⟨42, _⟩ => ⟨S8192x2048, .f32⟩
  | .hbm, ⟨43, _⟩ => ⟨S1x2048x2048, .f32⟩
  | .hbm, ⟨44, _⟩ => ⟨S2048x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x8, .f32⟩
  | .hbm, ⟨64, _⟩ => ⟨S1x8, .f32⟩
  | .hbm, ⟨65, _⟩ => ⟨S8192x8, .f32⟩
  | .hbm, ⟨66, _⟩ => ⟨S8192x8, .f32⟩
  | .hbm, ⟨67, _⟩ => ⟨S8192x64, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S8192x72, .f32⟩
  | .hbm, ⟨72, _⟩ => ⟨S_, .i32⟩
  | .hbm, ⟨73, _⟩ => ⟨S_, .f32⟩
  | .hbm, ⟨74, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_call0_v0 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel3.lean ====
abbrev S8192x2048 : Shape := ⟨2, ![8192, 2048]⟩
abbrev S2x2048x20480 : Shape := ⟨3, ![2, 2048, 20480]⟩
abbrev S8192 : Shape := ⟨1, ![8192]⟩
abbrev S64 : Shape := ⟨1, ![64]⟩
abbrev S_ : Shape := ⟨0, ![]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S8192x12288 : Shape := ⟨2, ![8192, 12288]⟩
abbrev S1024x2048 : Shape := ⟨2, ![1024, 2048]⟩
abbrev S1x2048x768 : Shape := ⟨3, ![1, 2048, 768]⟩
abbrev S1024x128 : Shape := ⟨2, ![1024, 128]⟩
abbrev S1024x768 : Shape := ⟨2, ![1024, 768]⟩
abbrev S2048x768 : Shape := ⟨2, ![2048, 768]⟩
abbrev S256x2048 : Shape := ⟨2, ![256, 2048]⟩
abbrev S256x768 : Shape := ⟨2, ![256, 768]⟩
abbrev S256x128 : Shape := ⟨2, ![256, 128]⟩

abbrev nBuf : Space → Nat
  | .hbm => 30
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x20480, .bf16⟩
  | .hbm, ⟨2, _⟩ => ⟨S8192, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S128, .f32⟩
  | .hbm, ⟨15, _⟩ => ⟨S1x128, .f32⟩
  | .hbm, ⟨16, _⟩ => ⟨S8192x1, .i32⟩
  | .hbm, ⟨17, _⟩ => ⟨S8192x1, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .i32⟩
  | .hbm, ⟨22, _⟩ => ⟨S8192x128, .f32⟩
  | .hbm, ⟨23, _⟩ => ⟨S8192x128, .f32⟩
  | .hbm, ⟨24, _⟩ => ⟨S_, .i32⟩
  | .hbm, ⟨25, _⟩ => ⟨S8192x128, .i32⟩
  | .hbm, ⟨26, _⟩ => ⟨S8192x128, .i1⟩
  | .hbm, ⟨27, _⟩ => ⟨S8192x128, .f32⟩
  | .hbm, ⟨28, _⟩ => ⟨S8192x128, .f32⟩
  | .hbm, ⟨29, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x768, .f32⟩
  | .local _ .vmem, ⟨9, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c6_i32 : BitVec 32 := 6#32
  let v0 : BitVec 1 := Scalar.cmpi .sge arg0 c6_i32
  let c9_i32 : BitVec 32 := 9#32
  let v1 : BitVec 1 := Scalar.cmpi .slt arg0 c9_i32
  let v2 : BitVec 1 := Scalar.andi v0 v1
  let c9_i32_0 : BitVec 32 := 9#32
  let v3 : BitVec 1 := Scalar.cmpi .sge arg0 c9_i32_0
  let c12_i32 : BitVec 32 := 12#32
  let v4 : BitVec 1 := Scalar.cmpi .slt arg0 c12_i32
  let v5 : BitVec 1 := Scalar.andi v3 v4
  let v6 : BitVec 1 := Scalar.ori v2 v5
  let v_true : BitVec 1 := 1#1
  let v7 : BitVec 1 := Scalar.xori v6 v_true
  let v8 : BitVec 32 := Scalar.extui v7
  let c0_i32 : BitVec 32 := 0#32
  let v9 : BitVec 1 := Scalar.cmpi .ne v8 c0_i32
  v9

def k0_cond2 (i : grid0.Coords) : BitVec 1 :=
  let arg0 : BitVec 32 := BitVec.ofNat 32 (i 0).val
  let c6_i32 : BitVec 32 := 6#32
  let v0 : BitVec 1 := Scalar.cmpi .sge arg0 c6_i32
  let c9_i32 : BitVec 32 := 9#32
  let v1 : BitVec 1 := Scalar.cmpi .slt arg0 c9_i32
  let v2 : BitVec 1 := Scalar.andi v0 v1
  let v10 : BitVec 32 := Scalar.extui v2
  let c0_i32_1 : BitVec 32 := 0#32
  let v11 : BitVec 1 := Scalar.cmpi .ne v10 c0_i32_1
  v11

def k0_cond3 (i : grid0.Coords) : BitVec 1 :=
  let arg0 : BitVec 32 := BitVec.ofNat 32 (i 0).val
  let c9_i32_0 : BitVec 32 := 9#32
  let v3 : BitVec 1 := Scalar.cmpi .sge arg0 c9_i32_0
  let c12_i32 : BitVec 32 := 12#32
  let v4 : BitVec 1 := Scalar.cmpi .slt arg0 c12_i32
  let v5 : BitVec 1 := Scalar.andi v3 v4
  let v12 : BitVec 32 := Scalar.extui v5
  let c0_i32_2 : BitVec 32 := 0#32
  let v13 : BitVec 1 := Scalar.cmpi .ne v12 c0_i32_2
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x2048 : Shape := ⟨2, ![8192, 2048]⟩
abbrev S2x2048x20480 : Shape := ⟨3, ![2, 2048, 20480]⟩
abbrev S8192 : Shape := ⟨1, ![8192]⟩
abbrev S1x2048x12288 : Shape := ⟨3, ![1, 2048, 12288]⟩
abbrev S2048x12288 : Shape := ⟨2, ![2048, 12288]⟩
abbrev S8192x12288 : Shape := ⟨2, ![8192, 12288]⟩
abbrev S8192x2304 : Shape := ⟨2, ![8192, 2304]⟩
abbrev S8192x18x128 : Shape := ⟨3, ![8192, 18, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x18x64 : Shape := ⟨3, ![8192, 18, 64]⟩
abbrev S8192x4608 : Shape := ⟨2, ![8192, 4608]⟩
abbrev S8192x3072 : Shape := ⟨2, ![8192, 3072]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x20480, .bf16⟩
  | .hbm, ⟨2, _⟩ => ⟨S8192, .i32⟩
  | .hbm, ⟨3, _⟩ => ⟨S8192x2048, .f32⟩
  | .hbm, ⟨4, _⟩ => ⟨S1x2048x12288, .bf16⟩
  | .hbm, ⟨5, _⟩ => ⟨S2048x12288, .bf16⟩
  | .hbm, ⟨6, _⟩ => ⟨S2048x12288, .f32⟩
  | .hbm, ⟨7, _⟩ => ⟨S8192x12288, .f32⟩
  | .hbm, ⟨8, _⟩ => ⟨S8192x2304, .f32⟩
  | .hbm, ⟨9, _⟩ => ⟨S8192x18x128, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S8192, .f32⟩
  | .hbm, ⟨22, _⟩ => ⟨S8192x1, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x1x64, .f32⟩
  | .hbm, ⟨28, _⟩ => ⟨S8192x1x64, .f32⟩
  | .hbm, ⟨29, _⟩ => ⟨S8192x1x64, .f32⟩
  | .hbm, ⟨30, _⟩ => ⟨S8192x18x64, .f32⟩
  | .hbm, ⟨31, _⟩ => ⟨S8192x18x64, .f32⟩
  | .hbm, ⟨32, _⟩ => ⟨S8192x18x64, .f32⟩
  | .hbm, ⟨33, _⟩ => ⟨S8192x18x64, .f32⟩
  | .hbm, ⟨34, _⟩ => ⟨S8192x18x64, .f32⟩
  | .hbm, ⟨35, _⟩ => ⟨S8192x18x64, .f32⟩
  | .hbm, ⟨36, _⟩ => ⟨S8192x18x64, .f32⟩
  | .hbm, ⟨37, _⟩ => ⟨S8192x18x64, .f32⟩
  | .hbm, ⟨38, _⟩ => ⟨S8192x18x64, .f32⟩
  | .hbm, ⟨39, _⟩ => ⟨S8192x18x64, .f32⟩
  | .hbm, ⟨40, _⟩ => ⟨S8192x18x64, .f32⟩
  | .hbm, ⟨41, _⟩ => ⟨S8192x18x64, .f32⟩
  | .hbm, ⟨42, _⟩ => ⟨S8192x18x128, .f32⟩
  | .hbm, ⟨43, _⟩ => ⟨S_, .f32⟩
  | .hbm, ⟨44, _⟩ => ⟨S8192x18x128, .f32⟩
  | .hbm, ⟨45, _⟩ => ⟨S8192x18x128, .f32⟩
  | .hbm, ⟨46, _⟩ => ⟨S8192x2304, .f32⟩
  | .hbm, ⟨47, _⟩ => ⟨S8192x18x128, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S8192, .f32⟩
  | .hbm, ⟨60, _⟩ => ⟨S8192x1, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x1x64, .f32⟩
  | .hbm, ⟨66, _⟩ => ⟨S8192x1x64, .f32⟩
  | .hbm, ⟨67, _⟩ => ⟨S8192x1x64, .f32⟩
  | .hbm, ⟨68, _⟩ => ⟨S8192x18x64, .f32⟩
  | .hbm, ⟨69, _⟩ => ⟨S8192x18x64, .f32⟩
  | .hbm, ⟨70, _⟩ => ⟨S8192x18x64, .f32⟩
  | .hbm, ⟨71, _⟩ => ⟨S8192x18x64, .f32⟩
  | .hbm, ⟨72, _⟩ => ⟨S8192x18x64, .f32⟩
  | .hbm, ⟨73, _⟩ => ⟨S8192x18x64, .f32⟩
  | .hbm, ⟨74, _⟩ => ⟨S8192x18x64, .f32⟩
  | .hbm, ⟨75, _⟩ => ⟨S8192x18x64, .f32⟩
  | .hbm, ⟨76, _⟩ => ⟨S8192x18x64, .f32⟩
  | .hbm, ⟨77, _⟩ => ⟨S8192x18x64, .f32⟩
  | .hbm, ⟨78, _⟩ => ⟨S8192x18x64, .f32⟩
  | .hbm, ⟨79, _⟩ => ⟨S8192x18x64, .f32⟩
  | .hbm, ⟨80, _⟩ => ⟨S8192x18x128, .f32⟩
  | .hbm, ⟨81, _⟩ => ⟨S8192x4608, .f32⟩
  | .hbm, ⟨82, _⟩ => ⟨S8192x2304, .f32⟩
  | .hbm, ⟨83, _⟩ => ⟨S8192x2304, .f32⟩
  | .hbm, ⟨84, _⟩ => ⟨S8192x3072, .f32⟩
  | .hbm, ⟨85, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== Kernel4.lean ====
abbrev S8192x2048 : Shape := ⟨2, ![8192, 2048]⟩
abbrev S8192x768 : Shape := ⟨2, ![8192, 768]⟩
abbrev S2x2048x20480 : Shape := ⟨3, ![2, 2048, 20480]⟩
abbrev S2x4x768x2048 : Shape := ⟨4, ![2, 4, 768, 2048]⟩
abbrev S2x2048x2048 : Shape := ⟨3, ![2, 2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S2048x72 : Shape := ⟨2, ![2048, 72]⟩
abbrev S_ : Shape := ⟨0, ![]⟩
abbrev S2048x128 : Shape := ⟨2, ![2048, 128]⟩
abbrev S72 : Shape := ⟨1, ![72]⟩
abbrev S128 : Shape := ⟨1, ![128]⟩
abbrev S1x128 : Shape := ⟨2, ![1, 128]⟩
abbrev S1x2048 : Shape := ⟨2, ![1, 2048]⟩
abbrev S8192x128 : Shape := ⟨2, ![8192, 128]⟩
abbrev S512x2048 : Shape := ⟨2, ![512, 2048]⟩
abbrev S512x768 : Shape := ⟨2, ![512, 768]⟩
abbrev S1x2048x256 : Shape := ⟨3, ![1, 2048, 256]⟩
abbrev S1x1x768x256 : Shape := ⟨4, ![1, 1, 768, 256]⟩
abbrev S1x256x2048 : Shape := ⟨3, ![1, 256, 2048]⟩
abbrev S512x128 : Shape := ⟨2, ![512, 128]⟩
abbrev S2048x256 : Shape := ⟨2, ![2048, 256]⟩
abbrev S512x256 : Shape := ⟨2, ![512, 256]⟩
abbrev S768x256 : Shape := ⟨2, ![768, 256]⟩
abbrev S256x2048 : Shape := ⟨2, ![256, 2048]⟩
abbrev S512 : Shape := ⟨1, ![512]⟩
abbrev S512x1 : Shape := ⟨2, ![512, 1]⟩

abbrev nBuf : Space → Nat
  | .hbm => 28
  | .vmem => 38
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S8192x768, .bf16⟩
  | .hbm, ⟨3, _⟩ => ⟨S8192x768, .f32⟩
  | .hbm, ⟨4, _⟩ => ⟨S8192x768, .bf16⟩
  | .hbm, ⟨5, _⟩ => ⟨S2x2048x20480, .bf16⟩
  | .hbm, ⟨6, _⟩ => ⟨S2x4x768x2048, .f32⟩
  | .hbm, ⟨7, _⟩ => ⟨S2x2048x2048, .f32⟩
  | .hbm, ⟨8, _⟩ => ⟨S8192x2048, .f32⟩
  | .hbm, ⟨9, _⟩ => ⟨S2048, .f32⟩
  | .hbm, ⟨10, _⟩ => ⟨S2048x8, .f32⟩
  | .hbm, ⟨11, _⟩ => ⟨S8, .f32⟩
  | .hbm, ⟨12, _⟩ => ⟨S2048x64, .f32⟩
  | .hbm, ⟨13, _⟩ => ⟨S64, .f32⟩
  | .hbm, ⟨14, _⟩ => ⟨S2048x72, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S72, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S2x4x768x2048, .bf16⟩
  | .hbm, ⟨24, _⟩ => ⟨S2x2048x2048, .bf16⟩
  | .hbm, ⟨25, _⟩ => ⟨S1x2048, .f32⟩
  | .hbm, ⟨26, _⟩ => ⟨S8192x2048, .f32⟩
  | .hbm, ⟨27, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | .local _ .vmem, ⟨7, _⟩ => ⟨S512x768, .f32⟩
  | .local _ .vmem, ⟨8, _⟩ => ⟨S512x768, .bf16⟩
  | .local _ .vmem, ⟨9, _⟩ => ⟨S512x768, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S1x1x768x256, .bf16⟩
  | .local _ .vmem, ⟨19, _⟩ => ⟨S1x1x768x256, .bf16⟩
  | .local _ .vmem, ⟨20, _⟩ => ⟨S1x1x768x256, .bf16⟩
  | .local _ .vmem, ⟨21, _⟩ => ⟨S1x1x768x256, .bf16⟩
  | .local _ .vmem, ⟨22, _⟩ => ⟨S1x1x768x256, .bf16⟩
  | .local _ .vmem, ⟨23, _⟩ => ⟨S1x1x768x256, .bf16⟩
  | .local _ .vmem, ⟨24, _⟩ => ⟨S1x1x768x256, .bf16⟩
  | .local _ .vmem, ⟨25, _⟩ => ⟨S1x1x768x256, .bf16⟩
  | .local _ .vmem, ⟨26, _⟩ => ⟨S1x256x2048, .bf16⟩
  | .local _ .vmem, ⟨27, _⟩ => ⟨S1x256x2048, .bf16⟩
  | .local _ .vmem, ⟨28, _⟩ => ⟨S512x2048, .f32⟩
  | .local _ .vmem, ⟨29, _⟩ => ⟨S512x2048, .f32⟩
  | .local _ .vmem, ⟨30, _⟩ => ⟨S1x2048, .f32⟩
  | .local _ .vmem, ⟨31, _⟩ => ⟨S2048x128, .f32⟩
  | .local _ .vmem, ⟨32, _⟩ => ⟨S1x128, .f32⟩
  | .local _ .vmem, ⟨33, _⟩ => ⟨S512x2048, .f32⟩
  | .local _ .vmem, ⟨34, _⟩ => ⟨S512x2048, .f32⟩
  | .local _ .vmem, ⟨35, _⟩ => ⟨S512x128, .f32⟩
  | .local _ .vmem, ⟨36, _⟩ => ⟨S512x128, .f32⟩
  | .local _ .vmem, ⟨37, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_call1_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v77 : BitVec 1 := Scalar.cmpi .eq arg1 c7_i32
  let v78 : BitVec 32 := Scalar.extui v77
  let c0_i32_65 : BitVec 32 := 0#32
  let v79 : BitVec 1 := Scalar.cmpi .ne v78 c0_i32_65
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c1_i32 : BitVec 32 := 1#32
  let c0_i32 : BitVec 32 := 0#32
  let c0_i32_0 : BitVec 32 := 0#32
  ![c1_i32.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  let c0_i32_0 : BitVec 32 := 0#32
  ![c1_i32.toNat, c3_i32.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x768x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x768x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2048x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== Reference4Ideal.lean ====
abbrev S8192x2048 : Shape := ⟨2, ![8192, 2048]⟩
abbrev S8192x768 : Shape := ⟨2, ![8192, 768]⟩
abbrev S2x2048x20480 : Shape := ⟨3, ![2, 2048, 20480]⟩
abbrev S2x4x768x2048 : Shape := ⟨4, ![2, 4, 768, 2048]⟩
abbrev S2x2048x2048 : Shape := ⟨3, ![2, 2048, 2048]⟩
abbrev S2048 : Shape := ⟨1, ![2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S1x2048x8192 : Shape := ⟨3, ![1, 2048, 8192]⟩
abbrev S2048x8192 : Shape := ⟨2, ![2048, 8192]⟩
abbrev S8192x8192 : Shape := ⟨2, ![8192, 8192]⟩
abbrev S8192x1x768 : Shape := ⟨3, ![8192, 1, 768]⟩
abbrev S8192x4x768 : Shape := ⟨3, ![8192, 4, 768]⟩
abbrev S1x4x768x2048 : Shape := ⟨4, ![1, 4, 768, 2048]⟩
abbrev S4x768x2048 : Shape := ⟨3, ![4, 768, 2048]⟩
abbrev S4x2048x8192 : Shape := ⟨3, ![4, 2048, 8192]⟩
abbrev S8192x4x2048 : Shape := ⟨3, ![8192, 4, 2048]⟩
abbrev S_ : Shape := ⟨0, ![]⟩
abbrev S1x2048x2048 : Shape := ⟨3, ![1, 2048, 2048]⟩
abbrev S2048x2048 : Shape := ⟨2, ![2048, 2048]⟩
abbrev S8192 : Shape := ⟨1, ![8192]⟩
abbrev S8192x1 : Shape := ⟨2, ![8192, 1]⟩
abbrev S1x2048 : Shape := ⟨2, ![1, 2048]⟩
abbrev S8192x8 : Shape := ⟨2, ![8192, 8]⟩
abbrev S1x8 : Shape := ⟨2, ![1, 8]⟩
abbrev S8192x64 : Shape := ⟨2, ![8192, 64]⟩
abbrev S1x64 : Shape := ⟨2, ![1, 64]⟩
abbrev S8192x72 : Shape := ⟨2, ![8192, 72]⟩
abbrev S8192x128 : Shape := ⟨2, ![8192, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x768, .bf16⟩
  | .hbm, ⟨2, _⟩ => ⟨S8192x768, .bf16⟩
  | .hbm, ⟨3, _⟩ => ⟨S8192x768, .f32⟩
  | .hbm, ⟨4, _⟩ => ⟨S8192x768, .bf16⟩
  | .hbm, ⟨5, _⟩ => ⟨S2x2048x20480, .bf16⟩
  | .hbm, ⟨6, _⟩ => ⟨S2x4x768x2048, .f32⟩
  | .hbm, ⟨7, _⟩ => ⟨S2x2048x2048, .f32⟩
  | .hbm, ⟨8, _⟩ => ⟨S8192x2048, .f32⟩
  | .hbm, ⟨9, _⟩ => ⟨S2048, .f32⟩
  | .hbm, ⟨10, _⟩ => ⟨S2048x8, .f32⟩
  | .hbm, ⟨11, _⟩ => ⟨S8, .f32⟩
  | .hbm, ⟨12, _⟩ => ⟨S2048x64, .f32⟩
  | .hbm, ⟨13, _⟩ => ⟨S64, .f32⟩
  | .hbm, ⟨14, _⟩ => ⟨S8192x2048, .f32⟩
  | .hbm, ⟨15, _⟩ => ⟨S1x2048x8192, .bf16⟩
  | .hbm, ⟨16, _⟩ => ⟨S2048x8192, .bf16⟩
  | .hbm, ⟨17, _⟩ => ⟨S2048x8192, .f32⟩
  | .hbm, ⟨18, _⟩ => ⟨S8192x8192, .f32⟩
  | .hbm, ⟨19, _⟩ => ⟨S8192x768, .f32⟩
  | .hbm, ⟨20, _⟩ => ⟨S8192x768, .f32⟩
  | .hbm, ⟨21, _⟩ => ⟨S8192x768, .f32⟩
  | .hbm, ⟨22, _⟩ => ⟨S8192x1x768, .f32⟩
  | .hbm, ⟨23, _⟩ => ⟨S8192x1x768, .f32⟩
  | .hbm, ⟨24, _⟩ => ⟨S8192x1x768, .f32⟩
  | .hbm, ⟨25, _⟩ => ⟨S8192x1x768, .f32⟩
  | .hbm, ⟨26, _⟩ => ⟨S8192x4x768, .f32⟩
  | .hbm, ⟨27, _⟩ => ⟨S1x4x768x2048, .f32⟩
  | .hbm, ⟨28, _⟩ => ⟨S4x768x2048, .f32⟩
  | .hbm, ⟨29, _⟩ => ⟨S4x2048x8192, .f32⟩
  | .hbm, ⟨30, _⟩ => ⟨S8192x4x2048, .f32⟩
  | .hbm, ⟨31, _⟩ => ⟨S8192x4x2048, .f32⟩
  | .hbm, ⟨32, _⟩ => ⟨S8192x4x2048, .f32⟩
  | .hbm, ⟨33, _⟩ => ⟨S8192x4x2048, .f32⟩
  | .hbm, ⟨34, _⟩ => ⟨S_, .f32⟩
  | .hbm, ⟨35, _⟩ => ⟨S8192x4x2048, .f32⟩
  | .hbm, ⟨36, _⟩ => ⟨S8192x4x2048, .f32⟩
  | .hbm, ⟨37, _⟩ => ⟨S_, .f32⟩
  | .hbm, ⟨38, _⟩ => ⟨S8192x4x2048, .f32⟩
  | .hbm, ⟨39, _⟩ => ⟨S8192x4x2048, .f32⟩
  | .hbm, ⟨40, _⟩ => ⟨S8192x4x2048, .f32⟩
  | .hbm, ⟨41, _⟩ => ⟨S_, .f32⟩
  | .hbm, ⟨42, _⟩ => ⟨S8192x2048, .f32⟩
  | .hbm, ⟨43, _⟩ => ⟨S1x2048x2048, .f32⟩
  | .hbm, ⟨44, _⟩ => ⟨S2048x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x8, .f32⟩
  | .hbm, ⟨64, _⟩ => ⟨S1x8, .f32⟩
  | .hbm, ⟨65, _⟩ => ⟨S8192x8, .f32⟩
  | .hbm, ⟨66, _⟩ => ⟨S8192x8, .f32⟩
  | .hbm, ⟨67, _⟩ => ⟨S8192x64, .f32⟩
  | .hbm, ⟨68, _⟩ => ⟨S1x64, .f32⟩
  | .hbm, ⟨69, _⟩ => ⟨S8192x64, .f32⟩
  | .hbm, ⟨70, _⟩ => ⟨S8192x64, .f32⟩
  | .hbm, ⟨71, _⟩ => ⟨S8192x72, .f32⟩
  | .hbm, ⟨72, _⟩ => ⟨S_, .i32⟩
  | .hbm, ⟨73, _⟩ => ⟨S_, .f32⟩
  | .hbm, ⟨74, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c : Ref sig .tc := ⟨.hbm, 72, rfl⟩
abbrev main_call0_v0 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel5.lean ====
abbrev S8192x2048 : Shape := ⟨2, ![8192, 2048]⟩
abbrev S2x2048x20480 : Shape := ⟨3, ![2, 2048, 20480]⟩
abbrev S8192 : Shape := ⟨1, ![8192]⟩
abbrev S64 : Shape := ⟨1, ![64]⟩
abbrev S_ : Shape := ⟨0, ![]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S8192x12288 : Shape := ⟨2, ![8192, 12288]⟩
abbrev S1024x2048 : Shape := ⟨2, ![1024, 2048]⟩
abbrev S1x2048x768 : Shape := ⟨3, ![1, 2048, 768]⟩
abbrev S1024x128 : Shape := ⟨2, ![1024, 128]⟩
abbrev S1024x768 : Shape := ⟨2, ![1024, 768]⟩
abbrev S2048x768 : Shape := ⟨2, ![2048, 768]⟩
abbrev S256x2048 : Shape := ⟨2, ![256, 2048]⟩
abbrev S256x768 : Shape := ⟨2, ![256, 768]⟩
abbrev S256x128 : Shape := ⟨2, ![256, 128]⟩

abbrev nBuf : Space → Nat
  | .hbm => 30
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x20480, .bf16⟩
  | .hbm, ⟨2, _⟩ => ⟨S8192, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S128, .f32⟩
  | .hbm, ⟨15, _⟩ => ⟨S1x128, .f32⟩
  | .hbm, ⟨16, _⟩ => ⟨S8192x1, .i32⟩
  | .hbm, ⟨17, _⟩ => ⟨S8192x1, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .i32⟩
  | .hbm, ⟨22, _⟩ => ⟨S8192x128, .f32⟩
  | .hbm, ⟨23, _⟩ => ⟨S8192x128, .f32⟩
  | .hbm, ⟨24, _⟩ => ⟨S_, .i32⟩
  | .hbm, ⟨25, _⟩ => ⟨S8192x128, .i32⟩
  | .hbm, ⟨26, _⟩ => ⟨S8192x128, .i1⟩
  | .hbm, ⟨27, _⟩ => ⟨S8192x128, .f32⟩
  | .hbm, ⟨28, _⟩ => ⟨S8192x128, .f32⟩
  | .hbm, ⟨29, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x768, .f32⟩
  | .local _ .vmem, ⟨9, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c6_i32 : BitVec 32 := 6#32
  let v0 : BitVec 1 := Scalar.cmpi .sge arg0 c6_i32
  let c9_i32 : BitVec 32 := 9#32
  let v1 : BitVec 1 := Scalar.cmpi .slt arg0 c9_i32
  let v2 : BitVec 1 := Scalar.andi v0 v1
  let c9_i32_0 : BitVec 32 := 9#32
  let v3 : BitVec 1 := Scalar.cmpi .sge arg0 c9_i32_0
  let c12_i32 : BitVec 32 := 12#32
  let v4 : BitVec 1 := Scalar.cmpi .slt arg0 c12_i32
  let v5 : BitVec 1 := Scalar.andi v3 v4
  let v6 : BitVec 1 := Scalar.ori v2 v5
  let v_true : BitVec 1 := 1#1
  let v7 : BitVec 1 := Scalar.xori v6 v_true
  let v8 : BitVec 32 := Scalar.extui v7
  let c0_i32 : BitVec 32 := 0#32
  let v9 : BitVec 1 := Scalar.cmpi .ne v8 c0_i32
  v9

def k0_cond2 (i : grid0.Coords) : BitVec 1 :=
  let arg0 : BitVec 32 := BitVec.ofNat 32 (i 0).val
  let c6_i32 : BitVec 32 := 6#32
  let v0 : BitVec 1 := Scalar.cmpi .sge arg0 c6_i32
  let c9_i32 : BitVec 32 := 9#32
  let v1 : BitVec 1 := Scalar.cmpi .slt arg0 c9_i32
  let v2 : BitVec 1 := Scalar.andi v0 v1
  let v10 : BitVec 32 := Scalar.extui v2
  let c0_i32_1 : BitVec 32 := 0#32
  let v11 : BitVec 1 := Scalar.cmpi .ne v10 c0_i32_1
  v11

def k0_cond3 (i : grid0.Coords) : BitVec 1 :=
  let arg0 : BitVec 32 := BitVec.ofNat 32 (i 0).val
  let c9_i32_0 : BitVec 32 := 9#32
  let v3 : BitVec 1 := Scalar.cmpi .sge arg0 c9_i32_0
  let c12_i32 : BitVec 32 := 12#32
  let v4 : BitVec 1 := Scalar.cmpi .slt arg0 c12_i32
  let v5 : BitVec 1 := Scalar.andi v3 v4
  let v12 : BitVec 32 := Scalar.extui v5
  let c0_i32_2 : BitVec 32 := 0#32
  let v13 : BitVec 1 := Scalar.cmpi .ne v12 c0_i32_2
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x2048 : Shape := ⟨2, ![8192, 2048]⟩
abbrev S2x2048x20480 : Shape := ⟨3, ![2, 2048, 20480]⟩
abbrev S8192 : Shape := ⟨1, ![8192]⟩
abbrev S1x2048x12288 : Shape := ⟨3, ![1, 2048, 12288]⟩
abbrev S2048x12288 : Shape := ⟨2, ![2048, 12288]⟩
abbrev S8192x12288 : Shape := ⟨2, ![8192, 12288]⟩
abbrev S8192x2304 : Shape := ⟨2, ![8192, 2304]⟩
abbrev S8192x18x128 : Shape := ⟨3, ![8192, 18, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x18x64 : Shape := ⟨3, ![8192, 18, 64]⟩
abbrev S8192x4608 : Shape := ⟨2, ![8192, 4608]⟩
abbrev S8192x3072 : Shape := ⟨2, ![8192, 3072]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x20480, .bf16⟩
  | .hbm, ⟨2, _⟩ => ⟨S8192, .i32⟩
  | .hbm, ⟨3, _⟩ => ⟨S8192x2048, .f32⟩
  | .hbm, ⟨4, _⟩ => ⟨S1x2048x12288, .bf16⟩
  | .hbm, ⟨5, _⟩ => ⟨S2048x12288, .bf16⟩
  | .hbm, ⟨6, _⟩ => ⟨S2048x12288, .f32⟩
  | .hbm, ⟨7, _⟩ => ⟨S8192x12288, .f32⟩
  | .hbm, ⟨8, _⟩ => ⟨S8192x2304, .f32⟩
  | .hbm, ⟨9, _⟩ => ⟨S8192x18x128, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S8192, .f32⟩
  | .hbm, ⟨22, _⟩ => ⟨S8192x1, .f32⟩
  | .hbm, ⟨23, _⟩ => ⟨S1x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x1x64, .f32⟩
  | .hbm, ⟨28, _⟩ => ⟨S8192x1x64, .f32⟩
  | .hbm, ⟨29, _⟩ => ⟨S8192x1x64, .f32⟩
  | .hbm, ⟨30, _⟩ => ⟨S8192x18x64, .f32⟩
  | .hbm, ⟨31, _⟩ => ⟨S8192x18x64, .f32⟩
  | .hbm, ⟨32, _⟩ => ⟨S8192x18x64, .f32⟩
  | .hbm, ⟨33, _⟩ => ⟨S8192x18x64, .f32⟩
  | .hbm, ⟨34, _⟩ => ⟨S8192x18x64, .f32⟩
  | .hbm, ⟨35, _⟩ => ⟨S8192x18x64, .f32⟩
  | .hbm, ⟨36, _⟩ => ⟨S8192x18x64, .f32⟩
  | .hbm, ⟨37, _⟩ => ⟨S8192x18x64, .f32⟩
  | .hbm, ⟨38, _⟩ => ⟨S8192x18x64, .f32⟩
  | .hbm, ⟨39, _⟩ => ⟨S8192x18x64, .f32⟩
  | .hbm, ⟨40, _⟩ => ⟨S8192x18x64, .f32⟩
  | .hbm, ⟨41, _⟩ => ⟨S8192x18x64, .f32⟩
  | .hbm, ⟨42, _⟩ => ⟨S8192x18x128, .f32⟩
  | .hbm, ⟨43, _⟩ => ⟨S_, .f32⟩
  | .hbm, ⟨44, _⟩ => ⟨S8192x18x128, .f32⟩
  | .hbm, ⟨45, _⟩ => ⟨S8192x18x128, .f32⟩
  | .hbm, ⟨46, _⟩ => ⟨S8192x2304, .f32⟩
  | .hbm, ⟨47, _⟩ => ⟨S8192x18x128, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S8192, .f32⟩
  | .hbm, ⟨60, _⟩ => ⟨S8192x1, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x1x64, .f32⟩
  | .hbm, ⟨66, _⟩ => ⟨S8192x1x64, .f32⟩
  | .hbm, ⟨67, _⟩ => ⟨S8192x1x64, .f32⟩
  | .hbm, ⟨68, _⟩ => ⟨S8192x18x64, .f32⟩
  | .hbm, ⟨69, _⟩ => ⟨S8192x18x64, .f32⟩
  | .hbm, ⟨70, _⟩ => ⟨S8192x18x64, .f32⟩
  | .hbm, ⟨71, _⟩ => ⟨S8192x18x64, .f32⟩
  | .hbm, ⟨72, _⟩ => ⟨S8192x18x64, .f32⟩
  | .hbm, ⟨73, _⟩ => ⟨S8192x18x64, .f32⟩
  | .hbm, ⟨74, _⟩ => ⟨S8192x18x64, .f32⟩
  | .hbm, ⟨75, _⟩ => ⟨S8192x18x64, .f32⟩
  | .hbm, ⟨76, _⟩ => ⟨S8192x18x64, .f32⟩
  | .hbm, ⟨77, _⟩ => ⟨S8192x18x64, .f32⟩
  | .hbm, ⟨78, _⟩ => ⟨S8192x18x64, .f32⟩
  | .hbm, ⟨79, _⟩ => ⟨S8192x18x64, .f32⟩
  | .hbm, ⟨80, _⟩ => ⟨S8192x18x128, .f32⟩
  | .hbm, ⟨81, _⟩ => ⟨S8192x4608, .f32⟩
  | .hbm, ⟨82, _⟩ => ⟨S8192x2304, .f32⟩
  | .hbm, ⟨83, _⟩ => ⟨S8192x2304, .f32⟩
  | .hbm, ⟨84, _⟩ => ⟨S8192x3072, .f32⟩
  | .hbm, ⟨85, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== Kernel6.lean ====
abbrev S8192 : Shape := ⟨1, ![8192]⟩
abbrev S64 : Shape := ⟨1, ![64]⟩
abbrev S_ : Shape := ⟨0, ![]⟩
abbrev S128 : Shape := ⟨1, ![128]⟩
abbrev S1x128 : Shape := ⟨2, ![1, 128]⟩
abbrev S8192x1 : Shape := ⟨2, ![8192, 1]⟩
abbrev S8192x128 : Shape := ⟨2, ![8192, 128]⟩
abbrev S1024x1 : Shape := ⟨2, ![1024, 1]⟩
abbrev S1024x128 : Shape := ⟨2, ![1024, 128]⟩

abbrev nBuf : Space → Nat
  | .hbm => 17
  | .vmem => 7
  | .smem => 0
  | _ => 0

abbrev bufTy : (tb : Table) → Fin (tcTables nBuf tb) → BufTy
  | .hbm, ⟨0, _⟩ => ⟨S8192, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S128, .f32⟩
  | .hbm, ⟨13, _⟩ => ⟨S1x128, .f32⟩
  | .hbm, ⟨14, _⟩ => ⟨S8192x1, .i32⟩
  | .hbm, ⟨15, _⟩ => ⟨S8192x128, .f32⟩
  | .hbm, ⟨16, _⟩ => ⟨S8192x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩

abbrev nBuf : Space → Nat
  | .hbm => 23
  | .vmem => 0
  | .smem => 0
  | _ => 0

abbrev bufTy : (tb : Table) → Fin (tcTables nBuf tb) → BufTy
  | .hbm, ⟨0, _⟩ => ⟨S8192, .i32⟩
  | .hbm, ⟨1, _⟩ => ⟨S64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8192, .f32⟩
  | .hbm, ⟨13, _⟩ => ⟨S8192x1, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S8192x128, .f32⟩
  | .hbm, ⟨21, _⟩ => ⟨S8192x64, .f32⟩
  | .hbm, ⟨22, _⟩ => ⟨S8192x128, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S2x2048x20492 : Shape := ⟨3, ![2, 2048, 20492]⟩
abbrev S20492x2x2048 : Shape := ⟨3, ![20492, 2, 2048]⟩
abbrev S2x2048x128 : Shape := ⟨3, ![2, 2048, 128]⟩
abbrev S128x2x2048 : Shape := ⟨3, ![128, 2, 2048]⟩
abbrev S128x1x2048 : Shape := ⟨3, ![128, 1, 2048]⟩
abbrev S128x2048 : Shape := ⟨2, ![128, 2048]⟩
abbrev S2048x128 : Shape := ⟨2, ![2048, 128]⟩
abbrev S1x2048x128 : Shape := ⟨3, ![1, 2048, 128]⟩

abbrev nBuf : Space → Nat
  | .hbm => 3
  | .vmem => 2
  | .smem => 0
  | _ => 0

abbrev bufTy : (tb : Table) → Fin (tcTables nBuf tb) → BufTy
  | .hbm, ⟨0, _⟩ => ⟨S2x2048x20492, .f32⟩
  | .hbm, ⟨1, _⟩ => ⟨S20492x2x2048, .f32⟩
  | .hbm, ⟨2, _⟩ => ⟨S2x2048x128, .bf16⟩
  | .local _ .vmem, ⟨0, _⟩ => ⟨S128x2x2048, .f32⟩
  | .local _ .vmem, ⟨1, _⟩ => ⟨S2x2048x128, .bf16⟩
  | _, _ => ⟨S2x2048x20492, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c24_i32 : BitVec 32 := 24#32
  let c0_i32 : BitVec 32 := 0#32
  let c0_i32_0 : BitVec 32 := 0#32
  let c0_i32_1 : BitVec 32 := 0#32
  ![c24_i32.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference8Ideal.lean ====
abbrev S2x2048x20492 : Shape := ⟨3, ![2, 2048, 20492]⟩
abbrev S2x2048x128 : Shape := ⟨3, ![2, 2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x20492, .f32⟩
  | .hbm, ⟨1, _⟩ => ⟨S2x2048x128, .f32⟩
  | .hbm, ⟨2, _⟩ => ⟨S2x2048x128, .bf16⟩
  | _, _ => ⟨S2x2048x20492, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S2x2048x128 : Shape := ⟨3, ![2, 2048, 128]⟩
abbrev S8192x128 : Shape := ⟨2, ![8192, 128]⟩
abbrev S1024x2048 : Shape := ⟨2, ![1024, 2048]⟩
abbrev S1x2048x128 : Shape := ⟨3, ![1, 2048, 128]⟩
abbrev S1024x128 : Shape := ⟨2, ![1024, 128]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S2x2048x128 : Shape := ⟨3, ![2, 2048, 128]⟩
abbrev S1x2048x128 : Shape := ⟨3, ![1, 2048, 128]⟩
abbrev S2048x128 : Shape := ⟨2, ![2048, 128]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x128, .bf16⟩
  | .hbm, ⟨2, _⟩ => ⟨S8192x2048, .f32⟩
  | .hbm, ⟨3, _⟩ => ⟨S1x2048x128, .bf16⟩
  | .hbm, ⟨4, _⟩ => ⟨S2048x128, .bf16⟩
  | .hbm, ⟨5, _⟩ => ⟨S2048x128, .f32⟩
  | .hbm, ⟨6, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x2048 : Shape := ⟨2, ![8192, 2048]⟩
abbrev S2x2048x128 : Shape := ⟨3, ![2, 2048, 128]⟩
abbrev S8192x128 : Shape := ⟨2, ![8192, 128]⟩
abbrev S1024x2048 : Shape := ⟨2, ![1024, 2048]⟩
abbrev S1x2048x128 : Shape := ⟨3, ![1, 2048, 128]⟩
abbrev S1024x128 : Shape := ⟨2, ![1024, 128]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x2048 : Shape := ⟨2, ![8192, 2048]⟩
abbrev S2x2048x128 : Shape := ⟨3, ![2, 2048, 128]⟩
abbrev S1x2048x128 : Shape := ⟨3, ![1, 2048, 128]⟩
abbrev S2048x128 : Shape := ⟨2, ![2048, 128]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x128, .bf16⟩
  | .hbm, ⟨2, _⟩ => ⟨S8192x2048, .f32⟩
  | .hbm, ⟨3, _⟩ => ⟨S1x2048x128, .bf16⟩
  | .hbm, ⟨4, _⟩ => ⟨S2048x128, .bf16⟩
  | .hbm, ⟨5, _⟩ => ⟨S2048x128, .f32⟩
  | .hbm, ⟨6, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2x2048x20492 : Shape := ⟨3, ![2, 2048, 20492]⟩
abbrev S20492x2x2048 : Shape := ⟨3, ![20492, 2, 2048]⟩
abbrev S2x2048x20480 : Shape := ⟨3, ![2, 2048, 20480]⟩
abbrev S2x2048x512 : Shape := ⟨3, ![2, 2048, 512]⟩
abbrev S2x512x2x2048 : Shape := ⟨4, ![2, 512, 2, 2048]⟩
abbrev S2 : Shape := ⟨1, ![2]⟩
abbrev S1 : Shape := ⟨1, ![1]⟩
abbrev S_ : Shape := ⟨0, ![]⟩
abbrev S1x512x2x2048 : Shape := ⟨4, ![1, 512, 2, 2048]⟩
abbrev S512x2x2048 : Shape := ⟨3, ![512, 2, 2048]⟩
abbrev S1x512x1x2048 : Shape := ⟨4, ![1, 512, 1, 2048]⟩
abbrev S512x2048 : Shape := ⟨2, ![512, 2048]⟩
abbrev S2048x512 : Shape := ⟨2, ![2048, 512]⟩
abbrev S1x2048x512 : Shape := ⟨3, ![1, 2048, 512]⟩

abbrev nBuf : Space → Nat
  | .hbm => 3
  | .vmem => 3
  | .smem => 0
  | _ => 0

abbrev bufTy : (tb : Table) → Fin (tcTables nBuf tb) → BufTy
  | .hbm, ⟨0, _⟩ => ⟨S2x2048x20492, .f32⟩
  | .hbm, ⟨1, _⟩ => ⟨S20492x2x2048, .f32⟩
  | .hbm, ⟨2, _⟩ => ⟨S2x2048x20480, .bf16⟩
  | .local _ .vmem, ⟨0, _⟩ => ⟨S2x2048x512, .bf16⟩
  | .local _ .vmem, ⟨1, _⟩ => ⟨S2x2048x512, .bf16⟩
  | .local _ .vmem, ⟨2, _⟩ => ⟨S2x512x2x2048, .f32⟩
  | _, _ => ⟨S2x2048x20492, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_27 : BitVec 32 := 0#32
  let c0_i32_28 : BitVec 32 := 0#32
  let c0_i32_29 : BitVec 32 := 0#32
  ![v9.toNat, 0, 0, 0]
def k0_off3 (i : grid0.Coords) : Fin 3 → Nat :=
  let arg0 : BitVec 32 := BitVec.ofNat 32 (i 0).val
  let c512_i32_23 : BitVec 32 := 512#32
  let v42 : BitVec 32 := Scalar.muli arg0 c512_i32_23
  let c6_i32_24 : BitVec 32 := 6#32
  let v43 : BitVec 1 := Scalar.cmpi .sge arg0 c6_i32_24
  let c12_i32_25 : BitVec 32 := 12#32
  let c0_i32_26 : BitVec 32 := 0#32
  let v44 : BitVec 32 := Scalar.select v43 c12_i32_25 c0_i32_26
  let v45 : BitVec 32 := Scalar.addi v42 v44
  let c0_i32_30 : BitVec 32 := 0#32
  let c0_i32_31 : BitVec 32 := 0#32
  ![v45.toNat, 0, 0]
def k0_off4 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_6 : BitVec 32 := 0#32
  let c0_i32_7 : BitVec 32 := 0#32
  let c0_i32_8 : BitVec 32 := 0#32
  ![v9.toNat, 0, 0, 0]
def k0_off6 (i : grid0.Coords) : Fin 3 → Nat :=
  let arg0 : BitVec 32 := BitVec.ofNat 32 (i 0).val
  let c512_i32 : BitVec 32 := 512#32
  let v13 : BitVec 32 := Scalar.muli arg0 c512_i32
  let c6_i32 : BitVec 32 := 6#32
  let v14 : BitVec 1 := Scalar.cmpi .sge arg0 c6_i32
  let c12_i32 : BitVec 32 := 12#32
  let c0_i32_5 : BitVec 32 := 0#32
  let v15 : BitVec 32 := Scalar.select v14 c12_i32 c0_i32_5
  let v16 : BitVec 32 := Scalar.addi v13 v15
  let c0_i32_9 : BitVec 32 := 0#32
  let c0_i32_10 : BitVec 32 := 0#32
  ![v16.toNat, 0, 0]
def k0_cond2 (i : grid0.Coords) : BitVec 1 :=
  let arg0 : BitVec 32 := BitVec.ofNat 32 (i 0).val
  let c1_i32_11 : BitVec 32 := 1#32
  let v22 : BitVec 32 := Scalar.addi arg0 c1_i32_11
  let c40_i32 : BitVec 32 := 40#32
  let v23 : BitVec 1 := Scalar.cmpi .slt v22 c40_i32
  let v24 : BitVec 32 := Scalar.extui v23
  let c0_i32_12 : BitVec 32 := 0#32
  let v25 : BitVec 1 := Scalar.cmpi .ne v24 c0_i32_12
  v25

def k0_off7 (i : grid0.Coords) : Fin 1 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_24 v9
  ![v43.toNat]
def k0_off8 (i : grid0.Coords) : Fin 4 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : BitVec 32 := Scalar.subi c1_i32_24 v9
  let c0_i32_29 : BitVec 32 := 0#32
  let c0_i32_30 : BitVec 32 := 0#32
  let c0_i32_31 : BitVec 32 := 0#32
  ![v43.toNat, 0, 0, 0]
def k0_off9 (i : grid0.Coords) : Fin 3 → Nat :=
  let arg0 : BitVec 32 := BitVec.ofNat 32 (i 0).val
  let c1_i32_23 : BitVec 32 := 1#32
  let v42 : BitVec 32 := Scalar.addi arg0 c1_i32_23
  let c512_i32_25 : BitVec 32 := 512#32
  let v44 : BitVec 32 := Scalar.muli v42 c512_i32_25
  let c6_i32_26 : BitVec 32 := 6#32
  let v45 : BitVec 1 := Scalar.cmpi .sge v42 c6_i32_26
  let c12_i32_27 : BitVec 32 := 12#32
  let c0_i32_28 : BitVec 32 := 0#32
  let v46 : BitVec 32 := Scalar.select v45 c12_i32_27 c0_i32_28
  let v47 : BitVec 32 := Scalar.addi v44 v46
  let c0_i32_32 : BitVec 32 := 0#32
  let c0_i32_33 : BitVec 32 := 0#32
  ![v47.toNat, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : Index := Scalar.indexCast v9
  let c0 : Index := 0#32
  let c0_13 : Index := 0#32
  let c0_14 : Index := 0#32
  ![v26.toNat, 0, 0, 0]
def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c0_18 : Index := 0#32
  let c1 : Index := 1#32
  let c0_19 : Index := 0#32
  ![v34.toNat, 0, 1, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference11Ideal.lean ====
abbrev S2x2048x20492 : Shape := ⟨3, ![2, 2048, 20492]⟩
abbrev S2x2048x3072 : Shape := ⟨3, ![2, 2048, 3072]⟩
abbrev S2x2048x17408 : Shape := ⟨3, ![2, 2048, 17408]⟩
abbrev S2x2048x20480 : Shape := ⟨3, ![2, 2048, 20480]⟩

abbrev nBuf : Space → Nat
  | .hbm => 5
  | .vmem => 0
  | .smem => 0
  | _ => 0

abbrev bufTy : (tb : Table) → Fin (tcTables nBuf tb) → BufTy
  | .hbm, ⟨0, _⟩ => ⟨S2x2048x20492, .f32⟩
  | .hbm, ⟨1, _⟩ => ⟨S2x2048x3072, .f32⟩
  | .hbm, ⟨2, _⟩ => ⟨S2x2048x17408, .f32⟩
  | .hbm, ⟨3, _⟩ => ⟨S2x2048x20480, .f32⟩
  | .hbm, ⟨4, _⟩ => ⟨S2x2048x20480, .bf16⟩
  | _, _ => ⟨S2x2048x20492, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.RefFrames.lean ====
/- The references end with their arguments unchanged and every counter at zero. -/
module

public import Idealize.ShloMosaic.Lib.Claim
public import Idealize.ShloMosaic.Lib.Quiescent
public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run

@[expose] public section

set_option maxRecDepth 16384

noncomputable section

namespace Cert.RefFrames

open Idealize.ShloMosaic Idealize.ShloMosaic.TcCoe Idealize.SL.Sem

theorem ref1 : Cert.quiescent_ReferenceIdeal (hReferenceIdeal := Cert.ReferenceIdeal.Gen.facts) := by
  exact fun m g _ => (θ_run _ _ _).mono (fun r h => ⟨fun c => (h c).2.2, Idealize.ShloMosaic.sem_eq_zero_of_no_sems rfl _⟩)
    (Cert.ReferenceIdeal.Value.run m g)

theorem ref2 : Cert.quiescent_Reference2Ideal (hReference2Ideal := Cert.Reference2Ideal.Gen.facts) := by
  exact fun m g _ => (θ_run _ _ _).mono (fun r h => ⟨fun c => (h c).2.2, Idealize.ShloMosaic.sem_eq_zero_of_no_sems rfl _⟩)
    (Cert.Reference2Ideal.Value.run m g)

theorem ref3 : Cert.quiescent_Reference3Ideal (hReference3Ideal := Cert.Reference3Ideal.Gen.facts) := by
  exact fun m g _ => (θ_run _ _ _).mono (fun r h => ⟨fun c => (h c).2, Idealize.ShloMosaic.sem_eq_zero_of_no_sems rfl _⟩)
    (Cert.Reference3Ideal.Value.run m g)

theorem ref4 : Cert.quiescent_Reference4Ideal (hReference4Ideal := Cert.Reference4Ideal.Gen.facts) := by
  exact fun m g _ => (θ_run _ _ _).mono (fun r h => ⟨fun c => (h c).2.2, Idealize.ShloMosaic.sem_eq_zero_of_no_sems rfl _⟩)
    (Cert.Reference4Ideal.Value.run m g)

theorem ref5 : Cert.quiescent_Reference5Ideal (hReference5Ideal := Cert.Reference5Ideal.Gen.facts) := by
  exact fun m g _ => (θ_run _ _ _).mono (fun r h => ⟨fun c => (h c).2, Idealize.ShloMosaic.sem_eq_zero_of_no_sems rfl _⟩)
    (Cert.Reference5Ideal.Value.run m g)

theorem ref6 : Cert.quiescent_Reference6Ideal (hReference6Ideal := Cert.Reference6Ideal.Gen.facts) := by
  exact fun m g _ => (θ_run _ _ _).mono (fun r h => ⟨fun c => (h c).2.2, Idealize.ShloMosaic.sem_eq_zero_of_no_sems rfl _⟩)
    (Cert.Reference6Ideal.Value.run m g)

theorem ref7 : Cert.quiescent_Reference7Ideal (hReference7Ideal := Cert.Reference7Ideal.Gen.facts) := by
  exact fun m g _ => (θ_run _ _ _).mono (fun r h => ⟨fun c => (h c).2, Idealize.ShloMosaic.sem_eq_zero_of_no_sems rfl _⟩)
    (Cert.Reference7Ideal.Value.run m g)

theorem ref8 : Cert.quiescent_Reference8Ideal (hReference8Ideal := Cert.Reference8Ideal.Gen.facts) := by
  exact fun m g _ => (θ_run _ _ _).mono (fun r h => ⟨fun c => (h c).2, Idealize.ShloMosaic.sem_eq_zero_of_no_sems rfl _⟩)
    (Cert.Reference8Ideal.Value.run m g)

theorem ref9 : Cert.quiescent_Reference9Ideal (hReference9Ideal := Cert.Reference9Ideal.Gen.facts) := by
  exact fun m g _ => (θ_run _ _ _).mono (fun r h => ⟨fun c => (h c).2, Idealize.ShloMosaic.sem_eq_zero_of_no_sems rfl _⟩)
    (Cert.Reference9Ideal.Value.run m g)

theorem ref10 : Cert.quiescent_Reference10Ideal (hReference10Ideal := Cert.Reference10Ideal.Gen.facts) := by
  exact fun m g _ => (θ_run _ _ _).mono (fun r h => ⟨fun c => (h c).2, Idealize.ShloMosaic.sem_eq_zero_of_no_sems rfl _⟩)
    (Cert.Reference10Ideal.Value.run m g)

theorem ref11 : Cert.quiescent_Reference11Ideal (hReference11Ideal := Cert.Reference11Ideal.Gen.facts) := by
  exact fun m g _ => (θ_run _ _ _).mono (fun r h => ⟨fun c => (h c).2, Idealize.ShloMosaic.sem_eq_zero_of_no_sems rfl _⟩)
    (Cert.Reference11Ideal.Value.run m g)

end Cert.RefFrames

end
-- ==== Proof.WindowMath.lean ====
/- The arithmetic of one row of the window attention over the extended reals: a window of 129 keys folded
   into 128 lanes and one extra score, against the same keys laid out in two blocks of 128 under a mask. -/
module

public import Idealize.ShloMosaic.Lib.Pointwise

@[expose] public section

noncomputable section

namespace Cert.WindowMath

open Idealize.ShloMosaic

/-- The lane scores of row `r`: key `j` of the current block if it is not after the row, else key `j` of the
    block before, if there is one. -/
def lane (b : Prop) [Decidable b] (r : Fin 128) (c p : Fin 128 → EReal) (j : Fin 128) : EReal :=
  if (j : ℕ) ≤ r then c j else if b then p j else ⊥

/-- The extra score of row `r`: the key 128 places before it. -/
def extra (b : Prop) [Decidable b] (r : Fin 128) (p : Fin 128 → EReal) : EReal :=
  if b then p r else ⊥

/-- The masked score of key `k` of the two blocks laid end to end. -/
def wide (b : Prop) [Decidable b] (r : Fin 128) (c p : Fin 128 → EReal) (k : Fin 256) : EReal :=
  if h : (k : ℕ) < 128 then (if (r : ℕ) ≤ k ∧ b then p ⟨k, h⟩ else ⊥)
  else (if (k : ℕ) - 128 ≤ r then c ⟨k - 128, by omega⟩ else ⊥)

/-- The largest score of a row in its folded form. -/
def rowMax (b : Prop) [Decidable b] (r : Fin 128) (c p : Fin 128 → EReal) : EReal :=
  max (Finset.univ.fold max ⊥ (lane b r c p)) (extra b r p)

/-- The normaliser of a row in its folded form. -/
def rowSum (b : Prop) [Decidable b] (r : Fin 128) (c p : Fin 128 → EReal) : EReal :=
  (∑ j : Fin 128, Ideal.exp (lane b r c p j - rowMax b r c p)) + Ideal.exp (extra b r p - rowMax b r c p)

/-- The weighted sum of a row in its folded form. -/
def rowAcc (b : Prop) [Decidable b] (r : Fin 128) (c p vc vp : Fin 128 → EReal) : EReal :=
  (∑ j : Fin 128, (if (j : ℕ) ≤ r then Ideal.exp (lane b r c p j - rowMax b r c p) else 0) * vc j)
    + (∑ j : Fin 128, (if (j : ℕ) ≤ r then 0 else Ideal.exp (lane b r c p j - rowMax b r c p)) * vp j)
    + Ideal.exp (extra b r p - rowMax b r c p) * vp r

section
variable (b : Prop) [Decidable b] (r : Fin 128) (c p : Fin 128 → EReal)

theorem wide_lo (j : Fin 128) (h : (j : ℕ) < 256) : wide b r c p ⟨j, h⟩ = if (r : ℕ) ≤ j ∧ b then p j else ⊥ := by
  simp [wide]

theorem wide_hi (j : Fin 128) (h : 128 + (j : ℕ) < 256) : wide b r c p ⟨128 + j, h⟩ = if (j : ℕ) ≤ r then c j else ⊥ := by
  simp [wide]

/-- The two layouts have the same largest score. -/
theorem fold_wide : Finset.univ.fold max ⊥ (wide b r c p) = rowMax b r c p := by
  apply le_antisymm
  · rw [Finset.fold_max_le]
    refine ⟨bot_le, fun k _ => ?_⟩
    unfold rowMax
    by_cases hk : (k : ℕ) < 128
    · have e : wide b r c p k = if (r : ℕ) ≤ k ∧ b then p ⟨k, hk⟩ else ⊥ := by simp [wide, hk]
      rw [e]
      split
      · rename_i h
        by_cases he : (k : ℕ) = r
        · have : (⟨k, hk⟩ : Fin 128) = r := Fin.ext he
          rw [this]
          exact le_max_of_le_right (by simp [extra, h.2])
        · refine le_max_of_le_left ((Finset.le_fold_max _).2 (Or.inr ⟨⟨k, hk⟩, Finset.mem_univ _, ?_⟩))
          have : ¬ (k : ℕ) ≤ r := by omega
          simp [lane, this, h.2]
      · exact bot_le
    · have e : wide b r c p k = if (k : ℕ) - 128 ≤ r then c ⟨k - 128, by omega⟩ else ⊥ := by simp [wide, hk]
      rw [e]
      split
      · rename_i h
        refine le_max_of_le_left ((Finset.le_fold_max _).2 (Or.inr ⟨⟨k - 128, by omega⟩, Finset.mem_univ _, ?_⟩))
        simp [lane, h]
      · exact bot_le
  · unfold rowMax
    refine max_le ?_ ?_
    · rw [Finset.fold_max_le]
      refine ⟨bot_le, fun j _ => ?_⟩
      unfold lane
      split
      · rename_i h
        refine (Finset.le_fold_max _).2 (Or.inr ⟨⟨128 + j, by omega⟩, Finset.mem_univ _, ?_⟩)
        rw [wide_hi]; simp [h]
      · split
        · rename_i h h2
          refine (Finset.le_fold_max _).2 (Or.inr ⟨⟨j, by omega⟩, Finset.mem_univ _, ?_⟩)
          rw [wide_lo]; simp [h2, show (r : ℕ) ≤ j by omega]
        · exact bot_le
    · unfold extra
      split
      · rename_i h
        refine (Finset.le_fold_max _).2 (Or.inr ⟨⟨r, by omega⟩, Finset.mem_univ _, ?_⟩)
        rw [wide_lo]; simp [h]
      · exact bot_le

theorem exp_bot_sub (m : EReal) : Ideal.exp (⊥ - m) = 0 := by
  rw [sub_eq_add_neg, EReal.bot_add, Ideal.exp_bot]

/-- A sum over the masked keys, each weighted, is the folded sum: lanes of the current block, lanes of the
    block before, and the extra key. -/
theorem sum_wide (m : EReal) (vc vp : Fin 128 → EReal) (w : Fin 256 → EReal)
    (hlo : ∀ (j : Fin 128) (h : (j : ℕ) < 256), b → w ⟨j, h⟩ = vp j)
    (hhi : ∀ (j : Fin 128) (h : 128 + (j : ℕ) < 256), w ⟨128 + j, h⟩ = vc j) :
    ∑ k : Fin 256, Ideal.exp (wide b r c p k - m) * w k
      = (∑ j : Fin 128, (if (j : ℕ) ≤ r then Ideal.exp (lane b r c p j - m) else 0) * vc j)
        + (∑ j : Fin 128, (if (j : ℕ) ≤ r then 0 else Ideal.exp (lane b r c p j - m)) * vp j)
        + Ideal.exp (extra b r p - m) * vp r := by
  have e1 : ∑ k : Fin 256, Ideal.exp (wide b r c p k - m) * w k
      = (∑ j : Fin 128, Ideal.exp (wide b r c p ⟨j, by omega⟩ - m) * w ⟨j, by omega⟩)
        + ∑ j : Fin 128, Ideal.exp (wide b r c p ⟨128 + j, by omega⟩ - m) * w ⟨128 + j, by omega⟩ :=
    Fin.sum_univ_add (M := EReal) (a := 128) (b := 128) (fun k => Ideal.exp (wide b r c p k - m) * w k)
  have e2 : ∀ j : Fin 128, Ideal.exp (wide b r c p ⟨j, by omega⟩ - m) * w ⟨j, by omega⟩
      = (if (j : ℕ) ≤ r then 0 else Ideal.exp (lane b r c p j - m)) * vp j
        + (if j = r then Ideal.exp (extra b r p - m) * vp r else 0) := by
    intro j
    rw [wide_lo]
    by_cases hb : b
    · rw [hlo j _ hb]
      by_cases hj : j = r
      · subst hj; simp [hb, extra]
      · have hj' : (j : ℕ) ≠ r := fun h => hj (Fin.ext h)
        by_cases hr : (r : ℕ) ≤ j
        · have : ¬ (j : ℕ) ≤ r := by omega
          simp [hb, hj, hr, this, lane]
        · have : (j : ℕ) ≤ r := by omega
          simp [hj, hr, this, exp_bot_sub]
    · by_cases hj : (j : ℕ) ≤ r <;> simp [hb, hj, exp_bot_sub, extra, lane]
  have e3 : ∀ j : Fin 128, Ideal.exp (wide b r c p ⟨128 + j, by omega⟩ - m) * w ⟨128 + j, by omega⟩
      = (if (j : ℕ) ≤ r then Ideal.exp (lane b r c p j - m) else 0) * vc j := by
    intro j
    rw [wide_hi, hhi]
    by_cases hj : (j : ℕ) ≤ r <;> simp [hj, exp_bot_sub, lane]
  rw [e1, Finset.sum_congr rfl fun j _ => e2 j, Finset.sum_congr rfl fun j _ => e3 j, Finset.sum_add_distrib,
    Finset.sum_ite_eq' Finset.univ r]
  simp only [Finset.mem_univ, if_true]
  ac_rfl

/-- The normaliser: the same without weights. -/
theorem norm_wide (m : EReal) :
    ∑ k : Fin 256, Ideal.exp (wide b r c p k - m)
      = (∑ j : Fin 128, Ideal.exp (lane b r c p j - m)) + Ideal.exp (extra b r p - m) := by
  have h := sum_wide b r c p m (fun _ => 1) (fun _ => 1) (fun _ => 1) (fun _ _ _ => rfl) (fun _ _ => rfl)
  simp only [mul_one] at h
  rw [h, ← Finset.sum_add_distrib]
  congr 1
  refine Finset.sum_congr rfl fun j _ => ?_
  split <;> simp

/-- Under the largest score the masked sums are the folded row's. -/
theorem norm_row : ∑ k : Fin 256, Ideal.exp (wide b r c p k - Finset.univ.fold max ⊥ (wide b r c p)) = rowSum b r c p := by
  rw [fold_wide, norm_wide]
  rfl

theorem acc_row (vc vp : Fin 128 → EReal) (w : Fin 256 → EReal)
    (hlo : ∀ (j : Fin 128) (h : (j : ℕ) < 256), b → w ⟨j, h⟩ = vp j)
    (hhi : ∀ (j : Fin 128) (h : 128 + (j : ℕ) < 256), w ⟨128 + j, h⟩ = vc j) :
    ∑ k : Fin 256, w k * Ideal.exp (wide b r c p k - Finset.univ.fold max ⊥ (wide b r c p)) = rowAcc b r c p vc vp := by
  rw [fold_wide, Finset.sum_congr rfl fun k _ => mul_comm (w k) _, sum_wide b r c p _ vc vp w hlo hhi]
  rfl

end

end Cert.WindowMath

end
-- ==== Proof.WindowUnit.lean ====
/- One head's tile of the window attention kernel, read at an entry: the folded row of `Proof.WindowMath`. -/
module

public import Idealize.ShloMosaic.Lib.Pipeline.ValueKit
public import proofs.«01_k».proof.Proof.Gen.KernelIdeal.Frame
public import proofs.«01_k».proof.Proof.WindowMath

@[expose] public section

set_option maxRecDepth 16384

noncomputable section

namespace Cert.WindowUnit

open Cert.KernelIdeal Cert.KernelIdeal.Gen Idealize.ShloMosaic Idealize.ShloMosaic.TcCoe
open Cert.WindowMath

/-- The scores of a row against a block of keys. -/
def score (Q K : FVec Ideal S128x128 .f32) (r j : Fin 128) : EReal := ∑ d : Fin 128, Q (ix2 r d) * K (ix2 j d)

/-- Head 0's stored tile of outputs, as a function of the tiles it loads. -/
def tileO (i : grid0.Coords) (Q Kp Kc Vp Vc : FVec Ideal S128x128 .f32) : FVec Ideal S128x128 .f32 :=
  k0_pay44 k0_pay1 (k0_pay18 (k0_pay2 i Q Kp) (k0_pay3 i Q Kp Kc)) (k0_pay19 (k0_pay2 i Q Kp) (k0_pay3 i Q Kp Kc))
    (k0_pay21 (k0_pay19 (k0_pay2 i Q Kp) (k0_pay3 i Q Kp Kc)) (k0_pay20 (k0_pay2 i Q Kp) (k0_pay3 i Q Kp Kc))) Vp Vc

/-- Head 0's stored tile of log-normalisers. -/
def tileL (i : grid0.Coords) (Q Kp Kc : FVec Ideal S128x128 .f32) : FVec Ideal S128x128 .f32 :=
  k0_pay43 (k0_pay17 (k0_pay2 i Q Kp) (k0_pay3 i Q Kp Kc))
    (k0_pay21 (k0_pay19 (k0_pay2 i Q Kp) (k0_pay3 i Q Kp Kc)) (k0_pay20 (k0_pay2 i Q Kp) (k0_pay3 i Q Kp Kc)))

theorem neg_inf : Ideal.ofBits .f32 0xFF800000#32 = ⊥ := by
  simp [Ideal.ofBits, Ideal.ieee]

theorem sgt_word (n : ℕ) (h : n < 64) (a c : EReal) :
    Scalar.select (Scalar.cmpi .sgt (BitVec.ofNat 32 n) 0#32) a c = if 0 < n then a else c := by
  word_cmp

theorem sle_word (j r : Fin 128) (a c : EReal) :
    Scalar.select (IntOp.cmpi .sle (BitVec.ofNat 32 (j : ℕ)) (BitVec.ofNat 32 (r : ℕ))) a c = if (j : ℕ) ≤ r then a else c := by
  word_cmp

section
variable (i : grid0.Coords) (Q Kp Kc Vp Vc : FVec Ideal S128x128 .f32)

theorem extra_at (r : Fin 128) (z : Fin 1) :
    k0_pay2 (F := Ideal) i Q Kp (ix2 r z) = extra (0 < (i 0).val) r (score Q Kp r) := by
  pointwise [k0_pay2]
  rw [sgt_word _ (i 0).isLt, neg_inf]
  rfl

theorem lane_at (r j : Fin 128) :
    k0_pay3 (F := Ideal) i Q Kp Kc (ix2 r j) = lane (0 < (i 0).val) r (score Q Kc r) (score Q Kp r) j := by
  pointwise [k0_pay3, k0_pay1]
  rw [sgt_word _ (i 0).isLt, neg_inf, sle_word]
  rfl

theorem max_at (r : Fin 128) (z : Fin 1) :
    k0_pay17 (F := Ideal) (k0_pay2 i Q Kp) (k0_pay3 i Q Kp Kc) (ix2 r z)
      = rowMax (0 < (i 0).val) r (score Q Kc r) (score Q Kp r) := by
  pointwise [k0_pay17, extra_at, lane_at]
  rw [neg_inf]
  rfl

theorem exp_at (r j : Fin 128) :
    k0_pay18 (F := Ideal) (k0_pay2 i Q Kp) (k0_pay3 i Q Kp Kc) (ix2 r j)
      = Ideal.exp (lane (0 < (i 0).val) r (score Q Kc r) (score Q Kp r) j
          - rowMax (0 < (i 0).val) r (score Q Kc r) (score Q Kp r)) := by
  pointwise [k0_pay18, max_at, lane_at]

theorem expExtra_at (r : Fin 128) (z : Fin 1) :
    k0_pay19 (F := Ideal) (k0_pay2 i Q Kp) (k0_pay3 i Q Kp Kc) (ix2 r z)
      = Ideal.exp (extra (0 < (i 0).val) r (score Q Kp r)
          - rowMax (0 < (i 0).val) r (score Q Kc r) (score Q Kp r)) := by
  pointwise [k0_pay19, max_at, extra_at]

theorem sum_at (r : Fin 128) (z : Fin 1) :
    k0_pay21 (F := Ideal) (k0_pay19 (k0_pay2 i Q Kp) (k0_pay3 i Q Kp Kc)) (k0_pay20 (k0_pay2 i Q Kp) (k0_pay3 i Q Kp Kc))
        (ix2 r z)
      = rowSum (0 < (i 0).val) r (score Q Kc r) (score Q Kp r) := by
  pointwise [k0_pay21, k0_pay20, expExtra_at, exp_at]
  rfl

/-- The tile of outputs at an entry. -/
theorem tileO_at (r e : Fin 128) :
    tileO i Q Kp Kc Vp Vc (ix2 r e)
      = Ideal.div (rowAcc (0 < (i 0).val) r (score Q Kc r) (score Q Kp r) (fun j => Vc (ix2 j e)) (fun j => Vp (ix2 j e)))
          (rowSum (0 < (i 0).val) r (score Q Kc r) (score Q Kp r)) := by
  pointwise [tileO, k0_pay44, k0_pay1, sum_at, expExtra_at, exp_at, sle_word]
  rfl

/-- The tile of log-normalisers at an entry. -/
theorem tileL_at (r e : Fin 128) :
    tileL i Q Kp Kc (ix2 r e)
      = rowMax (0 < (i 0).val) r (score Q Kc r) (score Q Kp r)
          + Ideal.log (rowSum (0 < (i 0).val) r (score Q Kc r) (score Q Kp r)) := by
  pointwise [tileL, k0_pay43, sum_at, max_at]

end

end Cert.WindowUnit

end
-- ==== Proof.WindowRef.lean ====
/- The reference's window attention, stage by stage, read at an entry. -/
module

public import Idealize.ShloMosaic.Lib.Pipeline.ValueKit
public import Idealize.ShloMosaic.Lib.WordCmp
public import proofs.«01_k».proof.Proof.Gen.ReferenceIdeal.Run
public import proofs.«01_k».proof.Proof.WindowMath

@[expose] public section

set_option maxRecDepth 16384

noncomputable section

namespace Cert.WindowRef

open Cert.ReferenceIdeal Cert.ReferenceIdeal.Gen Idealize.ShloMosaic Idealize.ShloMosaic.TcCoe
open Cert.WindowMath

theorem neg_inf : Ideal.ofBits .f32 0xFF800000#32 = ⊥ := by
  simp [Ideal.ofBits, Ideal.ieee]

/-- Entry `d` of head `h` in row `r` of block `n` of the columns that begin at `o`. -/
def ent (x : FVec Ideal ⟨2, ![8192, 12288]⟩ .f32) (o : ℕ) (ho : o ≤ 11520) (n : Fin 64) (h : Fin 6) (r d : Fin 128) : EReal :=
  x (ix2 ⟨n * 128 + r, by omega⟩ ⟨o + (h * 128 + d), by omega⟩)

/-- The block before. -/
def pre (n : Fin 64) : Fin 64 := ⟨n - 1, by omega⟩

section
variable (x : FVec Ideal S8192x12288 .f32)

/-- The queries, keys and values by block, row and head. -/
def qB : FVec Ideal S64x128x6x128 .f32 :=
  shapeCast _ (shapeCast _ (extractStridedSlice S8192x768 ![0, 4608] x slices_S8192x12288_S8192x768_0_4608) shapeCasts_S8192x768_S8192x6x128) shapeCasts_S8192x6x128_S64x128x6x128
def kB : FVec Ideal S64x128x6x128 .f32 :=
  shapeCast _ (shapeCast _ (extractStridedSlice S8192x768 ![0, 6912] x slices_S8192x12288_S8192x768_0_6912) shapeCasts_S8192x768_S8192x6x128) shapeCasts_S8192x6x128_S64x128x6x128
def vB : FVec Ideal S64x128x6x128 .f32 :=
  shapeCast _ (shapeCast _ (extractStridedSlice S8192x768 ![0, 9216] x slices_S8192x12288_S8192x768_0_9216) shapeCasts_S8192x768_S8192x6x128) shapeCasts_S8192x6x128_S64x128x6x128

/-- Each block with the one before it. -/
def two (y : FVec Ideal S64x128x6x128 .f32) : FVec Ideal S64x256x6x128 .f32 :=
  concatenate S64x256x6x128 1 [⟨S64x128x6x128, (extractStridedSlice S64x128x6x128 ![0, 0, 0, 0] (pad S65x128x6x128 ![1, 0, 0, 0] ![0, 0, 0, 0] ![0, 0, 0, 0] y (sitofp .f32 (constantI S_ 32 0#32)) pads_S64x128x6x128_S65x128x6x128_100_000_000_000 h_S_) slices_S65x128x6x128_S64x128x6x128_0_0_0_0)⟩, ⟨S64x128x6x128, y⟩] concatenates_S64x128x6x128_S64x128x6x128_S64x256x6x128_d1

/-- The positions of the keys, and the window's mask. -/
def kpos : IVec S64x1x256 32 :=
  addi (broadcastInDim S64x1x256 ![0, 1, 2] bcast_S64x1x1_S64x1x256_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x256 ![0, 1, 2] bcast_S1x1x256_S64x1x256_0_1_2 (broadcastInDim S1x1x256 ![2] bcast_S256_S1x1x256_2 (iotaInDim S256 32 0)))
def dist : IVec S64x128x256 32 :=
  subi (broadcastInDim S64x128x256 ![0, 1, 2] bcast_S64x128x1_S64x128x256_0_1_2 (addi (broadcastInDim S64x128x1 ![0, 1, 2] bcast_S64x1x1_S64x128x1_0_1_2 (muli (broadcastInDim S64x1x1 ![0] bcast_S64_S64x1x1_0 (iotaInDim S64 32 0)) (broadcastInDim S64x1x1 ![] bcast_S_S64x1x1 (constantI S_ 32 128#32)))) (broadcastInDim S64x128x1 ![0, 1, 2] bcast_S1x128x1_S64x128x1_0_1_2 (broadcastInDim S1x128x1 ![1] bcast_S128_S1x128x1_1 (iotaInDim S128 32 0))))) (broadcastInDim S64x128x256 ![0, 1, 2] bcast_S64x1x256_S64x128x256_0_1_2 kpos)
def mask : IVec S64x128x256 1 :=
  andi (andi (cmpi .sge dist (broadcastInDim S64x128x256 ![] bcast_S_S64x128x256 (constantI S_ 32 0#32))) (cmpi .sle dist (broadcastInDim S64x128x256 ![] bcast_S_S64x128x256 (constantI S_ 32 128#32)))) (broadcastInDim S64x128x256 ![0, 1, 2] bcast_S64x1x256_S64x128x256_0_1_2 (cmpi .sge kpos (broadcastInDim S64x1x256 ![] bcast_S_S64x1x256 (constantI S_ 32 0#32))))

/-- The masked scores, their row maxima, the weights and the normalisers. -/
def sc (q k : FVec Ideal S64x128x6x128 .f32) : FVec Ideal S64x6x128x256 .f32 :=
  select (broadcastInDim S64x6x128x256 ![0, 1, 2, 3] bcast_S64x1x128x256_S64x6x128x256_0_1_2_3 (broadcastInDim S64x1x128x256 ![0, 2, 3] bcast_S64x128x256_S64x1x128x256_0_2_3 mask)) (Host.dotGeneral dot_S64x128x6x128_S64x256x6x128_S64x6x128x256_3_3_1_1_02_02 none q (two k)) (broadcastInDim S64x6x128x256 ![] bcast_S_S64x6x128x256 (id (constant S_ .f32 0xFF800000#32)))
def mx (s : FVec Ideal S64x6x128x256 .f32) : FVec Ideal S64x6x128x1 .f32 :=
  broadcastInDim S64x6x128x1 ![0, 1, 2] bcast_S64x6x128_S64x6x128x1_0_1_2 (Host.reduce FloatOps.maximumf s (constant S_ .f32 0xFF800000#32) reducesTo_S64x6x128x256_S64x6x128_d3 h_S_)
def pr (s : FVec Ideal S64x6x128x256 .f32) : FVec Ideal S64x6x128x256 .f32 :=
  Host.exp (subf s (broadcastInDim S64x6x128x256 ![0, 1, 2, 3] bcast_S64x6x128x1_S64x6x128x256_0_1_2_3 (mx s)))
def nrm (s : FVec Ideal S64x6x128x256 .f32) : FVec Ideal S64x6x128 .f32 :=
  Host.reduceAdd (pr s) (constant S_ .f32 0x00000000#32) reducesTo_S64x6x128x256_S64x6x128_d3 h_S_
def outO (s : FVec Ideal S64x6x128x256 .f32) (v : FVec Ideal S64x128x6x128 .f32) : FVec Ideal S8192x768 .f32 :=
  shapeCast _ (Host.divf (transpose S64x128x6x128 [0, 3, 1, 2] (Host.dotGeneral dot_S64x256x6x128_S64x6x128x256_S64x6x128x128_1_3_3_2_02_01 none (two v) (pr s)) transposes_S64x6x128x128_S64x128x6x128_0_3_1_2) (broadcastInDim S64x128x6x128 ![0, 1, 2, 3] bcast_S64x128x6x1_S64x128x6x128_0_1_2_3 (broadcastInDim S64x128x6x1 ![0, 1, 2] bcast_S64x128x6_S64x128x6x1_0_1_2 (transpose S64x128x6 [0, 2, 1] (nrm s) transposes_S64x6x128_S64x128x6_0_2_1)))) shapeCasts_S64x128x6x128_S8192x768
def outL (s : FVec Ideal S64x6x128x256 .f32) : FVec Ideal S8192x768 .f32 :=
  shapeCast _ (broadcastInDim S64x128x6x128 ![0, 1, 2, 3] bcast_S64x128x6x1_S64x128x6x128_0_1_2_3 (broadcastInDim S64x128x6x1 ![0, 1, 2] bcast_S64x128x6_S64x128x6x1_0_1_2 (transpose S64x128x6 [0, 2, 1] (addf (shapeCast _ (mx s) shapeCasts_S64x6x128x1_S64x6x128) (Host.log (nrm s))) transposes_S64x6x128_S64x128x6_0_2_1))) shapeCasts_S64x128x6x128_S8192x768

/-- The two results as functions of the argument. -/
def REF0 : FVec Ideal S8192x768 .f32 := outO (sc (qB x) (kB x)) (vB x)
def REF1 : FVec Ideal S8192x768 .f32 := outL (sc (qB x) (kB x))

theorem res0 (m : (ℓ : Loc nD τ sig) → Buf (Elt Ideal) ℓ) (c : Dev nD) :
    Value.res_out0 m c = REF0 (m ((c.tc : Thread nD τ).loc main_arg0)) := by
  unfold Value.res_out0 Value.res_main_v68; rfl
theorem res1 (m : (ℓ : Loc nD τ sig) → Buf (Elt Ideal) ℓ) (c : Dev nD) :
    Value.res_out1 m c = REF1 (m ((c.tc : Thread nD τ).loc main_arg0)) := by
  unfold Value.res_out1 Value.res_main_v69; rfl

theorem q_at (n : Fin 64) (r : Fin 128) (h : Fin 6) (d : Fin 128) : qB x (ix4 n r h d) = ent x 4608 (by omega) n h r d := by
  pointwise [qB, ent]
theorem k_at (n : Fin 64) (r : Fin 128) (h : Fin 6) (d : Fin 128) : kB x (ix4 n r h d) = ent x 6912 (by omega) n h r d := by
  pointwise [kB, ent]
theorem v_at (n : Fin 64) (r : Fin 128) (h : Fin 6) (d : Fin 128) : vB x (ix4 n r h d) = ent x 9216 (by omega) n h r d := by
  pointwise [vB, ent]

theorem two_hi (y : FVec Ideal S64x128x6x128 .f32) (n : Fin 64) (j : Fin 128) (h : Fin 6) (d : Fin 128) (hj : 128 + (j : ℕ) < 256) :
    two y (ix4 n ⟨128 + j, hj⟩ h d) = y (ix4 n j h d) := by
  pointwise [two]

theorem two_lo (y : FVec Ideal S64x128x6x128 .f32) (n : Fin 64) (j : Fin 128) (h : Fin 6) (d : Fin 128) (hj : (j : ℕ) < 256) (hn : 0 < (n : ℕ)) :
    two y (ix4 n ⟨j, hj⟩ h d) = y (ix4 (pre n) j h d) := by
  pointwise [two]
  rw [dif_pos ⟨hn, by omega⟩]
  rfl

/-- The word of a key's position, and of its distance from a row, as integers. -/
def kw (n k : ℕ) : BitVec 32 := IntOp.addi (IntOp.subi (IntOp.muli (BitVec.ofNat 32 n) 128#32) 128#32) (BitVec.ofNat 32 k)
def dw (n r k : ℕ) : BitVec 32 := IntOp.subi (IntOp.addi (IntOp.muli (BitVec.ofNat 32 n) 128#32) (BitVec.ofNat 32 r)) (kw n k)

theorem kw_toInt (n k : ℕ) (hn : n < 64) (hk : k < 256) : (kw n k).toInt = (n : ℤ) * 128 - 128 + k := by
  unfold kw IntOp.addi IntOp.subi IntOp.muli
  simp only [BitVec.toInt_eq_toNat_cond, BitVec.toNat_sub, BitVec.toNat_add, BitVec.toNat_mul, BitVec.toNat_ofNat]
  omega

theorem dw_toInt (n r k : ℕ) (hn : n < 64) (hr : r < 128) (hk : k < 256) : (dw n r k).toInt = 128 + (r : ℤ) - k := by
  unfold dw kw IntOp.addi IntOp.subi IntOp.muli
  simp only [BitVec.toInt_eq_toNat_cond, BitVec.toNat_sub, BitVec.toNat_add, BitVec.toNat_mul, BitVec.toNat_ofNat]
  omega

theorem mask_word (n r k : ℕ) (hn : n < 64) (hr : r < 128) (hk : k < 256) :
    IntOp.andi (IntOp.andi (IntOp.cmpi .sge (dw n r k) 0#32) (IntOp.cmpi .sle (dw n r k) 128#32)) (IntOp.cmpi .sge (kw n k) 0#32)
      = BitVec.ofBool (decide (k ≤ 128 + r ∧ r ≤ k ∧ 128 ≤ n * 128 + k)) := by
  rw [WordCmp.cmpi_sge_eq, WordCmp.cmpi_sle_eq, WordCmp.cmpi_sge_eq, dw_toInt n r k hn hr hk, kw_toInt n k hn hk,
    WordCmp.andi_ofBool, WordCmp.andi_ofBool, ← Bool.decide_and, ← Bool.decide_and]
  congr 1
  apply decide_eq_decide.2
  simp only [show (0#32 : BitVec 32).toInt = 0 from rfl, show (128#32 : BitVec 32).toInt = 128 from rfl]
  omega

theorem mask_at (n : Fin 64) (r : Fin 128) (k : Fin 256) (a b : EReal) :
    Scalar.select (mask (ix3 n r k)) a b = if (k : ℕ) < 128 then (if (r : ℕ) ≤ k ∧ 0 < (n : ℕ) then a else b)
      else (if (k : ℕ) - 128 ≤ r then a else b) := by
  pointwise [mask, dist, kpos]
  have e := mask_word n r k n.isLt r.isLt k.isLt
  unfold dw kw at e
  refine (congrArg (Scalar.select · a b) e).trans ?_
  have e2 : ∀ p : Prop, [Decidable p] → Scalar.select (BitVec.ofBool (decide p)) a b = if p then a else b := by
    intro p _
    by_cases h : p
    · rw [if_pos h]; exact WordCmp.select_of_eq_one (by simp [h]) a b
    · rw [if_neg h]; exact WordCmp.select_of_eq_zero (by simp [h]) a b
  show Scalar.select (BitVec.ofBool (decide _)) a b = _
  rw [e2]
  by_cases h1 : (k : ℕ) < 128
  · rw [if_pos h1]
    exact if_congr (by omega) rfl rfl
  · rw [if_neg h1]
    exact if_congr (by omega) rfl rfl

/-- The two readings of the score of a key. -/
def cS (x : FVec Ideal S8192x12288 .f32) (n : Fin 64) (h : Fin 6) (r j : Fin 128) : EReal :=
  ∑ d : Fin 128, ent x 4608 (by omega) n h r d * ent x 6912 (by omega) n h j d
def pS (x : FVec Ideal S8192x12288 .f32) (n : Fin 64) (h : Fin 6) (r j : Fin 128) : EReal :=
  ∑ d : Fin 128, ent x 4608 (by omega) n h r d * ent x 6912 (by omega) (pre n) h j d

theorem sc_at (n : Fin 64) (h : Fin 6) (r : Fin 128) (k : Fin 256) :
    sc (qB x) (kB x) (ix4 n h r k) = wide (0 < (n : ℕ)) r (cS x n h r) (pS x n h r) k := by
  pointwise [sc]
  rw [mask_at, show id (constant (F := Ideal) S_ .f32 0xFF800000#32) ix0 = ⊥ from neg_inf]
  unfold wide
  by_cases h1 : (k : ℕ) < 128
  · rw [if_pos h1, dif_pos h1]
    by_cases h2 : (r : ℕ) ≤ k ∧ 0 < (n : ℕ)
    · rw [if_pos h2, if_pos h2]
      refine Finset.sum_congr rfl fun d _ => ?_
      rw [q_at]
      exact congrArg _ ((two_lo _ n ⟨k, h1⟩ h d k.isLt h2.2).trans (k_at x _ _ _ _))
    · rw [if_neg h2, if_neg h2]
  · rw [if_neg h1, dif_neg h1]
    by_cases h2 : (k : ℕ) - 128 ≤ r
    · rw [if_pos h2, if_pos h2]
      refine Finset.sum_congr rfl fun d _ => ?_
      rw [q_at]
      have hk : k = ⟨128 + (k - 128), by omega⟩ := Fin.ext (by simp; omega)
      exact congrArg _ (((congrArg (fun k' => two (kB x) (ix4 n k' h d)) hk).trans (two_hi _ n ⟨k - 128, by omega⟩ h d _)).trans
        (k_at x n ⟨k - 128, by omega⟩ h d))
    · rw [if_neg h2, if_neg h2]

theorem mx_at (s : FVec Ideal S64x6x128x256 .f32) (n : Fin 64) (h : Fin 6) (r : Fin 128) (z : Fin 1) :
    mx s (ix4 n h r z) = Finset.univ.fold max ⊥ fun k => s (ix4 n h r k) := by
  pointwise [mx]
  rw [neg_inf]

theorem pr_at (s : FVec Ideal S64x6x128x256 .f32) (n : Fin 64) (h : Fin 6) (r : Fin 128) (k : Fin 256) :
    pr s (ix4 n h r k) = Ideal.exp (s (ix4 n h r k) - Finset.univ.fold max ⊥ fun k => s (ix4 n h r k)) := by
  pointwise [pr, mx_at]

theorem nrm_at (s : FVec Ideal S64x6x128x256 .f32) (n : Fin 64) (h : Fin 6) (r : Fin 128) :
    nrm s (ix3 n h r) = ∑ k : Fin 256, Ideal.exp (s (ix4 n h r k) - Finset.univ.fold max ⊥ fun k => s (ix4 n h r k)) := by
  pointwise [nrm, pr_at]

theorem outO_at (s : FVec Ideal S64x6x128x256 .f32) (v : FVec Ideal S64x128x6x128 .f32) (n : Fin 64) (r : Fin 128) (h : Fin 6) (e : Fin 128) :
    outO s v (ix2 ⟨n * 128 + r, by omega⟩ ⟨h * 128 + e, by omega⟩)
     = Ideal.div (∑ k : Fin 256, two v (ix4 n k h e) * pr s (ix4 n h r k)) (nrm s (ix3 n h r)) := by
  pointwise [outO]

/-- The row maxima without their trailing unit axis. -/
def flat (y : FVec Ideal S64x6x128x1 .f32) : FVec Ideal S64x6x128 .f32 := shapeCast _ y shapeCasts_S64x6x128x1_S64x6x128

theorem flat_at (y : FVec Ideal S64x6x128x1 .f32) (n : Fin 64) (h : Fin 6) (r : Fin 128) : flat y (ix3 n h r) = y (ix4 n h r 0) := by
  pointwise [flat]

/-- Maximum plus logarithm of the normaliser. -/
def logs (y : FVec Ideal S64x6x128x1 .f32) (z : FVec Ideal S64x6x128 .f32) : FVec Ideal S64x6x128 .f32 := addf (flat y) (Host.log z)

theorem logs_at (y : FVec Ideal S64x6x128x1 .f32) (z : FVec Ideal S64x6x128 .f32) (n : Fin 64) (h : Fin 6) (r : Fin 128) :
    logs y z (ix3 n h r) = y (ix4 n h r 0) + Ideal.log (z (ix3 n h r)) := by
  pointwise [logs, flat_at]

def wideL (y : FVec Ideal S64x6x128 .f32) : FVec Ideal S8192x768 .f32 :=
  shapeCast _ (broadcastInDim S64x128x6x128 ![0, 1, 2, 3] bcast_S64x128x6x1_S64x128x6x128_0_1_2_3 (broadcastInDim S64x128x6x1 ![0, 1, 2] bcast_S64x128x6_S64x128x6x1_0_1_2 (transpose S64x128x6 [0, 2, 1] y transposes_S64x6x128_S64x128x6_0_2_1))) shapeCasts_S64x128x6x128_S8192x768

theorem wideL_at (y : FVec Ideal S64x6x128 .f32) (n : Fin 64) (r : Fin 128) (h : Fin 6) (e : Fin 128) :
    wideL y (ix2 ⟨n * 128 + r, by omega⟩ ⟨h * 128 + e, by omega⟩) = y (ix3 n h r) := by
  pointwise [wideL]

theorem mx_sc (n : Fin 64) (h : Fin 6) (r : Fin 128) (z : Fin 1) :
    mx (sc (qB x) (kB x)) (ix4 n h r z) = rowMax (0 < (n : ℕ)) r (cS x n h r) (pS x n h r) := by
  rw [mx_at]
  simp only [sc_at]
  exact fold_wide _ _ _ _

theorem nrm_sc (n : Fin 64) (h : Fin 6) (r : Fin 128) :
    nrm (sc (qB x) (kB x)) (ix3 n h r) = rowSum (0 < (n : ℕ)) r (cS x n h r) (pS x n h r) := by
  rw [nrm_at]
  simp only [sc_at]
  exact norm_row _ _ _ _

/-- The reference's output at an entry. -/
theorem ref0_at (n : Fin 64) (r : Fin 128) (h : Fin 6) (e : Fin 128) :
    REF0 x (ix2 ⟨n * 128 + r, by omega⟩ ⟨h * 128 + e, by omega⟩)
      = Ideal.div (rowAcc (0 < (n : ℕ)) r (cS x n h r) (pS x n h r) (fun j => ent x 9216 (by omega) n h j e)
            (fun j => ent x 9216 (by omega) (pre n) h j e))
          (rowSum (0 < (n : ℕ)) r (cS x n h r) (pS x n h r)) := by
  unfold REF0
  rw [outO_at, nrm_sc]
  refine congrArg (Ideal.div · _) ?_
  rw [← acc_row (0 < (n : ℕ)) r (cS x n h r) (pS x n h r) _ _ (fun k => two (vB x) (ix4 n k h e))
    (fun j hj hb => (two_lo _ n j h e hj hb).trans (v_at x _ _ _ _)) (fun j hj => (two_hi _ n j h e hj).trans (v_at x _ _ _ _))]
  refine Finset.sum_congr rfl fun k _ => ?_
  rw [pr_at]
  simp only [sc_at]

/-- The reference's log-normaliser at an entry. -/
theorem ref1_at (n : Fin 64) (r : Fin 128) (h : Fin 6) (e : Fin 128) :
    REF1 x (ix2 ⟨n * 128 + r, by omega⟩ ⟨h * 128 + e, by omega⟩)
      = rowMax (0 < (n : ℕ)) r (cS x n h r) (pS x n h r)
          + Ideal.log (rowSum (0 < (n : ℕ)) r (cS x n h r) (pS x n h r)) := by
  refine (wideL_at (logs (mx (sc (qB x) (kB x))) (nrm (sc (qB x) (kB x)))) n r h e).trans ?_
  rw [logs_at, mx_sc, nrm_sc]

end

end Cert.WindowRef

end
-- ==== Proof.WindowValue.lean ====
/- The window attention's two result arrays are the reference's terms of the argument. -/
module

public import Idealize.ShloMosaic.Lib.Pipeline.ValueKit
public import proofs.«01_k».proof.Proof.Gen.KernelIdeal.Value
public import proofs.«01_k».proof.Proof.WindowUnit
public import proofs.«01_k».proof.Proof.WindowRef

@[expose] public section

set_option maxRecDepth 16384

noncomputable section

namespace Cert.WindowValue

open Cert.KernelIdeal Cert.KernelIdeal.Gen Idealize.ShloMosaic Idealize.ShloMosaic.TcCoe
open Cert.WindowMath Cert.WindowUnit
open Cert.WindowRef (ent pre cS pS REF0 REF1 ref0_at ref1_at)

section
variable (X : FVec Ideal S8192x12288 .f32) (i : grid0.Coords) (n : Fin 64) (hn : (i 0).val = (n : ℕ)) (h : Fin 6)
variable (Q Kp Kc Vp Vc : FVec Ideal S128x128 .f32)
variable (hQ : ∀ r d : Fin 128, Q (ix2 r d) = ent X 4608 (by omega) n h r d)
  (hKc : ∀ r d : Fin 128, Kc (ix2 r d) = ent X 6912 (by omega) n h r d)
  (hKp : ∀ r d : Fin 128, Kp (ix2 r d) = ent X 6912 (by omega) (pre n) h r d)
  (hVc : ∀ r d : Fin 128, Vc (ix2 r d) = ent X 9216 (by omega) n h r d)
  (hVp : ∀ r d : Fin 128, Vp (ix2 r d) = ent X 9216 (by omega) (pre n) h r d)
include hn hQ hKc hKp

theorem score_c (r : Fin 128) : score Q Kc r = cS X n h r := by
  funext j
  exact Finset.sum_congr rfl fun d _ => by rw [hQ, hKc]

theorem score_p (r : Fin 128) : score Q Kp r = pS X n h r := by
  funext j
  exact Finset.sum_congr rfl fun d _ => by rw [hQ, hKp]

include hVc hVp in
theorem core0 (r e : Fin 128) :
    tileO i Q Kp Kc Vp Vc (ix2 r e) = REF0 X (ix2 ⟨n * 128 + r, by omega⟩ ⟨h * 128 + e, by omega⟩) := by
  rw [tileO_at, ref0_at, score_c X i n hn h Q Kp Kc hQ hKc hKp, score_p X i n hn h Q Kp Kc hQ hKc hKp]
  simp only [hVc, hVp, hn]

theorem core1 (r e : Fin 128) :
    tileL i Q Kp Kc (ix2 r e) = REF1 X (ix2 ⟨n * 128 + r, by omega⟩ ⟨h * 128 + e, by omega⟩) := by
  rw [tileL_at, ref1_at, score_c X i n hn h Q Kp Kc hQ hKc hKp, score_p X i n hn h Q Kp Kc hQ hKc hKp]
  simp only [hn]

end

theorem idx : ∀ t : Fin cfg0.N,
    win0_0.index t = ![t.val, 6] ∧ win0_1.index t = ![t.val, 9] ∧ win0_2.index t = ![t.val - 1, 9]
      ∧ win0_3.index t = ![t.val, 12] ∧ win0_4.index t = ![t.val - 1, 12] ∧ win0_5.index t = ![t.val, 0] ∧ win0_6.index t = ![t.val, 0] :=
  (by decide +kernel : ∀ t : Fin grid0.N, _)

variable (m : (ℓ : Loc nD τ sig) → Buf (Elt Ideal) ℓ)

/-- A point of the grid as a block number. -/
def blkOf (t : Fin cfg0.N) : Fin 64 := ⟨t.val, lt_of_lt_of_eq t.isLt N_0⟩

theorem coord (t : Fin cfg0.N) : ((grid0.coords t) 0).val = (blkOf t : ℕ) :=
  (by decide +kernel : ∀ t : Fin grid0.N, ((grid0.coords t) 0).val = t.val) t

/-- The five blocks a point stages, read at an entry of head `h`. -/
theorem blk0 (c : Dev nD) (t : Fin cfg0.N) (h : Fin 6) (r d : Fin 128) (k : Fin 768) (hk : (k : ℕ) = h * 128 + d) :
    iblk m c 0 t (ix2 r k) = ent (m ((c : Thread nD τ).loc main_arg0)) 4608 (by omega) (blkOf t) h r d := by
  unfold ent blkOf
  blk_point [iblk, V, idx t]
theorem blk1 (c : Dev nD) (t : Fin cfg0.N) (h : Fin 6) (r d : Fin 128) (k : Fin 768) (hk : (k : ℕ) = h * 128 + d) :
    iblk m c 1 t (ix2 r k) = ent (m ((c : Thread nD τ).loc main_arg0)) 6912 (by omega) (blkOf t) h r d := by
  unfold ent blkOf
  blk_point [iblk, V, idx t]
theorem blk2 (c : Dev nD) (t : Fin cfg0.N) (h : Fin 6) (r d : Fin 128) (k : Fin 768) (hk : (k : ℕ) = h * 128 + d) :
    iblk m c 2 t (ix2 r k) = ent (m ((c : Thread nD τ).loc main_arg0)) 6912 (by omega) (pre (blkOf t)) h r d := by
  unfold ent pre blkOf
  blk_point [iblk, V, idx t]
theorem blk3 (c : Dev nD) (t : Fin cfg0.N) (h : Fin 6) (r d : Fin 128) (k : Fin 768) (hk : (k : ℕ) = h * 128 + d) :
    iblk m c 3 t (ix2 r k) = ent (m ((c : Thread nD τ).loc main_arg0)) 9216 (by omega) (blkOf t) h r d := by
  unfold ent blkOf
  blk_point [iblk, V, idx t]
theorem blk4 (c : Dev nD) (t : Fin cfg0.N) (h : Fin 6) (r d : Fin 128) (k : Fin 768) (hk : (k : ℕ) = h * 128 + d) :
    iblk m c 4 t (ix2 r k) = ent (m ((c : Thread nD τ).loc main_arg0)) 9216 (by omega) (pre (blkOf t)) h r d := by
  unfold ent pre blkOf
  blk_point [iblk, V, idx t]

/-- Where entry `y` of point `t`'s output block lies in the array. -/
theorem place (t : Fin cfg0.N) (h : Fin 6) (y : S128x768.Idx) (r e : Fin 128) (h0 : (y 0 : ℕ) = r)
    (h1 : (y 1 : ℕ) = h * 128 + e) (R : FVec Ideal S8192x768 .f32) :
    R (ix2 ⟨blkOf t * 128 + r, by omega⟩ ⟨h * 128 + e, by omega⟩) = R ((win0_5.blk t).view.emb y) := by
  unfold blkOf
  blk_point [idx t]

theorem final0 (c : Dev nD) : (dats m 0 c).arrAt 5 (cfgs 0).N = REF0 (m ((c : Thread nD τ).loc main_arg0)) := by
  refine (dats m 0 c).arrAt_eq_of_covers 5 _ (by decide +kernel) fun t _ y => ?_
  blk_simp
  rw [after0_5]
  unfold out0_5
  canon_tiles x h
  · idx_vars x
    refine Eq.trans (b := tileO (grid0.coords t) (View.ld (iblk m c 0 t) r0_5) (View.ld (iblk m c 2 t) r0_5) (View.ld (iblk m c 1 t) r0_5) (View.ld (iblk m c 4 t) r0_5) (View.ld (iblk m c 3 t) r0_5) _) rfl ?_
    refine (core0 (m ((c : Thread nD τ).loc main_arg0)) (grid0.coords t) (blkOf t) (coord t) 5 _ _ _ _ _ ?_ ?_ ?_ ?_ ?_ _ _).trans ?_
    · intro r d; pointwise; exact blk0 m c t 5 r d _ (by simp)
    · intro r d; pointwise; exact blk1 m c t 5 r d _ (by simp)
    · intro r d; pointwise; exact blk2 m c t 5 r d _ (by simp)
    · intro r d; pointwise; exact blk3 m c t 5 r d _ (by simp)
    · intro r d; pointwise; exact blk4 m c t 5 r d _ (by simp)
    · exact place t 5 y _ _ h0 (h1.trans (by simp)) _
  · idx_vars x
    refine Eq.trans (b := tileO (grid0.coords t) (View.ld (iblk m c 0 t) r0_4) (View.ld (iblk m c 2 t) r0_4) (View.ld (iblk m c 1 t) r0_4) (View.ld (iblk m c 4 t) r0_4) (View.ld (iblk m c 3 t) r0_4) _) rfl ?_
    refine (core0 (m ((c : Thread nD τ).loc main_arg0)) (grid0.coords t) (blkOf t) (coord t) 4 _ _ _ _ _ ?_ ?_ ?_ ?_ ?_ _ _).trans ?_
    · intro r d; pointwise; exact blk0 m c t 4 r d _ (by simp)
    · intro r d; pointwise; exact blk1 m c t 4 r d _ (by simp)
    · intro r d; pointwise; exact blk2 m c t 4 r d _ (by simp)
    · intro r d; pointwise; exact blk3 m c t 4 r d _ (by simp)
    · intro r d; pointwise; exact blk4 m c t 4 r d _ (by simp)
    · exact place t 4 y _ _ h0 (h1.trans (by simp)) _
  · idx_vars x
    refine Eq.trans (b := tileO (grid0.coords t) (View.ld (iblk m c 0 t) r0_3) (View.ld (iblk m c 2 t) r0_3) (View.ld (iblk m c 1 t) r0_3) (View.ld (iblk m c 4 t) r0_3) (View.ld (iblk m c 3 t) r0_3) _) rfl ?_
    refine (core0 (m ((c : Thread nD τ).loc main_arg0)) (grid0.coords t) (blkOf t) (coord t) 3 _ _ _ _ _ ?_ ?_ ?_ ?_ ?_ _ _).trans ?_
    · intro r d; pointwise; exact blk0 m c t 3 r d _ (by simp)
    · intro r d; pointwise; exact blk1 m c t 3 r d _ (by simp)
    · intro r d; pointwise; exact blk2 m c t 3 r d _ (by simp)
    · intro r d; pointwise; exact blk3 m c t 3 r d _ (by simp)
    · intro r d; pointwise; exact blk4 m c t 3 r d _ (by simp)
    · exact place t 3 y _ _ h0 (h1.trans (by simp)) _
  · idx_vars x
    refine Eq.trans (b := tileO (grid0.coords t) (View.ld (iblk m c 0 t) r0_2) (View.ld (iblk m c 2 t) r0_2) (View.ld (iblk m c 1 t) r0_2) (View.ld (iblk m c 4 t) r0_2) (View.ld (iblk m c 3 t) r0_2) _) rfl ?_
    refine (core0 (m ((c : Thread nD τ).loc main_arg0)) (grid0.coords t) (blkOf t) (coord t) 2 _ _ _ _ _ ?_ ?_ ?_ ?_ ?_ _ _).trans ?_
    · intro r d; pointwise; exact blk0 m c t 2 r d _ (by simp)
    · intro r d; pointwise; exact blk1 m c t 2 r d _ (by simp)
    · intro r d; pointwise; exact blk2 m c t 2 r d _ (by simp)
    · intro r d; pointwise; exact blk3 m c t 2 r d _ (by simp)
    · intro r d; pointwise; exact blk4 m c t 2 r d _ (by simp)
    · exact place t 2 y _ _ h0 (h1.trans (by simp)) _
  · idx_vars x
    refine Eq.trans (b := tileO (grid0.coords t) (View.ld (iblk m c 0 t) r0_1) (View.ld (iblk m c 2 t) r0_1) (View.ld (iblk m c 1 t) r0_1) (View.ld (iblk m c 4 t) r0_1) (View.ld (iblk m c 3 t) r0_1) _) rfl ?_
    refine (core0 (m ((c : Thread nD τ).loc main_arg0)) (grid0.coords t) (blkOf t) (coord t) 1 _ _ _ _ _ ?_ ?_ ?_ ?_ ?_ _ _).trans ?_
    · intro r d; pointwise; exact blk0 m c t 1 r d _ (by simp)
    · intro r d; pointwise; exact blk1 m c t 1 r d _ (by simp)
    · intro r d; pointwise; exact blk2 m c t 1 r d _ (by simp)
    · intro r d; pointwise; exact blk3 m c t 1 r d _ (by simp)
    · intro r d; pointwise; exact blk4 m c t 1 r d _ (by simp)
    · exact place t 1 y _ _ h0 (h1.trans (by simp)) _
  · idx_vars x
    refine Eq.trans (b := tileO (grid0.coords t) (View.ld (iblk m c 0 t) r0_0) (View.ld (iblk m c 2 t) r0_0) (View.ld (iblk m c 1 t) r0_0) (View.ld (iblk m c 4 t) r0_0) (View.ld (iblk m c 3 t) r0_0) _) rfl ?_
    refine (core0 (m ((c : Thread nD τ).loc main_arg0)) (grid0.coords t) (blkOf t) (coord t) 0 _ _ _ _ _ ?_ ?_ ?_ ?_ ?_ _ _).trans ?_
    · intro r d; pointwise; exact blk0 m c t 0 r d _ (by simp)
    · intro r d; pointwise; exact blk1 m c t 0 r d _ (by simp)
    · intro r d; pointwise; exact blk2 m c t 0 r d _ (by simp)
    · intro r d; pointwise; exact blk3 m c t 0 r d _ (by simp)
    · intro r d; pointwise; exact blk4 m c t 0 r d _ (by simp)
    · exact place t 0 y _ _ h0 (h1.trans (by simp)) _

theorem final1 (c : Dev nD) : (dats m 0 c).arrAt 6 (cfgs 0).N = REF1 (m ((c : Thread nD τ).loc main_arg0)) := by
  refine (dats m 0 c).arrAt_eq_of_covers 6 _ (by decide +kernel) fun t _ y => ?_
  blk_simp
  rw [after0_6]
  unfold out0_6
  canon_tiles x h
  · idx_vars x
    refine Eq.trans (b := tileL (grid0.coords t) (View.ld (iblk m c 0 t) r0_5) (View.ld (iblk m c 2 t) r0_5) (View.ld (iblk m c 1 t) r0_5) _) rfl ?_
    refine (core1 (m ((c : Thread nD τ).loc main_arg0)) (grid0.coords t) (blkOf t) (coord t) 5 _ _ _ ?_ ?_ ?_ _ _).trans ?_
    · intro r d; pointwise; exact blk0 m c t 5 r d _ (by simp)
    · intro r d; pointwise; exact blk1 m c t 5 r d _ (by simp)
    · intro r d; pointwise; exact blk2 m c t 5 r d _ (by simp)
    · exact place t 5 y _ _ h0 (h1.trans (by simp)) _
  · idx_vars x
    refine Eq.trans (b := tileL (grid0.coords t) (View.ld (iblk m c 0 t) r0_4) (View.ld (iblk m c 2 t) r0_4) (View.ld (iblk m c 1 t) r0_4) _) rfl ?_
    refine (core1 (m ((c : Thread nD τ).loc main_arg0)) (grid0.coords t) (blkOf t) (coord t) 4 _ _ _ ?_ ?_ ?_ _ _).trans ?_
    · intro r d; pointwise; exact blk0 m c t 4 r d _ (by simp)
    · intro r d; pointwise; exact blk1 m c t 4 r d _ (by simp)
    · intro r d; pointwise; exact blk2 m c t 4 r d _ (by simp)
    · exact place t 4 y _ _ h0 (h1.trans (by simp)) _
  · idx_vars x
    refine Eq.trans (b := tileL (grid0.coords t) (View.ld (iblk m c 0 t) r0_3) (View.ld (iblk m c 2 t) r0_3) (View.ld (iblk m c 1 t) r0_3) _) rfl ?_
    refine (core1 (m ((c : Thread nD τ).loc main_arg0)) (grid0.coords t) (blkOf t) (coord t) 3 _ _ _ ?_ ?_ ?_ _ _).trans ?_
    · intro r d; pointwise; exact blk0 m c t 3 r d _ (by simp)
    · intro r d; pointwise; exact blk1 m c t 3 r d _ (by simp)
    · intro r d; pointwise; exact blk2 m c t 3 r d _ (by simp)
    · exact place t 3 y _ _ h0 (h1.trans (by simp)) _
  · idx_vars x
    refine Eq.trans (b := tileL (grid0.coords t) (View.ld (iblk m c 0 t) r0_2) (View.ld (iblk m c 2 t) r0_2) (View.ld (iblk m c 1 t) r0_2) _) rfl ?_
    refine (core1 (m ((c : Thread nD τ).loc main_arg0)) (grid0.coords t) (blkOf t) (coord t) 2 _ _ _ ?_ ?_ ?_ _ _).trans ?_
    · intro r d; pointwise; exact blk0 m c t 2 r d _ (by simp)
    · intro r d; pointwise; exact blk1 m c t 2 r d _ (by simp)
    · intro r d; pointwise; exact blk2 m c t 2 r d _ (by simp)
    · exact place t 2 y _ _ h0 (h1.trans (by simp)) _
  · idx_vars x
    refine Eq.trans (b := tileL (grid0.coords t) (View.ld (iblk m c 0 t) r0_1) (View.ld (iblk m c 2 t) r0_1) (View.ld (iblk m c 1 t) r0_1) _) rfl ?_
    refine (core1 (m ((c : Thread nD τ).loc main_arg0)) (grid0.coords t) (blkOf t) (coord t) 1 _ _ _ ?_ ?_ ?_ _ _).trans ?_
    · intro r d; pointwise; exact blk0 m c t 1 r d _ (by simp)
    · intro r d; pointwise; exact blk1 m c t 1 r d _ (by simp)
    · intro r d; pointwise; exact blk2 m c t 1 r d _ (by simp)
    · exact place t 1 y _ _ h0 (h1.trans (by simp)) _
  · idx_vars x
    refine Eq.trans (b := tileL (grid0.coords t) (View.ld (iblk m c 0 t) r0_0) (View.ld (iblk m c 2 t) r0_0) (View.ld (iblk m c 1 t) r0_0) _) rfl ?_
    refine (core1 (m ((c : Thread nD τ).loc main_arg0)) (grid0.coords t) (blkOf t) (coord t) 0 _ _ _ ?_ ?_ ?_ _ _).trans ?_
    · intro r d; pointwise; exact blk0 m c t 0 r d _ (by simp)
    · intro r d; pointwise; exact blk1 m c t 0 r d _ (by simp)
    · intro r d; pointwise; exact blk2 m c t 0 r d _ (by simp)
    · exact place t 0 y _ _ h0 (h1.trans (by simp)) _

end Cert.WindowValue

end
-- ==== Proof.WindowClaim.lean ====
/- The window attention: both programs end with equal results. -/
module

public import Idealize.ShloMosaic.Lib.Claim
public import proofs.«01_k».proof.Defs
public import proofs.«01_k».proof.Proof.WindowValue

@[expose] public section

set_option maxRecDepth 16384

noncomputable section

namespace Cert.WindowClaim

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · refine (θ_run _ _ _).mono (fun r h c => ⟨(h c).1.trans ((Cert.WindowRef.res0 m' c).trans ?_),
      (h c).2.1.trans ((Cert.WindowRef.res1 m' c).trans ?_), (h c).2.2⟩) (Cert.ReferenceIdeal.Value.run m' g')
    · rw [hagree c]
      exact (Cert.WindowValue.final0 m c).symm
    · rw [hagree c]
      exact (Cert.WindowValue.final1 m c).symm

end Cert.WindowClaim

end
-- ==== Proof.MergeRef.lean ====
/- The reference's gated merge and its logits, stage by stage, read at an entry. -/
module

public import Idealize.ShloMosaic.Lib.Pipeline.ValueKit
public import proofs.«01_k».proof.Proof.Gen.Reference2Ideal.Run

@[expose] public section

set_option maxRecDepth 16384

noncomputable section

namespace Cert.MergeRef

open Cert.Reference2Ideal Cert.Reference2Ideal.Gen Idealize.ShloMosaic Idealize.ShloMosaic.TcCoe

/-- The logistic function as the programs write it. -/
def sg (z : EReal) : EReal := Ideal.div 1 (1 + Ideal.exp (-z))

/-- The gates' arguments. -/
def ug (h : FVec Ideal S8192x2048 .bf16) (w : FVec Ideal S2x2048x20480 .bf16) : FVec Ideal S8192x8192 .f32 :=
  Host.dotGeneral dot_S8192x2048_S2048x8192_S8192x8192_1_0_0_1_n_n none (extf .f32 h bitsLt_bf16_f32) (extf .f32 (shapeCast _ (extractStridedSlice S1x2048x8192 ![0, 0, 12288] w slices_S2x2048x20480_S1x2048x8192_0_0_12288) shapeCasts_S1x2048x8192_S2048x8192) bitsLt_bf16_f32)
/-- The gates by branch. -/
def gates (u : FVec Ideal S8192x8192 .f32) : FVec Ideal S8192x4x2048 .f32 :=
  Host.divf (broadcastInDim S8192x4x2048 ![] bcast_S_S8192x4x2048 (constant S_ .f32 0x3F800000#32)) (addf (broadcastInDim S8192x4x2048 ![] bcast_S_S8192x4x2048 (constant S_ .f32 0x3F800000#32)) (Host.exp (Host.negf (shapeCast _ u shapeCasts_S8192x8192_S8192x4x2048))))
/-- The four branches beside one another. -/
def stk (a b : FVec Ideal S8192x768 .bf16) (c : FVec Ideal S8192x768 .f32) (d : FVec Ideal S8192x768 .bf16) : FVec Ideal S8192x4x768 .f32 :=
  concatenate S8192x4x768 1 [⟨S8192x1x768, (broadcastInDim S8192x1x768 ![0, 2] bcast_S8192x768_S8192x1x768_0_2 (extf .f32 a bitsLt_bf16_f32) : FVec Ideal S8192x1x768 .f32)⟩, ⟨S8192x1x768, (broadcastInDim S8192x1x768 ![0, 2] bcast_S8192x768_S8192x1x768_0_2 (extf .f32 b bitsLt_bf16_f32) : FVec Ideal S8192x1x768 .f32)⟩, ⟨S8192x1x768, (broadcastInDim S8192x1x768 ![0, 2] bcast_S8192x768_S8192x1x768_0_2 c : FVec Ideal S8192x1x768 .f32)⟩, ⟨S8192x1x768, (broadcastInDim S8192x1x768 ![0, 2] bcast_S8192x768_S8192x1x768_0_2 (extf .f32 d bitsLt_bf16_f32) : FVec Ideal S8192x1x768 .f32)⟩] concatenates_S8192x1x768_S8192x1x768_S8192x1x768_S8192x1x768_S8192x4x768_d1
/-- The branches' projections. -/
def prj (y : FVec Ideal S8192x4x768 .f32) (wb : FVec Ideal S2x4x768x2048 .f32) : FVec Ideal S8192x4x2048 .f32 :=
  transpose S8192x4x2048 [2, 0, 1] (Host.dotGeneral dot_S4x768x2048_S8192x4x768_S4x2048x8192_1_2_2_0_0_1 none (shapeCast _ (extractStridedSlice S1x4x768x2048 ![0, 0, 0, 0] wb slices_S2x4x768x2048_S1x4x768x2048_0_0_0_0) shapeCasts_S1x4x768x2048_S4x768x2048) y) transposes_S4x2048x8192_S8192x4x2048_2_0_1
/-- The gated sum. -/
def mrg (g p : FVec Ideal S8192x4x2048 .f32) : FVec Ideal S8192x2048 .f32 :=
  Host.reduceAdd (mulf g p) (constant S_ .f32 0x00000000#32) reducesTo_S8192x4x2048_S8192x2048_d1 h_S_
/-- The residual. -/
def res (x y : FVec Ideal S8192x2048 .f32) (wo : FVec Ideal S2x2048x2048 .f32) : FVec Ideal S8192x2048 .f32 :=
  addf x (Host.dotGeneral dot_S8192x2048_S2048x2048_S8192x2048_1_0_0_1_n_n none y (shapeCast _ (extractStridedSlice S1x2048x2048 ![0, 0, 0] wo slices_S2x2048x2048_S1x2048x2048_0_0_0) shapeCasts_S1x2048x2048_S2048x2048))
/-- The norm. -/
def nrm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
/-- The padded logits. -/
def lgt (y : FVec Ideal S8192x2048 .f32) (wg : FVec Ideal S2048x8 .f32) (bg : FVec Ideal S8 .f32) (we : FVec Ideal S2048x64 .f32) (be : FVec Ideal S64 .f32) : FVec Ideal S8192x128 .f32 :=
  pad S8192x128 ![0, 0] ![0, 56] ![0, 0] (concatenate S8192x72 1 [⟨S8192x8, (addf (Host.dotGeneral dot_S8192x2048_S2048x8_S8192x8_1_0_0_1_n_n none y wg) (broadcastInDim S8192x8 ![0, 1] bcast_S1x8_S8192x8_0_1 (broadcastInDim S1x8 ![1] bcast_S8_S1x8_1 bg)))⟩, ⟨S8192x64, (addf (Host.dotGeneral dot_S8192x2048_S2048x64_S8192x64_1_0_0_1_n_n none y we) (broadcastInDim S8192x64 ![0, 1] bcast_S1x64_S8192x64_0_1 (broadcastInDim S1x64 ![1] bcast_S64_S1x64_1 be)))⟩] concatenates_S8192x8_S8192x64_S8192x72_d1) (sitofp .f32 (constantI S_ 32 0#32)) pads_S8192x72_S8192x128_000_0560 h_S_

section
variable (h : FVec Ideal S8192x2048 .bf16) (a b : FVec Ideal S8192x768 .bf16) (c : FVec Ideal S8192x768 .f32) (d : FVec Ideal S8192x768 .bf16) (w : FVec Ideal S2x2048x20480 .bf16) (wb : FVec Ideal S2x4x768x2048 .f32) (wo : FVec Ideal S2x2048x2048 .f32) (x : FVec Ideal S8192x2048 .f32) (g : FVec Ideal S2048 .f32) (wg : FVec Ideal S2048x8 .f32) (bg : FVec Ideal S8 .f32) (we : FVec Ideal S2048x64 .f32) (be : FVec Ideal S64 .f32)
def REF0 : FVec Ideal S8192x2048 .f32 := res x (mrg (gates (ug h w)) (prj (stk a b c d) wb)) wo
def REF1 : FVec Ideal S8192x128 .f32 := lgt (nrm (REF0 h a b c d w wb wo x) g) wg bg we be
end

section
variable (m : (ℓ : Loc nD τ sig) → Buf (Elt Ideal) ℓ) (t : Dev nD)
/-- The two results as the stages composed. -/
def out0 : FVec Ideal S8192x2048 .f32 := REF0 (m ((t.tc : Thread nD τ).loc main_arg0)) (m ((t.tc : Thread nD τ).loc main_arg1)) (m ((t.tc : Thread nD τ).loc main_arg2)) (m ((t.tc : Thread nD τ).loc main_arg3)) (m ((t.tc : Thread nD τ).loc main_arg4)) (m ((t.tc : Thread nD τ).loc main_arg5)) (m ((t.tc : Thread nD τ).loc main_arg6)) (m ((t.tc : Thread nD τ).loc main_arg7)) (m ((t.tc : Thread nD τ).loc main_arg8))
def out1 : FVec Ideal S8192x128 .f32 := REF1 (m ((t.tc : Thread nD τ).loc main_arg0)) (m ((t.tc : Thread nD τ).loc main_arg1)) (m ((t.tc : Thread nD τ).loc main_arg2)) (m ((t.tc : Thread nD τ).loc main_arg3)) (m ((t.tc : Thread nD τ).loc main_arg4)) (m ((t.tc : Thread nD τ).loc main_arg5)) (m ((t.tc : Thread nD τ).loc main_arg6)) (m ((t.tc : Thread nD τ).loc main_arg7)) (m ((t.tc : Thread nD τ).loc main_arg8)) (m ((t.tc : Thread nD τ).loc main_arg9)) (m ((t.tc : Thread nD τ).loc main_arg10)) (m ((t.tc : Thread nD τ).loc main_arg11)) (m ((t.tc : Thread nD τ).loc main_arg12)) (m ((t.tc : Thread nD τ).loc main_arg13))
theorem res1 : Value.res_out1 m t = out1 m t := rfl
end

theorem ug_at (h : FVec Ideal S8192x2048 .bf16) (w : FVec Ideal S2x2048x20480 .bf16) (s : Fin 8192) (e : Fin 8192) :
    ug h w (ix2 s e) = ∑ j : Fin 2048, h (ix2 s j) * w (ix3 0 j ⟨12288 + e, by omega⟩) := by
  pointwise [ug]
theorem gates_at (u : FVec Ideal S8192x8192 .f32) (s : Fin 8192) (k : Fin 4) (e : Fin 2048) :
    gates u (ix3 s k e) = sg (u (ix2 s ⟨k * 2048 + e, by omega⟩)) := by
  unfold sg
  pointwise [gates]
theorem prj_at (y : FVec Ideal S8192x4x768 .f32) (wb : FVec Ideal S2x4x768x2048 .f32) (s : Fin 8192) (k : Fin 4) (e : Fin 2048) :
    prj y wb (ix3 s k e) = ∑ j : Fin 768, y (ix3 s k j) * wb (ix4 0 k j e) := by
  pointwise [prj]
  exact Finset.sum_congr rfl fun j _ => mul_comm _ _
theorem stk_at (a b : FVec Ideal S8192x768 .bf16) (c : FVec Ideal S8192x768 .f32) (d : FVec Ideal S8192x768 .bf16) (s : Fin 8192) (j : Fin 768) :
    stk a b c d (ix3 s 0 j) = a (ix2 s j) ∧ stk a b c d (ix3 s 1 j) = b (ix2 s j) ∧ stk a b c d (ix3 s 2 j) = c (ix2 s j) ∧ stk a b c d (ix3 s 3 j) = d (ix2 s j) := by
  refine ⟨?_, ?_, ?_, ?_⟩
  all_goals (pointwise [stk]; try blk_point [])
theorem mrg_at (g p : FVec Ideal S8192x4x2048 .f32) (s : Fin 8192) (e : Fin 2048) :
    mrg g p (ix2 s e) = ∑ k : Fin 4, g (ix3 s k e) * p (ix3 s k e) := by
  pointwise [mrg]
theorem res_at (x y : FVec Ideal S8192x2048 .f32) (wo : FVec Ideal S2x2048x2048 .f32) (s : Fin 8192) (e : Fin 2048) :
    res x y wo (ix2 s e) = x (ix2 s e) + ∑ j : Fin 2048, y (ix2 s j) * wo (ix3 0 j e) := by
  pointwise [res]
/-- The norm of a row. -/
def nrow (x : Fin 2048 → EReal) (g : Fin 2048 → EReal) (e : Fin 2048) : EReal :=
  x e * Ideal.rsqrt (Ideal.div (∑ j, x j * x j) (Ideal.ofBits .f32 0x45000000#32) + Ideal.ofBits .f32 0x358637BD#32) * g e
theorem nrm_at (x : FVec Ideal S8192x2048 .f32) (g : FVec Ideal S2048 .f32) (s : Fin 8192) (e : Fin 2048) :
    nrm x g (ix2 s e) = nrow (fun j => x (ix2 s j)) (fun j => g (ix1 j)) e := by
  unfold nrow
  pointwise [nrm]
/-- A lane of the router's padded weights and of its padded bias. -/
def rwt (wg : FVec Ideal S2048x8 .f32) (we : FVec Ideal S2048x64 .f32) (j : Fin 2048) (l : Fin 128) : EReal :=
  if h : (l : ℕ) < 8 then wg (ix2 j ⟨l, h⟩) else if h' : (l : ℕ) < 72 then we (ix2 j ⟨l - 8, by omega⟩) else 0
def rb (bg : FVec Ideal S8 .f32) (be : FVec Ideal S64 .f32) (l : Fin 128) : EReal :=
  if h : (l : ℕ) < 8 then bg (ix1 ⟨l, h⟩) else if h' : (l : ℕ) < 72 then be (ix1 ⟨l - 8, by omega⟩) else 0
theorem lgt_at (y : FVec Ideal S8192x2048 .f32) (wg : FVec Ideal S2048x8 .f32) (bg : FVec Ideal S8 .f32) (we : FVec Ideal S2048x64 .f32) (be : FVec Ideal S64 .f32) (s : Fin 8192) (l : Fin 128) :
    lgt y wg bg we be (ix2 s l) = (∑ j : Fin 2048, y (ix2 s j) * rwt wg we j l) + rb bg be l := by
  unfold rwt rb
  pointwise [lgt]
  by_cases h1 : (l : ℕ) < 8
  · have h2 : (l : ℕ) < 72 := by omega
    simp [h1, h2]
  · by_cases h2 : (l : ℕ) < 72
    · simp [h1, h2]
    · simp [h1, h2, FloatOps.sitofp]

section
variable (h : FVec Ideal S8192x2048 .bf16) (a b : FVec Ideal S8192x768 .bf16) (c : FVec Ideal S8192x768 .f32) (d : FVec Ideal S8192x768 .bf16) (w : FVec Ideal S2x2048x20480 .bf16) (wb : FVec Ideal S2x4x768x2048 .f32) (wo : FVec Ideal S2x2048x2048 .f32) (x : FVec Ideal S8192x2048 .f32) (g : FVec Ideal S2048 .f32) (wg : FVec Ideal S2048x8 .f32) (bg : FVec Ideal S8 .f32) (we : FVec Ideal S2048x64 .f32) (be : FVec Ideal S64 .f32)

/-- A gate, a branch's projection, and the gated sum of the four branches, at an entry. -/
def gt (k : Fin 4) (s : Fin 8192) (e : Fin 2048) : EReal := sg (∑ j : Fin 2048, h (ix2 s j) * w (ix3 0 j ⟨12288 + (k * 2048 + e), by omega⟩))
def pj {φ : FTy} (y : FVec Ideal S8192x768 φ) (k : Fin 4) (s : Fin 8192) (e : Fin 2048) : EReal := ∑ j : Fin 768, y (ix2 s j) * wb (ix4 0 k j e)
def mg (s : Fin 8192) (e : Fin 2048) : EReal :=
  gt h w 0 s e * pj wb a 0 s e + gt h w 1 s e * pj wb b 1 s e + gt h w 2 s e * pj wb c 2 s e + gt h w 3 s e * pj wb d 3 s e
/-- The residual stream at an entry. -/
def xr (s : Fin 8192) (e : Fin 2048) : EReal := x (ix2 s e) + ∑ j : Fin 2048, mg h a b c d w wb s j * wo (ix3 0 j e)

theorem merged_at (s : Fin 8192) (e : Fin 2048) : mrg (gates (ug h w)) (prj (stk a b c d) wb) (ix2 s e) = mg h a b c d w wb s e := by
  obtain ⟨h0, h1, h2, h3⟩ : (∀ j : Fin 768, stk a b c d (ix3 s 0 j) = a (ix2 s j)) ∧ (∀ j : Fin 768, stk a b c d (ix3 s 1 j) = b (ix2 s j)) ∧ (∀ j : Fin 768, stk a b c d (ix3 s 2 j) = c (ix2 s j)) ∧ (∀ j : Fin 768, stk a b c d (ix3 s 3 j) = d (ix2 s j)) :=
    ⟨fun j => (stk_at a b c d s j).1, fun j => (stk_at a b c d s j).2.1, fun j => (stk_at a b c d s j).2.2.1, fun j => (stk_at a b c d s j).2.2.2⟩
  rw [mrg_at, Fin.sum_univ_four]
  simp only [gates_at, prj_at, ug_at, h0, h1, h2, h3]
  rfl

theorem ref0_at (s : Fin 8192) (e : Fin 2048) : REF0 h a b c d w wb wo x (ix2 s e) = xr h a b c d w wb wo x s e := by
  unfold REF0 xr
  rw [res_at]
  simp only [merged_at]

theorem ref1_at (s : Fin 8192) (l : Fin 128) : REF1 h a b c d w wb wo x g wg bg we be (ix2 s l)
    = (∑ j : Fin 2048, nrow (fun j => xr h a b c d w wb wo x s j) (fun j => g (ix1 j)) j * rwt wg we j l) + rb bg be l := by
  unfold REF1
  rw [lgt_at]
  simp only [nrm_at, ref0_at]
end

end Cert.MergeRef

end
-- ==== Proof.MergeUnit.lean ====
/- The merge kernel's payloads, read at an entry. -/
module

public import Idealize.ShloMosaic.Lib.Pipeline.ValueKit
public import proofs.«01_k».proof.Proof.Gen.Kernel2Ideal.Value
public import proofs.«01_k».proof.Proof.MergeRef

@[expose] public section

set_option maxRecDepth 16384

noncomputable section

namespace Cert.MergeUnit

open Cert.Kernel2Ideal Cert.Kernel2Ideal.Gen Idealize.ShloMosaic Idealize.ShloMosaic.TcCoe
open Cert.MergeRef (sg nrow)

theorem zero_at (j : S512x2048.Idx) : k0_pay4 (F := Ideal) j = 0 := by pointwise [k0_pay4]

theorem acc_at (v51 v61 : FVec Ideal S512x256 .f32) (v62 : Vec Ideal S512x768 .bf16) (v63 : Vec Ideal S1x1x768x256 .bf16) (v68 : Vec Ideal S512x2048 .f32) (v70 : Vec Ideal S1x256x2048 .bf16) (r : Fin 512) (e : Fin 2048) :
    k0_pay1 v51 v61 v62 v63 v68 v70 (ix2 r e) = v68 (ix2 r e) + ∑ k : Fin 256, (v51 (ix2 r k) + v61 (ix2 r k) * ∑ j : Fin 768, v62 (ix2 r j) * v63 (ix4 0 0 j k)) * v70 (ix3 0 k e) := by
  pointwise [k0_pay1]

theorem gate0_at (v3 : Vec Ideal S512x2048 .bf16) (v4 : Vec Ideal S1x2048x256 .bf16) (v14 : Vec Ideal S512x768 .bf16) (v15 : Vec Ideal S1x1x768x256 .bf16) (r : Fin 512) (k : Fin 256) :
    k0_pay5 v3 v4 v14 v15 (ix2 r k) = sg (∑ j : Fin 2048, v3 (ix2 r j) * v4 (ix3 0 j k)) * ∑ j : Fin 768, v14 (ix2 r j) * v15 (ix4 0 0 j k) := by
  unfold sg
  pointwise [k0_pay5]
  all_goals (try simp only [zero_sub])

theorem gate1_at (v3 : Vec Ideal S512x2048 .bf16) (v4 : Vec Ideal S1x2048x256 .bf16) (r : Fin 512) (k : Fin 256) :
    k0_pay6 v3 v4 (ix2 r k) = sg (∑ j : Fin 2048, v3 (ix2 r j) * v4 (ix3 0 j k)) := by
  unfold sg
  pointwise [k0_pay6]
  all_goals (try simp only [zero_sub])

theorem gate2_at (v3 : Vec Ideal S512x2048 .bf16) (v18 v28 : FVec Ideal S512x256 .f32) (v29 : Vec Ideal S512x768 .bf16) (v30 : Vec Ideal S1x1x768x256 .bf16) (v35 : Vec Ideal S1x2048x256 .bf16) (v45 : Vec Ideal S512x768 .f32) (v47 : Vec Ideal S1x1x768x256 .bf16) (r : Fin 512) (k : Fin 256) :
    k0_pay7 v3 v18 v28 v29 v30 v35 v45 v47 (ix2 r k) = v18 (ix2 r k) + v28 (ix2 r k) * (∑ j : Fin 768, v29 (ix2 r j) * v30 (ix4 0 0 j k)) + sg (∑ j : Fin 2048, v3 (ix2 r j) * v35 (ix3 0 j k)) * ∑ j : Fin 768, v45 (ix2 r j) * v47 (ix4 0 0 j k) := by
  unfold sg
  pointwise [k0_pay7]
  all_goals (try simp only [zero_sub])

theorem gate3_at (v3 : Vec Ideal S512x2048 .bf16) (v4 : Vec Ideal S1x2048x256 .bf16) (r : Fin 512) (k : Fin 256) :
    k0_pay8 v3 v4 (ix2 r k) = sg (∑ j : Fin 2048, v3 (ix2 r j) * v4 (ix3 0 j k)) := by
  unfold sg
  pointwise [k0_pay8]
  all_goals (try simp only [zero_sub])

theorem sum_at (v80 v81 : Vec Ideal S512x2048 .f32) (j : S512x2048.Idx) : k0_pay2 v80 v81 j = v80 j + v81 j := by pointwise [k0_pay2]

theorem logit_at (v80 v81 : Vec Ideal S512x2048 .f32) (v94 : Vec Ideal S1x2048 .f32) (v98 : Vec Ideal S2048x128 .f32) (v101 : Vec Ideal S1x128 .f32) (r : Fin 512) (l : Fin 128) :
    k0_pay3 v80 v81 v94 v98 v101 (ix2 r l) = (∑ j : Fin 2048, nrow (fun j => v80 (ix2 r j) + v81 (ix2 r j)) (fun j => v94 (ix2 0 j)) j * v98 (ix2 j l)) + v101 (ix2 0 l) := by
  unfold nrow
  pointwise [k0_pay3, k0_pay2]

end Cert.MergeUnit

end
-- ==== Proof.MergeBlk.lean ====
/- The merge kernel's staged blocks, read at an entry of the arrays. -/
module

public import proofs.«01_k».proof.Proof.MergeUnit

@[expose] public section

set_option maxRecDepth 16384

noncomputable section

namespace Cert.MergeBlk

open Cert.Kernel2Ideal Cert.Kernel2Ideal.Gen Idealize.ShloMosaic Idealize.ShloMosaic.TcCoe
open Cert.MergeRef (rwt rb)

theorem idx : ∀ t : Fin cfg0.N,
    (win0_0.index t = ![t.val / 8, 0] ∧ win0_1.index t = ![t.val / 8, 0] ∧ win0_2.index t = ![t.val / 8, 0]
      ∧ win0_3.index t = ![t.val / 8, 0] ∧ win0_4.index t = ![t.val / 8, 0]) ∧
    (win0_5.index t = ![0, 0, 48 + t.val % 8] ∧ win0_6.index t = ![0, 0, 56 + t.val % 8]
      ∧ win0_7.index t = ![0, 0, 64 + t.val % 8] ∧ win0_8.index t = ![0, 0, 72 + t.val % 8]) ∧
    (win0_9.index t = ![0, 0, 0, t.val % 8] ∧ win0_10.index t = ![0, 1, 0, t.val % 8]
      ∧ win0_11.index t = ![0, 2, 0, t.val % 8] ∧ win0_12.index t = ![0, 3, 0, t.val % 8]) ∧
    (win0_13.index t = ![0, t.val % 8, 0] ∧ win0_14.index t = ![t.val / 8, 0] ∧ win0_15.index t = ![0, 0]
      ∧ win0_16.index t = ![0, 0] ∧ win0_17.index t = ![0, 0] ∧ win0_18.index t = ![t.val / 8, 0] ∧ win0_19.index t = ![t.val / 8, 0]) :=
  (by decide +kernel : ∀ t : Fin grid0.N, _)

variable (m : (ℓ : Loc nD τ sig) → Buf (Elt Ideal) ℓ)

/-- The row of the arrays that row `r` of point `t`'s blocks is, and the column of its tile. -/
def row (t : Fin cfg0.N) (r : Fin 512) : Fin 8192 :=
  ⟨t.val / 8 * 512 + r, by have := lt_of_lt_of_eq t.isLt N_0; omega⟩
def col (t : Fin cfg0.N) (k : Fin 256) : Fin 2048 := ⟨t.val % 8 * 256 + k, by omega⟩

theorem b0 (c : Dev nD) (t : Fin cfg0.N) (r : Fin 512) (j : Fin 2048) :
    iblk m c 0 t (ix2 r j) = m ((c : Thread nD τ).loc main_arg0) (ix2 (row t r) j) := by
  unfold row; blk_point [iblk, V, (idx t).1]
theorem b1 (c : Dev nD) (t : Fin cfg0.N) (r : Fin 512) (j : Fin 768) :
    iblk m c 1 t (ix2 r j) = m ((c : Thread nD τ).loc main_arg1) (ix2 (row t r) j) := by
  unfold row; blk_point [iblk, V, (idx t).1]
theorem b2 (c : Dev nD) (t : Fin cfg0.N) (r : Fin 512) (j : Fin 768) :
    iblk m c 2 t (ix2 r j) = m ((c : Thread nD τ).loc main_arg2) (ix2 (row t r) j) := by
  unfold row; blk_point [iblk, V, (idx t).1]
theorem b3 (c : Dev nD) (t : Fin cfg0.N) (r : Fin 512) (j : Fin 768) :
    iblk m c 3 t (ix2 r j) = m ((c : Thread nD τ).loc main_arg3) (ix2 (row t r) j) := by
  unfold row; blk_point [iblk, V, (idx t).1]
theorem b4 (c : Dev nD) (t : Fin cfg0.N) (r : Fin 512) (j : Fin 768) :
    iblk m c 4 t (ix2 r j) = m ((c : Thread nD τ).loc main_arg4) (ix2 (row t r) j) := by
  unfold row; blk_point [iblk, V, (idx t).1]
theorem b5 (c : Dev nD) (t : Fin cfg0.N) (j : Fin 2048) (k : Fin 256) :
    iblk m c 5 t (ix3 0 j k) = m ((c : Thread nD τ).loc main_arg5) (ix3 0 j ⟨12288 + ((0 : Fin 4) * 2048 + col t k), by omega⟩) := by
  unfold col; blk_point [iblk, V, (idx t).2.1]
theorem b6 (c : Dev nD) (t : Fin cfg0.N) (j : Fin 2048) (k : Fin 256) :
    iblk m c 6 t (ix3 0 j k) = m ((c : Thread nD τ).loc main_arg5) (ix3 0 j ⟨12288 + ((1 : Fin 4) * 2048 + col t k), by omega⟩) := by
  unfold col; blk_point [iblk, V, (idx t).2.1]
theorem b7 (c : Dev nD) (t : Fin cfg0.N) (j : Fin 2048) (k : Fin 256) :
    iblk m c 7 t (ix3 0 j k) = m ((c : Thread nD τ).loc main_arg5) (ix3 0 j ⟨12288 + ((2 : Fin 4) * 2048 + col t k), by omega⟩) := by
  unfold col; blk_point [iblk, V, (idx t).2.1]
theorem b8 (c : Dev nD) (t : Fin cfg0.N) (j : Fin 2048) (k : Fin 256) :
    iblk m c 8 t (ix3 0 j k) = m ((c : Thread nD τ).loc main_arg5) (ix3 0 j ⟨12288 + ((3 : Fin 4) * 2048 + col t k), by omega⟩) := by
  unfold col; blk_point [iblk, V, (idx t).2.1]
theorem b9 (c : Dev nD) (t : Fin cfg0.N) (j : Fin 768) (k : Fin 256) :
    iblk m c 9 t (ix4 0 0 j k) = m ((c : Thread nD τ).loc main_arg6) (ix4 0 0 j (col t k)) := by
  unfold col; blk_point [iblk, (idx t).2.2.1]
theorem b10 (c : Dev nD) (t : Fin cfg0.N) (j : Fin 768) (k : Fin 256) :
    iblk m c 10 t (ix4 0 0 j k) = m ((c : Thread nD τ).loc main_arg6) (ix4 0 1 j (col t k)) := by
  unfold col; blk_point [iblk, (idx t).2.2.1]
theorem b11 (c : Dev nD) (t : Fin cfg0.N) (j : Fin 768) (k : Fin 256) :
    iblk m c 11 t (ix4 0 0 j k) = m ((c : Thread nD τ).loc main_arg6) (ix4 0 2 j (col t k)) := by
  unfold col; blk_point [iblk, (idx t).2.2.1]
theorem b12 (c : Dev nD) (t : Fin cfg0.N) (j : Fin 768) (k : Fin 256) :
    iblk m c 12 t (ix4 0 0 j k) = m ((c : Thread nD τ).loc main_arg6) (ix4 0 3 j (col t k)) := by
  unfold col; blk_point [iblk, (idx t).2.2.1]
theorem b13 (c : Dev nD) (t : Fin cfg0.N) (k : Fin 256) (e : Fin 2048) :
    iblk m c 13 t (ix3 0 k e) = m ((c : Thread nD τ).loc main_arg7) (ix3 0 (col t k) e) := by
  unfold col; blk_point [iblk, (idx t).2.2.2]
theorem b14 (c : Dev nD) (t : Fin cfg0.N) (r : Fin 512) (j : Fin 2048) :
    iblk m c 14 t (ix2 r j) = m ((c : Thread nD τ).loc main_arg8) (ix2 (row t r) j) := by
  unfold row; blk_point [iblk, V, (idx t).2.2.2]

theorem V7 (c : Dev nD) : V m c main_v7 = shapeCast S1x2048 (m ((c : Thread nD τ).loc main_arg9)) shapeCasts_S2048_S1x2048 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil, StableHlo.TRef.binary, StableHlo.TRef.unary, StableHlo.TRef.toBuf, StableHlo.TRef.ofBuf, cast_eq]
  after_results_simp
  all_goals rfl
theorem V1 (c : Dev nD) : V m c main_v1 = pad S2048x128 ![0, 0] ![0, 56] ![0, 0] (concatenate S2048x72 1 [⟨S2048x8, m ((c : Thread nD τ).loc main_arg10)⟩, ⟨S2048x64, m ((c : Thread nD τ).loc main_arg12)⟩] concatenates_S2048x8_S2048x64_S2048x72_d1) (sitofp (F := Ideal) .f32 (constantI S_ 32 0#32)) pads_S2048x72_S2048x128_000_0560 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil, StableHlo.TRef.binary, StableHlo.TRef.unary, StableHlo.TRef.toBuf, StableHlo.TRef.ofBuf, cast_eq]
  after_results_simp
  all_goals rfl
theorem V4 (c : Dev nD) : V m c main_v4 = shapeCast S1x128 (pad S128 ![0] ![56] ![0] (concatenate S72 0 [⟨S8, m ((c : Thread nD τ).loc main_arg11)⟩, ⟨S64, m ((c : Thread nD τ).loc main_arg13)⟩] concatenates_S8_S64_S72_d0) (sitofp (F := Ideal) .f32 (constantI S_ 32 0#32)) pads_S72_S128_0560 h_S_) shapeCasts_S128_S1x128 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil, StableHlo.TRef.binary, StableHlo.TRef.unary, StableHlo.TRef.toBuf, StableHlo.TRef.ofBuf, cast_eq]
  after_results_simp
  all_goals rfl
theorem V7_at (c : Dev nD) (j : Fin 2048) : V m c main_v7 (ix2 0 j) = m ((c : Thread nD τ).loc main_arg9) (ix1 j) := by
  rw [V7]; pointwise
theorem V1_at (c : Dev nD) (j : Fin 2048) (l : Fin 128) :
    V m c main_v1 (ix2 j l) = rwt (m ((c : Thread nD τ).loc main_arg10)) (m ((c : Thread nD τ).loc main_arg12)) j l := by
  rw [V1]; unfold rwt
  pointwise
  by_cases h1 : l.val < 8
  · have h2 : l.val < 72 := by omega
    simp [h1, h2]
  · by_cases h2 : l.val < 72 <;> simp [h1, h2, FloatOps.sitofp]
theorem V4_at (c : Dev nD) (l : Fin 128) :
    V m c main_v4 (ix2 0 l) = rb (m ((c : Thread nD τ).loc main_arg11)) (m ((c : Thread nD τ).loc main_arg13)) l := by
  rw [V4]; unfold rb
  pointwise
  by_cases h1 : l.val < 8
  · have h2 : l.val < 72 := by omega
    simp [h1, h2]
  · by_cases h2 : l.val < 72 <;> simp [h1, h2, FloatOps.sitofp]
theorem b15 (c : Dev nD) (t : Fin cfg0.N) (j : Fin 2048) :
    iblk m c 15 t (ix2 0 j) = m ((c : Thread nD τ).loc main_arg9) (ix1 j) := by
  refine Eq.trans ?_ (V7_at m c j)
  blk_point [iblk, (idx t).2.2.2]
theorem b16 (c : Dev nD) (t : Fin cfg0.N) (j : Fin 2048) (l : Fin 128) :
    iblk m c 16 t (ix2 j l) = rwt (m ((c : Thread nD τ).loc main_arg10)) (m ((c : Thread nD τ).loc main_arg12)) j l := by
  refine Eq.trans ?_ (V1_at m c j l)
  blk_point [iblk, (idx t).2.2.2]
theorem b17 (c : Dev nD) (t : Fin cfg0.N) (l : Fin 128) :
    iblk m c 17 t (ix2 0 l) = rb (m ((c : Thread nD τ).loc main_arg11)) (m ((c : Thread nD τ).loc main_arg13)) l := by
  refine Eq.trans ?_ (V4_at m c l)
  blk_point [iblk, (idx t).2.2.2]

end Cert.MergeBlk

end
-- ==== Proof.MergeValue.lean ====
/- The merge kernel's final arrays. -/
module

public import proofs.«01_k».proof.Proof.MergeUnit

@[expose] public section

set_option maxRecDepth 16384

noncomputable section

namespace Cert.MergeValue

open Cert.Kernel2Ideal Cert.Kernel2Ideal.Gen Idealize.ShloMosaic Idealize.ShloMosaic.TcCoe
open Cert.MergeUnit

variable (m : (ℓ : Loc nD τ sig) → Buf (Elt Ideal) ℓ)

/-- A whole buffer filled so as to read `X` reads `X`. -/
theorem carried {Val : EltTy → Type} (b : Ref sig .tc) (h : (Memref.whole b).IsWhole) (X : b.ty.shape.Idx → Val b.ty.elt) :
    View.read Val (View.whole b) (h.unread X) = X := h.read_unread X

/-- The gated branch tile of a point, in two parts as the kernel adds them. -/
def tileA (c : Dev nD) (t : Fin cfg0.N) : FVec Ideal S512x256 .f32 :=
  k0_pay7 (iblk m c 0 t) (k0_pay5 (iblk m c 0 t) (iblk m c 5 t) (iblk m c 1 t) (iblk m c 9 t)) (k0_pay6 (iblk m c 0 t) (iblk m c 6 t)) (iblk m c 2 t) (iblk m c 10 t) (iblk m c 7 t) (iblk m c 3 t) (iblk m c 11 t)
def tileB (c : Dev nD) (t : Fin cfg0.N) : FVec Ideal S512x256 .f32 := k0_pay8 (iblk m c 0 t) (iblk m c 8 t)

theorem accA (c : Dev nD) (t : Fin cfg0.N) (h0 : t.val % 8 = 0) (h1 : ¬t.val % 8 = 7) :
    (outsAt0 m c t.val t.isLt).2.2 = k0_pay1 (tileA m c t) (tileB m c t) (iblk m c 4 t) (iblk m c 12 t) (k0_pay4 (F := Ideal)) (iblk m c 13 t) := by
  rw [outsAt0_A m c t h0 h1]
  frame_out
  all_goals rfl
theorem accB (c : Dev nD) (t : Fin cfg0.N) (h0 : ¬t.val % 8 = 0) :
    (outsAt0 m c t.val t.isLt).2.2 = k0_pay1 (tileA m c t) (tileB m c t) (iblk m c 4 t) (iblk m c 12 t) (outsAt0 m c (t.val - 1) (Nat.lt_of_le_of_lt (Nat.sub_le _ _) t.isLt)).2.2 (iblk m c 13 t) := by
  by_cases h1 : t.val % 8 = 7
  · rw [outsAt0_C m c t h0 h1]
    generalize (outsAt0 m c (t.val - 1) (Nat.lt_of_le_of_lt (Nat.sub_le _ _) t.isLt)).2.2 = X
    frame_out [carried]
    all_goals rfl
  · rw [outsAt0_B m c t h0 h1]
    generalize (outsAt0 m c (t.val - 1) (Nat.lt_of_le_of_lt (Nat.sub_le _ _) t.isLt)).2.2 = X
    frame_out [carried]
    all_goals rfl
theorem out0C (c : Dev nD) (t : Fin cfg0.N) (h1 : t.val % 8 = 7) :
    (outsAt0 m c t.val t.isLt).1 = k0_pay2 (iblk m c 14 t) (outsAt0 m c t.val t.isLt).2.2 := by
  rw [accB m c t (by omega), outsAt0_C m c t (by omega) h1]
  generalize (outsAt0 m c (t.val - 1) (Nat.lt_of_le_of_lt (Nat.sub_le _ _) t.isLt)).2.2 = X
  frame_out [carried]
  all_goals rfl
theorem out1C (c : Dev nD) (t : Fin cfg0.N) (h1 : t.val % 8 = 7) :
    (outsAt0 m c t.val t.isLt).2.1 = k0_pay3 (iblk m c 14 t) (outsAt0 m c t.val t.isLt).2.2 (iblk m c 15 t) (iblk m c 16 t) (iblk m c 17 t) := by
  rw [accB m c t (by omega), outsAt0_C m c t (by omega) h1]
  generalize (outsAt0 m c (t.val - 1) (Nat.lt_of_le_of_lt (Nat.sub_le _ _) t.isLt)).2.2 = X
  frame_out [carried]
  all_goals rfl

end Cert.MergeValue

end
-- ==== Proof.MergeFinal.lean ====
/- The merge kernel's final arrays are the reference's. -/
module

public import proofs.«01_k».proof.Proof.MergeBlk
public import proofs.«01_k».proof.Proof.MergeValue

@[expose] public section

set_option maxRecDepth 16384

noncomputable section

namespace Cert.MergeFinal

open Cert.Kernel2Ideal Cert.Kernel2Ideal.Gen Idealize.ShloMosaic Idealize.ShloMosaic.TcCoe
open Cert.MergeUnit Cert.MergeBlk Cert.MergeValue
open Cert.MergeRef (REF0 REF1 mg xr gt pj nrow rwt rb ref0_at ref1_at)

variable (m : (ℓ : Loc nD τ sig) → Buf (Elt Ideal) ℓ)

/-- The gated sum, the residual stream, and the two results, at the memory's arguments. -/
def MG (c : Dev nD) (s : Fin 8192) (e : Fin 2048) : EReal :=
  mg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) s e
def XR (c : Dev nD) (s : Fin 8192) (e : Fin 2048) : EReal :=
  xr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s e
def R0 (c : Dev nD) : FVec Ideal S8192x2048 .f32 :=
  REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def R1 (c : Dev nD) : FVec Ideal S8192x128 .f32 :=
  REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem tileA_at (c : Dev nD) (t : Fin cfg0.N) (r : Fin 512) (k : Fin 256) :
    tileA m c t (ix2 r k) = gt (m ((c : Thread nD τ).loc main_arg0)) (m ((c : Thread nD τ).loc main_arg5)) 0 (row t r) (col t k) * pj (φ := .bf16) (m ((c : Thread nD τ).loc main_arg6)) (m ((c : Thread nD τ).loc main_arg1)) 0 (row t r) (col t k)
      + gt (m ((c : Thread nD τ).loc main_arg0)) (m ((c : Thread nD τ).loc main_arg5)) 1 (row t r) (col t k) * pj (φ := .bf16) (m ((c : Thread nD τ).loc main_arg6)) (m ((c : Thread nD τ).loc main_arg2)) 1 (row t r) (col t k)
      + gt (m ((c : Thread nD τ).loc main_arg0)) (m ((c : Thread nD τ).loc main_arg5)) 2 (row t r) (col t k) * pj (φ := .f32) (m ((c : Thread nD τ).loc main_arg6)) (m ((c : Thread nD τ).loc main_arg3)) 2 (row t r) (col t k) := by
  unfold tileA gt pj
  rw [gate2_at, gate0_at, gate1_at]
  simp only [b0, b1, b2, b3, b5, b6, b7, b9, b10, b11]

theorem tileB_at (c : Dev nD) (t : Fin cfg0.N) (r : Fin 512) (k : Fin 256) :
    tileB m c t (ix2 r k) = gt (m ((c : Thread nD τ).loc main_arg0)) (m ((c : Thread nD τ).loc main_arg5)) 3 (row t r) (col t k) := by
  unfold tileB gt
  rw [gate3_at]
  simp only [b0, b8]

/-- What one point adds to the accumulator. -/
def add (c : Dev nD) (t : Fin cfg0.N) (p : Fin 512 × Fin 2048) : EReal :=
  ∑ k : Fin 256, MG m c (row t p.1) (col t k) * m ((c : Thread nD τ).loc main_arg7) (ix3 0 (col t k) p.2)

theorem unit_at (c : Dev nD) (t : Fin cfg0.N) (X : Vec Ideal S512x2048 .f32) (p : Fin 512 × Fin 2048) :
    k0_pay1 (tileA m c t) (tileB m c t) (iblk m c 4 t) (iblk m c 12 t) X (iblk m c 13 t) (ix2 p.1 p.2) = X (ix2 p.1 p.2) + add m c t p := by
  rw [acc_at]
  simp only [tileA_at, tileB_at, b4, b12, b13]
  rfl

theorem acc_sum (c : Dev nD) (t : Fin cfg0.N) (ht : t.val % 8 = 7) (r : Fin 512) (e : Fin 2048) :
    (outsAt0 m c t.val t.isLt).2.2 (ix2 r e) = ∑ j : Fin 2048, MG m c (row t r) j * m ((c : Thread nD τ).loc main_arg7) (ix3 0 j e) := by
  have key := Pipeline.eq_sum_fin_of_reset_step_apply_of_flush (N := cfg0.N)
    (fun n hn (p : Fin 512 × Fin 2048) => (outsAt0 m c n hn).2.2 (ix2 p.1 p.2)) 8 (fun _ => (0 : EReal)) (add m c)
    (fun t h0 p => by
      show (outsAt0 m c t.val t.isLt).2.2 (ix2 p.1 p.2) = _
      rw [accA m c t h0 (by omega), unit_at, zero_at])
    (fun t h0 p => by
      show (outsAt0 m c t.val t.isLt).2.2 (ix2 p.1 p.2) = _
      rw [accB m c t h0, unit_at]) t ht (r, e)
  refine key.trans ?_
  rw [zero_add]
  unfold add
  refine Fin.sum_mul_add_congr (fun s k hl => ?_)
  have e1 : row (⟨8 * (t.val / 8) + s.val, Pipeline.run_point_lt_of_flush t ht s⟩ : Fin cfg0.N) r = row t r := by
    apply Fin.ext; simp only [row]; omega
  have e2 : col (⟨8 * (t.val / 8) + s.val, Pipeline.run_point_lt_of_flush t ht s⟩ : Fin cfg0.N) k = ⟨s.val * 256 + k.val, hl⟩ := by
    apply Fin.ext; simp only [col]; omega
  simp only [e1, e2]

theorem sum0 (c : Dev nD) (t : Fin cfg0.N) (ht : t.val % 8 = 7) (r : Fin 512) (e : Fin 2048) (A B : Vec Ideal S512x2048 .f32)
    (hA : A = iblk m c 14 t) (hB : B = (outsAt0 m c t.val t.isLt).2.2) : A (ix2 r e) + B (ix2 r e) = XR m c (row t r) e :=
  congrArg₂ (fun a b : EReal => a + b) ((congrFun hA _).trans (b14 m c t r e)) ((congrFun hB _).trans (acc_sum m c t ht r e))

theorem logits (A B : Vec Ideal S512x2048 .f32) (G : Vec Ideal S1x2048 .f32) (W : Vec Ideal S2048x128 .f32) (b : Vec Ideal S1x128 .f32)
    (r : Fin 512) (l : Fin 128) (x g w : Fin 2048 → EReal) (z : EReal) (hx : ∀ j, A (ix2 r j) + B (ix2 r j) = x j)
    (hg : ∀ j, G (ix2 0 j) = g j) (hw : ∀ j, W (ix2 j l) = w j) (hb : b (ix2 0 l) = z) :
    k0_pay3 A B G W b (ix2 r l) = (∑ j : Fin 2048, nrow x g j * w j) + z := by
  rw [logit_at]
  simp only [hx, hg, hw, hb]

theorem place0 (t : Fin cfg0.N) (y : S512x2048.Idx) (r : Fin 512) (e : Fin 2048) (h0 : (y 0 : ℕ) = r) (h1 : (y 1 : ℕ) = e)
    (R : FVec Ideal S8192x2048 .f32) : R (ix2 (row t r) e) = R ((win0_18.blk t).view.emb y) := by
  unfold row
  blk_point [(idx t).2.2.2]

theorem place1 (t : Fin cfg0.N) (y : S512x128.Idx) (r : Fin 512) (e : Fin 128) (h0 : (y 0 : ℕ) = r) (h1 : (y 1 : ℕ) = e)
    (R : FVec Ideal S8192x128 .f32) : R (ix2 (row t r) e) = R ((win0_19.blk t).view.emb y) := by
  unfold row
  blk_point [(idx t).2.2.2]

theorem at0 (c : Dev nD) (t : Fin cfg0.N) (ht : t.val % 8 = 7) (r : Fin 512) (e : Fin 2048) :
    (outsAt0 m c t.val t.isLt).1 (ix2 r e) = R0 m c (ix2 (row t r) e) := by
  refine (congrFun (out0C m c t ht) _).trans ((sum_at _ _ _).trans ((sum0 m c t ht r e _ _ rfl rfl).trans ?_))
  unfold R0 XR
  rw [ref0_at]

theorem at1 (c : Dev nD) (t : Fin cfg0.N) (ht : t.val % 8 = 7) (r : Fin 512) (l : Fin 128) :
    (outsAt0 m c t.val t.isLt).2.1 (ix2 r l) = R1 m c (ix2 (row t r) l) := by
  refine (congrFun (out1C m c t ht) _).trans ((logits _ _ _ _ _ r l (XR m c (row t r)) (fun j => m ((c : Thread nD τ).loc main_arg9) (ix1 j))
    (fun j => rwt (m ((c : Thread nD τ).loc main_arg10)) (m ((c : Thread nD τ).loc main_arg12)) j l) (rb (m ((c : Thread nD τ).loc main_arg11)) (m ((c : Thread nD τ).loc main_arg13)) l)
    (fun j => sum0 m c t ht r j _ _ rfl rfl) (fun j => b15 m c t j) (fun j => b16 m c t j l) (b17 m c t l)).trans ?_)
  unfold R1 XR
  rw [ref1_at]

theorem final0 (c : Dev nD) : (dats m 0 c).arrAt 18 (cfgs 0).N = R0 m c := by
  refine (dats m 0 c).arrAt_eq_of_covers 18 _ (by decide +kernel) fun t hf y => ?_
  blk_simp
  rw [after0_18]
  refine Eq.trans ?_ ((at0 m c t ((flush0_18 t).mp hf) (y 0) (y 1)).trans (place0 t y (y 0) (y 1) rfl rfl _))
  exact congrArg (outsAt0 m c t.val t.isLt).1 (by funext a; fin_cases a <;> rfl)

theorem final1 (c : Dev nD) : (dats m 0 c).arrAt 19 (cfgs 0).N = R1 m c := by
  refine (dats m 0 c).arrAt_eq_of_covers 19 _ (by decide +kernel) fun t hf y => ?_
  blk_simp
  rw [after0_19]
  refine Eq.trans ?_ ((at1 m c t ((flush0_19 t).mp hf) (y 0) (y 1)).trans (place1 t y (y 0) (y 1) rfl rfl _))
  exact congrArg (outsAt0 m c t.val t.isLt).2.1 (by funext a; fin_cases a <;> rfl)

end Cert.MergeFinal

end
-- ==== Proof.MergeClaim.lean ====
/- The merge: both programs end with equal results. -/
module

public import Idealize.ShloMosaic.Lib.Claim
public import proofs.«01_k».proof.Defs
public import proofs.«01_k».proof.Proof.MergeFinal

@[expose] public section

set_option maxRecDepth 16384

noncomputable section

namespace Cert.MergeClaim

open Idealize.ShloMosaic Idealize.ShloMosaic.TcCoe Idealize.SL.Sem

theorem algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · refine (θ_run _ _ _).mono (fun r h c => ⟨(h c).1.trans ((show _ = Cert.MergeRef.out0 m' c from rfl).trans ?_),
      (h c).2.1.trans ((Cert.MergeRef.res1 m' c).trans ?_), (h c).2.2⟩) (Cert.Reference2Ideal.Value.run m' g')
    · obtain ⟨h0, h1, h2, h3, h4, h5, h6, h7, h8, h9, h10, h11, h12, h13⟩ := hagree c
      unfold Cert.MergeRef.out0
      rw [h0, h1, h2, h3, h4, h5, h6, h7, h8]
      exact (Cert.MergeFinal.final0 m c).symm
    · obtain ⟨h0, h1, h2, h3, h4, h5, h6, h7, h8, h9, h10, h11, h12, h13⟩ := hagree c
      unfold Cert.MergeRef.out1
      rw [h0, h1, h2, h3, h4, h5, h6, h7, h8, h9, h10, h11, h12, h13]
      exact (Cert.MergeFinal.final1 m c).symm

end Cert.MergeClaim

end
-- ==== Proof.ProjUnit.lean ====
/- The input projection's tiles, read at an entry. -/
module

public import Idealize.ShloMosaic.Lib.Pipeline.ValueKit
public import proofs.«01_k».proof.Proof.Gen.Kernel3Ideal.Value

@[expose] public section

set_option maxRecDepth 16384

noncomputable section

namespace Cert.ProjUnit

open Cert.Kernel3Ideal Cert.Kernel3Ideal.Gen Idealize.ShloMosaic Idealize.ShloMosaic.TcCoe

/-- A row of the activations against a column of the weights' block. -/
def mm (x : Vec Ideal S1024x2048 .bf16) (w : Vec Ideal S1x2048x768 .bf16) (r : Fin 1024) (e : Fin 768) : EReal :=
  ∑ j : Fin 2048, x (ix2 r j) * w (ix3 0 j e)

/-- The rotary of a column: the product times the cosine, plus the product half a head away times the signed sine. -/
def rot (x : Vec Ideal S1024x2048 .bf16) (w : Vec Ideal S1x2048x768 .bf16) (C S : Vec Ideal S1024x128 .f32) (r : Fin 1024) (e : Fin 768) : EReal :=
  mm x w r e * C (ix2 r ⟨e % 128, by omega⟩) + mm x w r ⟨e / 128 * 128 + (e % 128 + 64) % 128, by omega⟩ * S (ix2 r ⟨e % 128, by omega⟩)

/-- The rotary written at a row, two columns and a lane that are equal to the ones it names. -/
theorem rot_at (x : Vec Ideal S1024x2048 .bf16) (w : Vec Ideal S1x2048x768 .bf16) (C S : Vec Ideal S1024x128 .f32) (r r' : Fin 1024) (e e' p : Fin 768) (l : Fin 128)
    (hr : (r : ℕ) = r') (he : (e : ℕ) = e') (hp : (e : ℕ) / 128 * 128 + ((e : ℕ) % 128 + 64) % 128 = p) (hl : (e : ℕ) % 128 = l) :
    (∑ j : Fin 2048, x (ix2 r' j) * w (ix3 0 j e')) * C (ix2 r' l) + (∑ j : Fin 2048, x (ix2 r' j) * w (ix3 0 j p)) * S (ix2 r' l) = rot x w C S r e := by
  obtain rfl : r = r' := Fin.ext hr
  obtain rfl : e = e' := Fin.ext he
  have b1 : (e : ℕ) / 128 * 128 + ((e : ℕ) % 128 + 64) % 128 < 768 := by clear hp hl; omega
  have b2 : (e : ℕ) % 128 < 128 := by clear hp hl; omega
  have h1 : p = ⟨(e : ℕ) / 128 * 128 + ((e : ℕ) % 128 + 64) % 128, b1⟩ := Fin.ext hp.symm
  have h2 : l = ⟨(e : ℕ) % 128, b2⟩ := Fin.ext hl.symm
  subst h1 h2
  rfl

/-- The same with a factor behind it. -/
theorem rot_of (x : Vec Ideal S1024x2048 .bf16) (w : Vec Ideal S1x2048x768 .bf16) (C S : Vec Ideal S1024x128 .f32) (z : EReal) (r r' : Fin 1024) (e e' p : Fin 768) (l : Fin 128)
    (hr : (r : ℕ) = r') (he : (e : ℕ) = e') (hp : (e : ℕ) / 128 * 128 + ((e : ℕ) % 128 + 64) % 128 = p) (hl : (e : ℕ) % 128 = l) :
    ((∑ j : Fin 2048, x (ix2 r' j) * w (ix3 0 j e')) * C (ix2 r' l) + (∑ j : Fin 2048, x (ix2 r' j) * w (ix3 0 j p)) * S (ix2 r' l)) * z = rot x w C S r e * z :=
  congrArg (· * z) (rot_at x w C S r r' e e' p l hr he hp hl)

variable (c : Dev nD) (i : grid0.Coords) (arg2 : Memref sig .tc .vmem S1024x2048 .bf16) (harg2 : arg2.IsWhole) (arg3 : Memref sig .tc .vmem S1x2048x768 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x768 .f32) (harg6 : arg6.IsWhole)
variable (X : Vec Ideal S1024x2048 .bf16) (W : Vec Ideal S1x2048x768 .bf16) (C S : Vec Ideal S1024x128 .f32)

theorem outA (hc0 : cond0_0 i) (hc1 : ¬cond0_1 i) (hc2 : ¬cond0_2 i) (y : S1024x768.Idx) :
    out0_A_4 c i arg2 harg2 arg3 harg3 arg4 harg4 arg5 harg5 arg6 harg6 hc0 hc1 hc2 X W C S y = mm X W (y 0) (y 1) := by
  unfold mm
  frame_out
  idx_vars y
  pointwise [k0_pay1]

theorem outB (hc0 : ¬cond0_0 i) (hc1 : cond0_1 i) (hc2 : ¬cond0_2 i) (y : S1024x768.Idx) :
    out0_B_4 c i arg2 harg2 arg3 harg3 arg4 harg4 arg5 harg5 arg6 harg6 hc0 hc1 hc2 X W C S y = rot X W C S (y 0) (y 1) * Ideal.ofBits .f32 0x3DB504F3#32 := by
  frame_out
  canon_tiles x h
  all_goals
    open_payloads
    pointwise
    refine rot_of X W C S _ (y 0) _ (y 1) _ _ _ ?_ ?_ ?_ ?_ <;> simp only [h0, h1] <;> omega

theorem outC (hc0 : ¬cond0_0 i) (hc1 : ¬cond0_1 i) (hc2 : cond0_2 i) (y : S1024x768.Idx) :
    out0_C_4 c i arg2 harg2 arg3 harg3 arg4 harg4 arg5 harg5 arg6 harg6 hc0 hc1 hc2 X W C S y = rot X W C S (y 0) (y 1) := by
  frame_out
  canon_tiles x h
  all_goals
    open_payloads
    pointwise
    refine rot_at X W C S (y 0) _ (y 1) _ _ _ ?_ ?_ ?_ ?_ <;> simp only [h0, h1] <;> omega

end Cert.ProjUnit

end
-- ==== Proof.ProjRef.lean ====
/- The reference's projection with rotary, stage by stage, read at an entry. -/
module

public import Idealize.ShloMosaic.Lib.Pipeline.ValueKit
public import proofs.«01_k».proof.Proof.Gen.Reference3Ideal.Run

@[expose] public section

set_option maxRecDepth 16384

noncomputable section

namespace Cert.ProjRef

open Cert.Reference3Ideal Cert.Reference3Ideal.Gen Idealize.ShloMosaic Idealize.ShloMosaic.TcCoe

/-- The projection. -/
def uu (h : FVec Ideal S8192x2048 .bf16) (w : FVec Ideal S2x2048x20480 .bf16) : FVec Ideal S8192x12288 .f32 :=
  Host.dotGeneral dot_S8192x2048_S2048x12288_S8192x12288_1_0_0_1_n_n none (extf .f32 h bitsLt_bf16_f32) (extf .f32 (shapeCast _ (extractStridedSlice S1x2048x12288 ![0, 0, 0] w slices_S2x2048x20480_S1x2048x12288_0_0_0) shapeCasts_S1x2048x12288_S2048x12288) bitsLt_bf16_f32)
/-- The angles. -/
def ang (p : Vec Ideal S8192 .i32) : FVec Ideal S8192x1x64 .f32 :=
  shapeCast _ (mulf (broadcastInDim S8192x64 ![0, 1] bcast_S8192x1_S8192x64_0_1 (broadcastInDim S8192x1 ![0] bcast_S8192_S8192x1_0 (sitofp .f32 p))) (broadcastInDim S8192x64 ![0, 1] bcast_S1x64_S8192x64_0_1 (broadcastInDim S1x64 ![1] bcast_S64_S1x64_1 (Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32))))))) shapeCasts_S8192x64_S8192x1x64
/-- The rotary of the heads. -/
def hd (x : FVec Ideal S8192x18x128 .f32) (a : FVec Ideal S8192x1x64 .f32) : FVec Ideal S8192x18x128 .f32 :=
  concatenate S8192x18x128 2 [⟨S8192x18x64, (subf (mulf (extractStridedSlice S8192x18x64 ![0, 0, 0] x slices_S8192x18x128_S8192x18x64_0_0_0) (broadcastInDim S8192x18x64 ![0, 1, 2] bcast_S8192x1x64_S8192x18x64_0_1_2 (Host.cos a))) (mulf (extractStridedSlice S8192x18x64 ![0, 0, 64] x slices_S8192x18x128_S8192x18x64_0_0_64) (broadcastInDim S8192x18x64 ![0, 1, 2] bcast_S8192x1x64_S8192x18x64_0_1_2 (Host.sin a))))⟩, ⟨S8192x18x64, (addf (mulf (extractStridedSlice S8192x18x64 ![0, 0, 64] x slices_S8192x18x128_S8192x18x64_0_0_64) (broadcastInDim S8192x18x64 ![0, 1, 2] bcast_S8192x1x64_S8192x18x64_0_1_2 (Host.cos a))) (mulf (extractStridedSlice S8192x18x64 ![0, 0, 0] x slices_S8192x18x128_S8192x18x64_0_0_0) (broadcastInDim S8192x18x64 ![0, 1, 2] bcast_S8192x1x64_S8192x18x64_0_1_2 (Host.sin a))))⟩] concatenates_S8192x18x64_S8192x18x64_S8192x18x128_d2
/-- The result from the projection. -/
def fin (u : FVec Ideal S8192x12288 .f32) (a : FVec Ideal S8192x1x64 .f32) : FVec Ideal S8192x12288 .f32 :=
  concatenate S8192x12288 1 [⟨S8192x4608, ((extractStridedSlice S8192x4608 ![0, 0] u slices_S8192x12288_S8192x4608_0_0) : (⟨S8192x4608, .f32⟩ : BufTy).Contents (Elt Ideal))⟩, ⟨S8192x2304, ((shapeCast _ (mulf (hd (shapeCast _ (extractStridedSlice S8192x2304 ![0, 4608] u slices_S8192x12288_S8192x2304_0_4608) shapeCasts_S8192x2304_S8192x18x128) a) (broadcastInDim S8192x18x128 ![] bcast_S_S8192x18x128 (constant S_ .f32 0x3DB504F3#32))) shapeCasts_S8192x18x128_S8192x2304) : (⟨S8192x2304, .f32⟩ : BufTy).Contents (Elt Ideal))⟩, ⟨S8192x2304, ((shapeCast _ (hd (shapeCast _ (extractStridedSlice S8192x2304 ![0, 6912] u slices_S8192x12288_S8192x2304_0_6912) shapeCasts_S8192x2304_S8192x18x128) a) shapeCasts_S8192x18x128_S8192x2304) : (⟨S8192x2304, .f32⟩ : BufTy).Contents (Elt Ideal))⟩, ⟨S8192x3072, ((extractStridedSlice S8192x3072 ![0, 9216] u slices_S8192x12288_S8192x3072_0_9216) : (⟨S8192x3072, .f32⟩ : BufTy).Contents (Elt Ideal))⟩] concatenates_S8192x4608_S8192x2304_S8192x2304_S8192x3072_S8192x12288_d1

section
variable (m : (ℓ : Loc nD τ sig) → Buf (Elt Ideal) ℓ) (t : Dev nD)
def out0 : FVec Ideal S8192x12288 .f32 := fin (uu (m ((t.tc : Thread nD τ).loc main_arg0)) (m ((t.tc : Thread nD τ).loc main_arg1))) (ang (m ((t.tc : Thread nD τ).loc main_arg2)))
theorem res0 : Value.res_out0 m t = out0 m t := rfl
end

theorem uu_at (h : FVec Ideal S8192x2048 .bf16) (w : FVec Ideal S2x2048x20480 .bf16) (s : Fin 8192) (e : Fin 12288) :
    uu h w (ix2 s e) = ∑ j : Fin 2048, h (ix2 s j) * w (ix3 0 j ⟨e, by omega⟩) := by
  pointwise [uu]
/-- The angle of a position and a lane. -/
def th (p : BitVec 32) (l : ℕ) : EReal :=
  FloatOps.sitofp (F := Ideal) FTy.f32 p * Ideal.pow (Ideal.ofBits .f32 0x461C4000#32) (Ideal.div (-(FloatOps.sitofp (F := Ideal) FTy.f32 (BitVec.ofNat 32 l)) * Ideal.ofBits .f32 0x40000000#32) (Ideal.ofBits .f32 0x43000000#32))
theorem ang_at (p : Vec Ideal S8192 .i32) (s : Fin 8192) (l : Fin 64) :
    ang p (ix3 s 0 l) = th (p (ix1 s)) l := by
  unfold th
  pointwise [ang]
/-- The rotary of a head's columns by the angles of its lanes. -/
def rotl (x : Fin 128 → EReal) (a : ℕ → EReal) (l : Fin 128) : EReal :=
  if h : (l : ℕ) < 64 then x l * Ideal.cos (a l) - x ⟨64 + l, by omega⟩ * Ideal.sin (a l)
  else x l * Ideal.cos (a (l - 64)) + x ⟨l - 64, by omega⟩ * Ideal.sin (a (l - 64))
theorem hd_at (x : FVec Ideal S8192x18x128 .f32) (p : Vec Ideal S8192 .i32) (s : Fin 8192) (k : Fin 18) (l : Fin 128) :
    hd x (ang p) (ix3 s k l) = rotl (fun l => x (ix3 s k l)) (th (p (ix1 s))) l := by
  unfold rotl
  pointwise [hd, ang_at]
  by_cases h : (l : ℕ) < 64
  · simp only [h, dif_pos, ang_at]
  · simp only [h, dif_neg, not_false_eq_true, ang_at]
    have e : (⟨64 + (l - 64), by omega⟩ : Fin 128) = l := Fin.ext (by simp only; omega)
    rw [e]
theorem cols (u : FVec Ideal S8192x12288 .f32) (s : Fin 8192) (k : Fin 18) (l : Fin 128) :
    (shapeCast S8192x18x128 (extractStridedSlice S8192x2304 ![0, 4608] u slices_S8192x12288_S8192x2304_0_4608) shapeCasts_S8192x2304_S8192x18x128 (ix3 s k l) = u (ix2 s ⟨4608 + (k * 128 + l), by omega⟩)) ∧
    (shapeCast S8192x18x128 (extractStridedSlice S8192x2304 ![0, 6912] u slices_S8192x12288_S8192x2304_0_6912) shapeCasts_S8192x2304_S8192x18x128 (ix3 s k l) = u (ix2 s ⟨6912 + (k * 128 + l), by omega⟩)) := by
  constructor <;> pointwise
theorem rotl_congr (x y : Fin 128 → EReal) (a : ℕ → EReal) (l l' : Fin 128) (h : ∀ j, x j = y j) (hl : (l : ℕ) = l') : rotl x a l = rotl y a l' := by
  obtain rfl : x = y := funext h
  obtain rfl : l = l' := Fin.ext hl
  rfl
/-- The head a column belongs to, turned by the angles of the row's position. -/
def turned (u : FVec Ideal S8192x12288 .f32) (p : Vec Ideal S8192 .i32) (s : Fin 8192) (e : Fin 12288) : EReal :=
  rotl (fun l => u (ix2 s ⟨e / 128 * 128 + l, by omega⟩)) (th (p (ix1 s))) ⟨e % 128, by omega⟩
theorem fin_at (u : FVec Ideal S8192x12288 .f32) (p : Vec Ideal S8192 .i32) (s : Fin 8192) (e : Fin 12288) :
    fin u (ang p) (ix2 s e) = if (e : ℕ) < 4608 then u (ix2 s e) else if (e : ℕ) < 6912 then turned u p s e * Ideal.ofBits .f32 0x3DB504F3#32
      else if (e : ℕ) < 9216 then turned u p s e else u (ix2 s e) := by
  unfold turned
  pointwise [fin]
  simp only [hd_at]
  by_cases h1 : (e : ℕ) < 4608
  · simp only [h1, dif_pos, if_true]
  by_cases h2 : (e : ℕ) < 6912
  · have g2 : (e : ℕ) - 4608 < 2304 := by omega
    simp only [h1, h2, g2, dif_pos, dif_neg, not_false_eq_true, if_true, if_false]
    refine congrArg (fun z : EReal => z * Ideal.ofBits .f32 0x3DB504F3#32) (rotl_congr _ _ _ _ _ (fun l => ?_) ?_)
    · rw [(cols u s _ l).1]
      exact congrArg (fun z => u (ix2 s z)) (Fin.ext (by simp only; omega))
    · simp only; omega
  have g2 : ¬(e : ℕ) - 4608 < 2304 := by omega
  by_cases h3 : (e : ℕ) < 9216
  · have g3 : (e : ℕ) - 4608 - 2304 < 2304 := by omega
    simp only [h1, h2, h3, g2, g3, dif_pos, dif_neg, not_false_eq_true, if_true, if_false]
    refine rotl_congr _ _ _ _ _ (fun l => ?_) ?_
    · rw [(cols u s _ l).2]
      exact congrArg (fun z => u (ix2 s z)) (Fin.ext (by simp only; omega))
    · simp only; omega
  · have g3 : ¬(e : ℕ) - 4608 - 2304 < 2304 := by omega
    simp only [h1, h2, h3, g2, g3, dif_neg, not_false_eq_true, if_false]
    exact congrArg (fun z => u (ix2 s z)) (Fin.ext (by simp only; omega))

end Cert.ProjRef

end
-- ==== Proof.ProjBlk.lean ====
/- The projection kernel's staged blocks, read at an entry of the arrays. -/
module

public import proofs.«01_k».proof.Proof.ProjUnit
public import proofs.«01_k».proof.Proof.ProjRef

@[expose] public section

set_option maxRecDepth 16384

noncomputable section

namespace Cert.ProjBlk

open Cert.Kernel3Ideal Cert.Kernel3Ideal.Gen Idealize.ShloMosaic Idealize.ShloMosaic.TcCoe
open Cert.ProjRef (th)

theorem idx : ∀ t : Fin cfg0.N,
    (win0_0.index t = ![t.val % 8, 0] ∧ win0_1.index t = ![0, 0, t.val / 8]) ∧
    (win0_2.index t = ![t.val % 8, 0] ∧ win0_3.index t = ![t.val % 8, 0] ∧ win0_4.index t = ![t.val % 8, t.val / 8]) :=
  (by decide +kernel : ∀ t : Fin grid0.N, _)

variable (m : (ℓ : Loc nD τ sig) → Buf (Elt Ideal) ℓ)

/-- The row of the arrays that row `r` of point `t`'s blocks is, and the column of its tile. -/
def row (t : Fin cfg0.N) (r : Fin 1024) : Fin 8192 := ⟨t.val % 8 * 1024 + r, by omega⟩
def col (t : Fin cfg0.N) (k : Fin 768) : Fin 12288 :=
  ⟨t.val / 8 * 768 + k, by have := lt_of_lt_of_eq t.isLt N_0; omega⟩

theorem b0 (c : Dev nD) (t : Fin cfg0.N) (r : Fin 1024) (j : Fin 2048) :
    iblk m c 0 t (ix2 r j) = m ((c : Thread nD τ).loc main_arg0) (ix2 (row t r) j) := by
  unfold row; blk_point [iblk, V, (idx t).1]

theorem b1 (c : Dev nD) (t : Fin cfg0.N) (j : Fin 2048) (k : Fin 768) :
    X0_1 m c t (ix3 0 j k) = m ((c : Thread nD τ).loc main_arg1) (ix3 0 j ⟨col t k, by omega⟩) := by
  unfold X0_1 Pipeline.Window.fill
  rw [dif_pos (moved0_1 t _)]
  unfold col
  blk_point [iblk, V, (idx t).1]

/-- The angles of the rows and lanes as the kernel's host code writes them. -/
def an (p : Vec Ideal S8192 .i32) : FVec Ideal S8192x128 .f32 :=
  mulf (broadcastInDim S8192x128 ![0, 1] bcast_S8192x1_S8192x128_0_1 (sitofp .f32 (shapeCast S8192x1 p shapeCasts_S8192_S8192x1)))
    (broadcastInDim S8192x128 ![0, 1] bcast_S1x128_S8192x128_0_1 (shapeCast S1x128
      (concatenate S128 0 [⟨S64, Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))⟩,
        ⟨S64, Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))⟩] concatenates_S64_S64_S128_d0) shapeCasts_S128_S1x128))

theorem an_at (p : Vec Ideal S8192 .i32) (s : Fin 8192) (l : Fin 128) : an p (ix2 s l) = th (p (ix1 s)) (if (l : ℕ) < 64 then l else l - 64) := by
  unfold th
  pointwise [an]
  by_cases h : (l : ℕ) < 64 <;> simp only [h, if_true, if_false, dif_pos, dif_neg, not_false_eq_true]

theorem V17 (c : Dev nD) : V m c main_v17 = Host.cos (an (m ((c : Thread nD τ).loc main_arg2))) := by
  show StableHlo.after (List.flatten [hostOps0, hostOps0_1]) _ _ = _
  simp only [hostOps0, hostOps0_1, List.flatten_cons, List.flatten_nil, List.cons_append, List.nil_append, List.append_nil, StableHlo.TRef.ternary, StableHlo.TRef.toBuf, StableHlo.TRef.ofBuf, cast_eq]
  after_results_simp
  all_goals rfl
theorem V21 (c : Dev nD) : V m c main_v21 = select (cmpi .slt (iotaInDim S8192x128 32 1) (broadcastInDim S8192x128 ![] bcast_S_S8192x128 (constantI S_ 32 64#32)))
    (Host.negf (Host.sin (an (m ((c : Thread nD τ).loc main_arg2))))) (Host.sin (an (m ((c : Thread nD τ).loc main_arg2)))) := by
  show StableHlo.after (List.flatten [hostOps0, hostOps0_1]) _ _ = _
  simp only [hostOps0, hostOps0_1, List.flatten_cons, List.flatten_nil, List.cons_append, List.nil_append, List.append_nil, StableHlo.TRef.ternary, StableHlo.TRef.toBuf, StableHlo.TRef.ofBuf, cast_eq]
  after_results_simp
  all_goals rfl

theorem V17_at (c : Dev nD) (s : Fin 8192) (l : Fin 128) :
    V m c main_v17 (ix2 s l) = Ideal.cos (th (m ((c : Thread nD τ).loc main_arg2) (ix1 s)) (if (l : ℕ) < 64 then l else l - 64)) := by
  rw [V17]
  pointwise
  rw [an_at]
/-- The kernel's test of a lane against the half of a head. -/
theorem below : ∀ l : Fin 128, IntOp.cmpi CmpIPredicate.slt (BitVec.ofNat 32 l) 64#32 = if (l : ℕ) < 64 then 1#1 else 0#1 := by
  decide +kernel
theorem V21_at (c : Dev nD) (s : Fin 8192) (l : Fin 128) :
    V m c main_v21 (ix2 s l) = if (l : ℕ) < 64 then -Ideal.sin (th (m ((c : Thread nD τ).loc main_arg2) (ix1 s)) l) else Ideal.sin (th (m ((c : Thread nD τ).loc main_arg2) (ix1 s)) (l - 64)) := by
  rw [V21]
  pointwise
  rw [an_at, below l]
  by_cases h : (l : ℕ) < 64 <;> simp [h, Scalar.select]

theorem b2 (c : Dev nD) (t : Fin cfg0.N) (r : Fin 1024) (l : Fin 128) :
    iblk m c 2 t (ix2 r l) = Ideal.cos (th (m ((c : Thread nD τ).loc main_arg2) (ix1 (row t r))) (if (l : ℕ) < 64 then l else l - 64)) := by
  refine Eq.trans ?_ (V17_at m c (row t r) l)
  unfold row; blk_point [iblk, (idx t).2]
theorem b3 (c : Dev nD) (t : Fin cfg0.N) (r : Fin 1024) (l : Fin 128) :
    iblk m c 3 t (ix2 r l) = if (l : ℕ) < 64 then -Ideal.sin (th (m ((c : Thread nD τ).loc main_arg2) (ix1 (row t r))) l) else Ideal.sin (th (m ((c : Thread nD τ).loc main_arg2) (ix1 (row t r))) (l - 64)) := by
  refine Eq.trans ?_ (V21_at m c (row t r) l)
  unfold row; blk_point [iblk, (idx t).2]

end Cert.ProjBlk

end
-- ==== Proof.ProjFinal.lean ====
/- The projection kernel's final array is the reference's. -/
module

public import proofs.«01_k».proof.Proof.ProjBlk

@[expose] public section

set_option maxRecDepth 16384

noncomputable section

namespace Cert.ProjFinal

open Cert.Kernel3Ideal Cert.Kernel3Ideal.Gen Idealize.ShloMosaic Idealize.ShloMosaic.TcCoe
open Cert.ProjUnit Cert.ProjBlk
open Cert.ProjRef (th rotl turned uu uu_at fin fin_at ang)

variable (m : (ℓ : Loc nD τ sig) → Buf (Elt Ideal) ℓ)

/-- The projection at the memory's arguments, and the result. -/
def U (c : Dev nD) : FVec Ideal S8192x12288 .f32 := uu (m ((c : Thread nD τ).loc main_arg0)) (m ((c : Thread nD τ).loc main_arg1))
def P (c : Dev nD) : Vec Ideal S8192 .i32 := m ((c : Thread nD τ).loc main_arg2)
def R (c : Dev nD) : FVec Ideal S8192x12288 .f32 := fin (U m c) (ang (P m c))

theorem mm_at (c : Dev nD) (t : Fin cfg0.N) (r : Fin 1024) (k : Fin 768) :
    mm (iblk m c 0 t) (X0_1 m c t) r k = U m c (ix2 (row t r) (col t k)) := by
  unfold mm U
  rw [uu_at]
  exact Finset.sum_congr rfl fun j _ => congrArg₂ (fun a b : EReal => a * b) (b0 m c t r j) (b1 m c t j k)

/-- The product with the signed table is the turn of the two halves. -/
theorem spin (x : Fin 128 → EReal) (a : ℕ → EReal) (l : Fin 128) :
    x l * Ideal.cos (a (if (l : ℕ) < 64 then l else l - 64)) + x ⟨(l + 64) % 128, by omega⟩ * (if (l : ℕ) < 64 then -Ideal.sin (a l) else Ideal.sin (a (l - 64))) = rotl x a l := by
  unfold rotl
  by_cases h : (l : ℕ) < 64
  · have e : (⟨(l + 64) % 128, by omega⟩ : Fin 128) = ⟨64 + l, by omega⟩ := Fin.ext (by simp only; omega)
    simp only [h, if_true, dif_pos, e, mul_neg, sub_eq_add_neg]
  · have e : (⟨(l + 64) % 128, by omega⟩ : Fin 128) = ⟨l - 64, by omega⟩ := Fin.ext (by simp only; omega)
    simp only [h, if_false, dif_neg, not_false_eq_true, e]

theorem rot_turned (c : Dev nD) (t : Fin cfg0.N) (r : Fin 1024) (k : Fin 768) :
    rot (iblk m c 0 t) (X0_1 m c t) (iblk m c 2 t) (iblk m c 3 t) r k = turned (U m c) (P m c) (row t r) (col t k) := by
  have hc : (col t k : ℕ) = t.val / 8 * 768 + k := rfl
  have hl : (⟨k % 128, by omega⟩ : Fin 128) = ⟨col t k % 128, by omega⟩ := Fin.ext (by simp only [hc]; omega)
  refine Eq.trans ?_ (spin (fun l => U m c (ix2 (row t r) ⟨col t k / 128 * 128 + l, by omega⟩)) (th (P m c (ix1 (row t r)))) ⟨col t k % 128, by omega⟩)
  unfold rot
  refine congrArg₂ (fun a b : EReal => a + b) (congrArg₂ (fun a b : EReal => a * b) ?_ ?_) (congrArg₂ (fun a b : EReal => a * b) ?_ ?_)
  · exact (mm_at m c t r k).trans (congrArg (fun z => U m c (ix2 (row t r) z)) (Fin.ext (by simp only; omega)))
  · rw [hl]
    exact b2 m c t r _
  · exact (mm_at m c t r _).trans (congrArg (fun z => U m c (ix2 (row t r) z)) (Fin.ext (by simp only [col]; omega)))
  · rw [hl]
    exact b3 m c t r _

theorem place (t : Fin cfg0.N) (y : S1024x768.Idx) (r : Fin 1024) (e : Fin 768) (h0 : (y 0 : ℕ) = r) (h1 : (y 1 : ℕ) = e)
    (Z : FVec Ideal S8192x12288 .f32) : Z (ix2 (row t r) (col t e)) = Z ((win0_4.blk t).view.emb y) := by
  unfold row col
  blk_point [(idx t).2]

theorem block_at (c : Dev nD) (t : Fin cfg0.N) (y : S1024x768.Idx) :
    outsAt0 m c t.val t.isLt y = R m c (ix2 (row t (y 0)) (col t (y 1))) := by
  have hN : t.val < 128 := lt_of_lt_of_eq t.isLt N_0
  have hc : (col t (y 1) : ℕ) = t.val / 8 * 768 + (y 1 : ℕ) := rfl
  have hy : (y 1 : ℕ) < 768 := (y 1).isLt
  unfold R
  rw [fin_at]
  by_cases hq : 6 ≤ t.val / 8 % 16 ∧ t.val / 8 % 16 ≤ 8
  · rw [outsAt0_B m c t (by omega) hq (by omega), outB, if_neg (by omega), if_pos (by omega)]
    exact congrArg (fun z : EReal => z * Ideal.ofBits .f32 0x3DB504F3#32) (rot_turned m c t (y 0) (y 1))
  by_cases hk : 9 ≤ t.val / 8 % 16 ∧ t.val / 8 % 16 ≤ 11
  · rw [outsAt0_C m c t (by omega) hq hk, outC, if_neg (by omega), if_neg (by omega), if_pos (by omega)]
    exact rot_turned m c t (y 0) (y 1)
  · rw [outsAt0_A m c t (by omega) hq hk, outA]
    refine (mm_at m c t (y 0) (y 1)).trans ?_
    by_cases h : (col t (y 1) : ℕ) < 4608
    · rw [if_pos h]
    · rw [if_neg h, if_neg (by omega), if_neg (by omega)]

theorem final (c : Dev nD) : (dats m 0 c).arrAt 4 (cfgs 0).N = R m c := by
  refine (dats m 0 c).arrAt_eq_of_covers 4 _ (by decide +kernel) fun t hf y => ?_
  blk_simp
  rw [after0_4]
  exact (block_at m c t y).trans (place t y (y 0) (y 1) rfl rfl _)

end Cert.ProjFinal

end
-- ==== Proof.ProjClaim.lean ====
/- The input projection: both programs end with equal results. -/
module

public import Idealize.ShloMosaic.Lib.Claim
public import proofs.«01_k».proof.Defs
public import proofs.«01_k».proof.Proof.ProjFinal

@[expose] public section

set_option maxRecDepth 16384

noncomputable section

namespace Cert.ProjClaim

open Idealize.ShloMosaic Idealize.ShloMosaic.TcCoe Idealize.SL.Sem

theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · refine (θ_run _ _ _).mono (fun r h c => ⟨(h c).1.trans ((Cert.ProjRef.res0 m' c).trans ?_), (h c).2⟩) (Cert.Reference3Ideal.Value.run m' g')
    obtain ⟨h0, h1, h2⟩ := hagree c
    unfold Cert.ProjRef.out0
    rw [h0, h1, h2]
    exact (Cert.ProjFinal.final m c).symm

end Cert.ProjClaim

end
-- ==== Proof.Merge1Ref.lean ====
/- The second layer: the reference's gated merge and its logits, stage by stage, read at an entry. -/
module

public import Idealize.ShloMosaic.Lib.Pipeline.ValueKit
public import proofs.«01_k».proof.Proof.Gen.Reference4Ideal.Run

@[expose] public section

set_option maxRecDepth 16384

noncomputable section

namespace Cert.Merge1Ref

open Cert.Reference4Ideal Cert.Reference4Ideal.Gen Idealize.ShloMosaic Idealize.ShloMosaic.TcCoe

/-- The logistic function as the programs write it. -/
def sg (z : EReal) : EReal := Ideal.div 1 (1 + Ideal.exp (-z))

/-- The gates' arguments. -/
def ug (h : FVec Ideal S8192x2048 .bf16) (w : FVec Ideal S2x2048x20480 .bf16) : FVec Ideal S8192x8192 .f32 :=
  Host.dotGeneral dot_S8192x2048_S2048x8192_S8192x8192_1_0_0_1_n_n none (extf .f32 h bitsLt_bf16_f32) (extf .f32 (shapeCast _ (extractStridedSlice S1x2048x8192 ![1, 0, 12288] w slices_S2x2048x20480_S1x2048x8192_1_0_12288) shapeCasts_S1x2048x8192_S2048x8192) bitsLt_bf16_f32)
/-- The gates by branch. -/
def gates (u : FVec Ideal S8192x8192 .f32) : FVec Ideal S8192x4x2048 .f32 :=
  Host.divf (broadcastInDim S8192x4x2048 ![] bcast_S_S8192x4x2048 (constant S_ .f32 0x3F800000#32)) (addf (broadcastInDim S8192x4x2048 ![] bcast_S_S8192x4x2048 (constant S_ .f32 0x3F800000#32)) (Host.exp (Host.negf (shapeCast _ u shapeCasts_S8192x8192_S8192x4x2048))))
/-- The four branches beside one another. -/
def stk (a b : FVec Ideal S8192x768 .bf16) (c : FVec Ideal S8192x768 .f32) (d : FVec Ideal S8192x768 .bf16) : FVec Ideal S8192x4x768 .f32 :=
  concatenate S8192x4x768 1 [⟨S8192x1x768, (broadcastInDim S8192x1x768 ![0, 2] bcast_S8192x768_S8192x1x768_0_2 (extf .f32 a bitsLt_bf16_f32) : FVec Ideal S8192x1x768 .f32)⟩, ⟨S8192x1x768, (broadcastInDim S8192x1x768 ![0, 2] bcast_S8192x768_S8192x1x768_0_2 (extf .f32 b bitsLt_bf16_f32) : FVec Ideal S8192x1x768 .f32)⟩, ⟨S8192x1x768, (broadcastInDim S8192x1x768 ![0, 2] bcast_S8192x768_S8192x1x768_0_2 c : FVec Ideal S8192x1x768 .f32)⟩, ⟨S8192x1x768, (broadcastInDim S8192x1x768 ![0, 2] bcast_S8192x768_S8192x1x768_0_2 (extf .f32 d bitsLt_bf16_f32) : FVec Ideal S8192x1x768 .f32)⟩] concatenates_S8192x1x768_S8192x1x768_S8192x1x768_S8192x1x768_S8192x4x768_d1
/-- The branches' projections. -/
def prj (y : FVec Ideal S8192x4x768 .f32) (wb : FVec Ideal S2x4x768x2048 .f32) : FVec Ideal S8192x4x2048 .f32 :=
  transpose S8192x4x2048 [2, 0, 1] (Host.dotGeneral dot_S4x768x2048_S8192x4x768_S4x2048x8192_1_2_2_0_0_1 none (shapeCast _ (extractStridedSlice S1x4x768x2048 ![1, 0, 0, 0] wb slices_S2x4x768x2048_S1x4x768x2048_1_0_0_0) shapeCasts_S1x4x768x2048_S4x768x2048) y) transposes_S4x2048x8192_S8192x4x2048_2_0_1
/-- The gated sum. -/
def mrg (g p : FVec Ideal S8192x4x2048 .f32) : FVec Ideal S8192x2048 .f32 :=
  Host.reduceAdd (mulf g p) (constant S_ .f32 0x00000000#32) reducesTo_S8192x4x2048_S8192x2048_d1 h_S_
/-- The residual. -/
def res (x y : FVec Ideal S8192x2048 .f32) (wo : FVec Ideal S2x2048x2048 .f32) : FVec Ideal S8192x2048 .f32 :=
  addf x (Host.dotGeneral dot_S8192x2048_S2048x2048_S8192x2048_1_0_0_1_n_n none y (shapeCast _ (extractStridedSlice S1x2048x2048 ![1, 0, 0] wo slices_S2x2048x2048_S1x2048x2048_1_0_0) shapeCasts_S1x2048x2048_S2048x2048))
/-- The norm. -/
def nrm (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
/-- The padded logits. -/
def lgt (y : FVec Ideal S8192x2048 .f32) (wg : FVec Ideal S2048x8 .f32) (bg : FVec Ideal S8 .f32) (we : FVec Ideal S2048x64 .f32) (be : FVec Ideal S64 .f32) : FVec Ideal S8192x128 .f32 :=
  pad S8192x128 ![0, 0] ![0, 56] ![0, 0] (concatenate S8192x72 1 [⟨S8192x8, (addf (Host.dotGeneral dot_S8192x2048_S2048x8_S8192x8_1_0_0_1_n_n none y wg) (broadcastInDim S8192x8 ![0, 1] bcast_S1x8_S8192x8_0_1 (broadcastInDim S1x8 ![1] bcast_S8_S1x8_1 bg)))⟩, ⟨S8192x64, (addf (Host.dotGeneral dot_S8192x2048_S2048x64_S8192x64_1_0_0_1_n_n none y we) (broadcastInDim S8192x64 ![0, 1] bcast_S1x64_S8192x64_0_1 (broadcastInDim S1x64 ![1] bcast_S64_S1x64_1 be)))⟩] concatenates_S8192x8_S8192x64_S8192x72_d1) (sitofp .f32 (constantI S_ 32 0#32)) pads_S8192x72_S8192x128_000_0560 h_S_

section
variable (h : FVec Ideal S8192x2048 .bf16) (a b : FVec Ideal S8192x768 .bf16) (c : FVec Ideal S8192x768 .f32) (d : FVec Ideal S8192x768 .bf16) (w : FVec Ideal S2x2048x20480 .bf16) (wb : FVec Ideal S2x4x768x2048 .f32) (wo : FVec Ideal S2x2048x2048 .f32) (x : FVec Ideal S8192x2048 .f32) (g : FVec Ideal S2048 .f32) (wg : FVec Ideal S2048x8 .f32) (bg : FVec Ideal S8 .f32) (we : FVec Ideal S2048x64 .f32) (be : FVec Ideal S64 .f32)
def REF0 : FVec Ideal S8192x2048 .f32 := res x (mrg (gates (ug h w)) (prj (stk a b c d) wb)) wo
def REF1 : FVec Ideal S8192x128 .f32 := lgt (nrm (REF0 h a b c d w wb wo x) g) wg bg we be
end

section
variable (m : (ℓ : Loc nD τ sig) → Buf (Elt Ideal) ℓ) (t : Dev nD)
/-- The two results as the stages composed. -/
def out0 : FVec Ideal S8192x2048 .f32 := REF0 (m ((t.tc : Thread nD τ).loc main_arg0)) (m ((t.tc : Thread nD τ).loc main_arg1)) (m ((t.tc : Thread nD τ).loc main_arg2)) (m ((t.tc : Thread nD τ).loc main_arg3)) (m ((t.tc : Thread nD τ).loc main_arg4)) (m ((t.tc : Thread nD τ).loc main_arg5)) (m ((t.tc : Thread nD τ).loc main_arg6)) (m ((t.tc : Thread nD τ).loc main_arg7)) (m ((t.tc : Thread nD τ).loc main_arg8))
def out1 : FVec Ideal S8192x128 .f32 := REF1 (m ((t.tc : Thread nD τ).loc main_arg0)) (m ((t.tc : Thread nD τ).loc main_arg1)) (m ((t.tc : Thread nD τ).loc main_arg2)) (m ((t.tc : Thread nD τ).loc main_arg3)) (m ((t.tc : Thread nD τ).loc main_arg4)) (m ((t.tc : Thread nD τ).loc main_arg5)) (m ((t.tc : Thread nD τ).loc main_arg6)) (m ((t.tc : Thread nD τ).loc main_arg7)) (m ((t.tc : Thread nD τ).loc main_arg8)) (m ((t.tc : Thread nD τ).loc main_arg9)) (m ((t.tc : Thread nD τ).loc main_arg10)) (m ((t.tc : Thread nD τ).loc main_arg11)) (m ((t.tc : Thread nD τ).loc main_arg12)) (m ((t.tc : Thread nD τ).loc main_arg13))
theorem res1 : Value.res_out1 m t = out1 m t := rfl
end

theorem ug_at (h : FVec Ideal S8192x2048 .bf16) (w : FVec Ideal S2x2048x20480 .bf16) (s : Fin 8192) (e : Fin 8192) :
    ug h w (ix2 s e) = ∑ j : Fin 2048, h (ix2 s j) * w (ix3 1 j ⟨12288 + e, by omega⟩) := by
  pointwise [ug]
theorem gates_at (u : FVec Ideal S8192x8192 .f32) (s : Fin 8192) (k : Fin 4) (e : Fin 2048) :
    gates u (ix3 s k e) = sg (u (ix2 s ⟨k * 2048 + e, by omega⟩)) := by
  unfold sg
  pointwise [gates]
theorem prj_at (y : FVec Ideal S8192x4x768 .f32) (wb : FVec Ideal S2x4x768x2048 .f32) (s : Fin 8192) (k : Fin 4) (e : Fin 2048) :
    prj y wb (ix3 s k e) = ∑ j : Fin 768, y (ix3 s k j) * wb (ix4 1 k j e) := by
  pointwise [prj]
  exact Finset.sum_congr rfl fun j _ => mul_comm _ _
theorem stk_at (a b : FVec Ideal S8192x768 .bf16) (c : FVec Ideal S8192x768 .f32) (d : FVec Ideal S8192x768 .bf16) (s : Fin 8192) (j : Fin 768) :
    stk a b c d (ix3 s 0 j) = a (ix2 s j) ∧ stk a b c d (ix3 s 1 j) = b (ix2 s j) ∧ stk a b c d (ix3 s 2 j) = c (ix2 s j) ∧ stk a b c d (ix3 s 3 j) = d (ix2 s j) := by
  refine ⟨?_, ?_, ?_, ?_⟩
  all_goals (pointwise [stk]; try blk_point [])
theorem mrg_at (g p : FVec Ideal S8192x4x2048 .f32) (s : Fin 8192) (e : Fin 2048) :
    mrg g p (ix2 s e) = ∑ k : Fin 4, g (ix3 s k e) * p (ix3 s k e) := by
  pointwise [mrg]
theorem res_at (x y : FVec Ideal S8192x2048 .f32) (wo : FVec Ideal S2x2048x2048 .f32) (s : Fin 8192) (e : Fin 2048) :
    res x y wo (ix2 s e) = x (ix2 s e) + ∑ j : Fin 2048, y (ix2 s j) * wo (ix3 1 j e) := by
  pointwise [res]
/-- The norm of a row. -/
def nrow (x : Fin 2048 → EReal) (g : Fin 2048 → EReal) (e : Fin 2048) : EReal :=
  x e * Ideal.rsqrt (Ideal.div (∑ j, x j * x j) (Ideal.ofBits .f32 0x45000000#32) + Ideal.ofBits .f32 0x358637BD#32) * g e
theorem nrm_at (x : FVec Ideal S8192x2048 .f32) (g : FVec Ideal S2048 .f32) (s : Fin 8192) (e : Fin 2048) :
    nrm x g (ix2 s e) = nrow (fun j => x (ix2 s j)) (fun j => g (ix1 j)) e := by
  unfold nrow
  pointwise [nrm]
/-- A lane of the router's padded weights and of its padded bias. -/
def rwt (wg : FVec Ideal S2048x8 .f32) (we : FVec Ideal S2048x64 .f32) (j : Fin 2048) (l : Fin 128) : EReal :=
  if h : (l : ℕ) < 8 then wg (ix2 j ⟨l, h⟩) else if h' : (l : ℕ) < 72 then we (ix2 j ⟨l - 8, by omega⟩) else 0
def rb (bg : FVec Ideal S8 .f32) (be : FVec Ideal S64 .f32) (l : Fin 128) : EReal :=
  if h : (l : ℕ) < 8 then bg (ix1 ⟨l, h⟩) else if h' : (l : ℕ) < 72 then be (ix1 ⟨l - 8, by omega⟩) else 0
theorem lgt_at (y : FVec Ideal S8192x2048 .f32) (wg : FVec Ideal S2048x8 .f32) (bg : FVec Ideal S8 .f32) (we : FVec Ideal S2048x64 .f32) (be : FVec Ideal S64 .f32) (s : Fin 8192) (l : Fin 128) :
    lgt y wg bg we be (ix2 s l) = (∑ j : Fin 2048, y (ix2 s j) * rwt wg we j l) + rb bg be l := by
  unfold rwt rb
  pointwise [lgt]
  by_cases h1 : (l : ℕ) < 8
  · have h2 : (l : ℕ) < 72 := by omega
    simp [h1, h2]
  · by_cases h2 : (l : ℕ) < 72
    · simp [h1, h2]
    · simp [h1, h2, FloatOps.sitofp]

section
variable (h : FVec Ideal S8192x2048 .bf16) (a b : FVec Ideal S8192x768 .bf16) (c : FVec Ideal S8192x768 .f32) (d : FVec Ideal S8192x768 .bf16) (w : FVec Ideal S2x2048x20480 .bf16) (wb : FVec Ideal S2x4x768x2048 .f32) (wo : FVec Ideal S2x2048x2048 .f32) (x : FVec Ideal S8192x2048 .f32) (g : FVec Ideal S2048 .f32) (wg : FVec Ideal S2048x8 .f32) (bg : FVec Ideal S8 .f32) (we : FVec Ideal S2048x64 .f32) (be : FVec Ideal S64 .f32)

/-- A gate, a branch's projection, and the gated sum of the four branches, at an entry. -/
def gt (k : Fin 4) (s : Fin 8192) (e : Fin 2048) : EReal := sg (∑ j : Fin 2048, h (ix2 s j) * w (ix3 1 j ⟨12288 + (k * 2048 + e), by omega⟩))
def pj {φ : FTy} (y : FVec Ideal S8192x768 φ) (k : Fin 4) (s : Fin 8192) (e : Fin 2048) : EReal := ∑ j : Fin 768, y (ix2 s j) * wb (ix4 1 k j e)
def mg (s : Fin 8192) (e : Fin 2048) : EReal :=
  gt h w 0 s e * pj wb a 0 s e + gt h w 1 s e * pj wb b 1 s e + gt h w 2 s e * pj wb c 2 s e + gt h w 3 s e * pj wb d 3 s e
/-- The residual stream at an entry. -/
def xr (s : Fin 8192) (e : Fin 2048) : EReal := x (ix2 s e) + ∑ j : Fin 2048, mg h a b c d w wb s j * wo (ix3 1 j e)

theorem merged_at (s : Fin 8192) (e : Fin 2048) : mrg (gates (ug h w)) (prj (stk a b c d) wb) (ix2 s e) = mg h a b c d w wb s e := by
  obtain ⟨h0, h1, h2, h3⟩ : (∀ j : Fin 768, stk a b c d (ix3 s 0 j) = a (ix2 s j)) ∧ (∀ j : Fin 768, stk a b c d (ix3 s 1 j) = b (ix2 s j)) ∧ (∀ j : Fin 768, stk a b c d (ix3 s 2 j) = c (ix2 s j)) ∧ (∀ j : Fin 768, stk a b c d (ix3 s 3 j) = d (ix2 s j)) :=
    ⟨fun j => (stk_at a b c d s j).1, fun j => (stk_at a b c d s j).2.1, fun j => (stk_at a b c d s j).2.2.1, fun j => (stk_at a b c d s j).2.2.2⟩
  rw [mrg_at, Fin.sum_univ_four]
  simp only [gates_at, prj_at, ug_at, h0, h1, h2, h3]
  rfl

theorem ref0_at (s : Fin 8192) (e : Fin 2048) : REF0 h a b c d w wb wo x (ix2 s e) = xr h a b c d w wb wo x s e := by
  unfold REF0 xr
  rw [res_at]
  simp only [merged_at]

theorem ref1_at (s : Fin 8192) (l : Fin 128) : REF1 h a b c d w wb wo x g wg bg we be (ix2 s l)
    = (∑ j : Fin 2048, nrow (fun j => xr h a b c d w wb wo x s j) (fun j => g (ix1 j)) j * rwt wg we j l) + rb bg be l := by
  unfold REF1
  rw [lgt_at]
  simp only [nrm_at, ref0_at]
end

end Cert.Merge1Ref

end
-- ==== Proof.Merge1Unit.lean ====
/- The second layer: the merge kernel's payloads, read at an entry. -/
module

public import Idealize.ShloMosaic.Lib.Pipeline.ValueKit
public import proofs.«01_k».proof.Proof.Gen.Kernel4Ideal.Value
public import proofs.«01_k».proof.Proof.Merge1Ref

@[expose] public section

set_option maxRecDepth 16384

noncomputable section

namespace Cert.Merge1Unit

open Cert.Kernel4Ideal Cert.Kernel4Ideal.Gen Idealize.ShloMosaic Idealize.ShloMosaic.TcCoe
open Cert.Merge1Ref (sg nrow)

theorem zero_at (j : S512x2048.Idx) : k0_pay4 (F := Ideal) j = 0 := by pointwise [k0_pay4]

theorem acc_at (v51 v61 : FVec Ideal S512x256 .f32) (v62 : Vec Ideal S512x768 .bf16) (v63 : Vec Ideal S1x1x768x256 .bf16) (v68 : Vec Ideal S512x2048 .f32) (v70 : Vec Ideal S1x256x2048 .bf16) (r : Fin 512) (e : Fin 2048) :
    k0_pay1 v51 v61 v62 v63 v68 v70 (ix2 r e) = v68 (ix2 r e) + ∑ k : Fin 256, (v51 (ix2 r k) + v61 (ix2 r k) * ∑ j : Fin 768, v62 (ix2 r j) * v63 (ix4 0 0 j k)) * v70 (ix3 0 k e) := by
  pointwise [k0_pay1]

theorem gate0_at (v3 : Vec Ideal S512x2048 .bf16) (v4 : Vec Ideal S1x2048x256 .bf16) (v14 : Vec Ideal S512x768 .bf16) (v15 : Vec Ideal S1x1x768x256 .bf16) (r : Fin 512) (k : Fin 256) :
    k0_pay5 v3 v4 v14 v15 (ix2 r k) = sg (∑ j : Fin 2048, v3 (ix2 r j) * v4 (ix3 0 j k)) * ∑ j : Fin 768, v14 (ix2 r j) * v15 (ix4 0 0 j k) := by
  unfold sg
  pointwise [k0_pay5]
  all_goals (try simp only [zero_sub])

theorem gate1_at (v3 : Vec Ideal S512x2048 .bf16) (v4 : Vec Ideal S1x2048x256 .bf16) (r : Fin 512) (k : Fin 256) :
    k0_pay6 v3 v4 (ix2 r k) = sg (∑ j : Fin 2048, v3 (ix2 r j) * v4 (ix3 0 j k)) := by
  unfold sg
  pointwise [k0_pay6]
  all_goals (try simp only [zero_sub])

theorem gate2_at (v3 : Vec Ideal S512x2048 .bf16) (v18 v28 : FVec Ideal S512x256 .f32) (v29 : Vec Ideal S512x768 .bf16) (v30 : Vec Ideal S1x1x768x256 .bf16) (v35 : Vec Ideal S1x2048x256 .bf16) (v45 : Vec Ideal S512x768 .f32) (v47 : Vec Ideal S1x1x768x256 .bf16) (r : Fin 512) (k : Fin 256) :
    k0_pay7 v3 v18 v28 v29 v30 v35 v45 v47 (ix2 r k) = v18 (ix2 r k) + v28 (ix2 r k) * (∑ j : Fin 768, v29 (ix2 r j) * v30 (ix4 0 0 j k)) + sg (∑ j : Fin 2048, v3 (ix2 r j) * v35 (ix3 0 j k)) * ∑ j : Fin 768, v45 (ix2 r j) * v47 (ix4 0 0 j k) := by
  unfold sg
  pointwise [k0_pay7]
  all_goals (try simp only [zero_sub])

theorem gate3_at (v3 : Vec Ideal S512x2048 .bf16) (v4 : Vec Ideal S1x2048x256 .bf16) (r : Fin 512) (k : Fin 256) :
    k0_pay8 v3 v4 (ix2 r k) = sg (∑ j : Fin 2048, v3 (ix2 r j) * v4 (ix3 0 j k)) := by
  unfold sg
  pointwise [k0_pay8]
  all_goals (try simp only [zero_sub])

theorem sum_at (v80 v81 : Vec Ideal S512x2048 .f32) (j : S512x2048.Idx) : k0_pay2 v80 v81 j = v80 j + v81 j := by pointwise [k0_pay2]

theorem logit_at (v80 v81 : Vec Ideal S512x2048 .f32) (v94 : Vec Ideal S1x2048 .f32) (v98 : Vec Ideal S2048x128 .f32) (v101 : Vec Ideal S1x128 .f32) (r : Fin 512) (l : Fin 128) :
    k0_pay3 v80 v81 v94 v98 v101 (ix2 r l) = (∑ j : Fin 2048, nrow (fun j => v80 (ix2 r j) + v81 (ix2 r j)) (fun j => v94 (ix2 0 j)) j * v98 (ix2 j l)) + v101 (ix2 0 l) := by
  unfold nrow
  pointwise [k0_pay3, k0_pay2]

end Cert.Merge1Unit

end
-- ==== Proof.Merge1Blk.lean ====
/- The second layer: the merge kernel's staged blocks, read at an entry of the arrays. -/
module

public import proofs.«01_k».proof.Proof.Merge1Unit

@[expose] public section

set_option maxRecDepth 16384

noncomputable section

namespace Cert.Merge1Blk

open Cert.Kernel4Ideal Cert.Kernel4Ideal.Gen Idealize.ShloMosaic Idealize.ShloMosaic.TcCoe
open Cert.Merge1Ref (rwt rb)

theorem idx : ∀ t : Fin cfg0.N,
    (win0_0.index t = ![t.val / 8, 0] ∧ win0_1.index t = ![t.val / 8, 0] ∧ win0_2.index t = ![t.val / 8, 0]
      ∧ win0_3.index t = ![t.val / 8, 0] ∧ win0_4.index t = ![t.val / 8, 0]) ∧
    (win0_5.index t = ![1, 0, 48 + t.val % 8] ∧ win0_6.index t = ![1, 0, 56 + t.val % 8]
      ∧ win0_7.index t = ![1, 0, 64 + t.val % 8] ∧ win0_8.index t = ![1, 0, 72 + t.val % 8]) ∧
    (win0_9.index t = ![1, 0, 0, t.val % 8] ∧ win0_10.index t = ![1, 1, 0, t.val % 8]
      ∧ win0_11.index t = ![1, 2, 0, t.val % 8] ∧ win0_12.index t = ![1, 3, 0, t.val % 8]) ∧
    (win0_13.index t = ![1, t.val % 8, 0] ∧ win0_14.index t = ![t.val / 8, 0] ∧ win0_15.index t = ![0, 0]
      ∧ win0_16.index t = ![0, 0] ∧ win0_17.index t = ![0, 0] ∧ win0_18.index t = ![t.val / 8, 0] ∧ win0_19.index t = ![t.val / 8, 0]) :=
  (by decide +kernel : ∀ t : Fin grid0.N, _)

variable (m : (ℓ : Loc nD τ sig) → Buf (Elt Ideal) ℓ)

/-- The row of the arrays that row `r` of point `t`'s blocks is, and the column of its tile. -/
def row (t : Fin cfg0.N) (r : Fin 512) : Fin 8192 :=
  ⟨t.val / 8 * 512 + r, by have := lt_of_lt_of_eq t.isLt N_0; omega⟩
def col (t : Fin cfg0.N) (k : Fin 256) : Fin 2048 := ⟨t.val % 8 * 256 + k, by omega⟩

theorem b0 (c : Dev nD) (t : Fin cfg0.N) (r : Fin 512) (j : Fin 2048) :
    iblk m c 0 t (ix2 r j) = m ((c : Thread nD τ).loc main_arg0) (ix2 (row t r) j) := by
  unfold row; blk_point [iblk, V, (idx t).1]
theorem b1 (c : Dev nD) (t : Fin cfg0.N) (r : Fin 512) (j : Fin 768) :
    iblk m c 1 t (ix2 r j) = m ((c : Thread nD τ).loc main_arg1) (ix2 (row t r) j) := by
  unfold row; blk_point [iblk, V, (idx t).1]
theorem b2 (c : Dev nD) (t : Fin cfg0.N) (r : Fin 512) (j : Fin 768) :
    iblk m c 2 t (ix2 r j) = m ((c : Thread nD τ).loc main_arg2) (ix2 (row t r) j) := by
  unfold row; blk_point [iblk, V, (idx t).1]
theorem b3 (c : Dev nD) (t : Fin cfg0.N) (r : Fin 512) (j : Fin 768) :
    iblk m c 3 t (ix2 r j) = m ((c : Thread nD τ).loc main_arg3) (ix2 (row t r) j) := by
  unfold row; blk_point [iblk, V, (idx t).1]
theorem b4 (c : Dev nD) (t : Fin cfg0.N) (r : Fin 512) (j : Fin 768) :
    iblk m c 4 t (ix2 r j) = m ((c : Thread nD τ).loc main_arg4) (ix2 (row t r) j) := by
  unfold row; blk_point [iblk, V, (idx t).1]
theorem b5 (c : Dev nD) (t : Fin cfg0.N) (j : Fin 2048) (k : Fin 256) :
    iblk m c 5 t (ix3 0 j k) = m ((c : Thread nD τ).loc main_arg5) (ix3 1 j ⟨12288 + ((0 : Fin 4) * 2048 + col t k), by omega⟩) := by
  unfold col; blk_point [iblk, V, (idx t).2.1]
theorem b6 (c : Dev nD) (t : Fin cfg0.N) (j : Fin 2048) (k : Fin 256) :
    iblk m c 6 t (ix3 0 j k) = m ((c : Thread nD τ).loc main_arg5) (ix3 1 j ⟨12288 + ((1 : Fin 4) * 2048 + col t k), by omega⟩) := by
  unfold col; blk_point [iblk, V, (idx t).2.1]
theorem b7 (c : Dev nD) (t : Fin cfg0.N) (j : Fin 2048) (k : Fin 256) :
    iblk m c 7 t (ix3 0 j k) = m ((c : Thread nD τ).loc main_arg5) (ix3 1 j ⟨12288 + ((2 : Fin 4) * 2048 + col t k), by omega⟩) := by
  unfold col; blk_point [iblk, V, (idx t).2.1]
theorem b8 (c : Dev nD) (t : Fin cfg0.N) (j : Fin 2048) (k : Fin 256) :
    iblk m c 8 t (ix3 0 j k) = m ((c : Thread nD τ).loc main_arg5) (ix3 1 j ⟨12288 + ((3 : Fin 4) * 2048 + col t k), by omega⟩) := by
  unfold col; blk_point [iblk, V, (idx t).2.1]
theorem b9 (c : Dev nD) (t : Fin cfg0.N) (j : Fin 768) (k : Fin 256) :
    iblk m c 9 t (ix4 0 0 j k) = m ((c : Thread nD τ).loc main_arg6) (ix4 1 0 j (col t k)) := by
  unfold col; blk_point [iblk, (idx t).2.2.1]
theorem b10 (c : Dev nD) (t : Fin cfg0.N) (j : Fin 768) (k : Fin 256) :
    iblk m c 10 t (ix4 0 0 j k) = m ((c : Thread nD τ).loc main_arg6) (ix4 1 1 j (col t k)) := by
  unfold col; blk_point [iblk, (idx t).2.2.1]
theorem b11 (c : Dev nD) (t : Fin cfg0.N) (j : Fin 768) (k : Fin 256) :
    iblk m c 11 t (ix4 0 0 j k) = m ((c : Thread nD τ).loc main_arg6) (ix4 1 2 j (col t k)) := by
  unfold col; blk_point [iblk, (idx t).2.2.1]
theorem b12 (c : Dev nD) (t : Fin cfg0.N) (j : Fin 768) (k : Fin 256) :
    iblk m c 12 t (ix4 0 0 j k) = m ((c : Thread nD τ).loc main_arg6) (ix4 1 3 j (col t k)) := by
  unfold col; blk_point [iblk, (idx t).2.2.1]
theorem b13 (c : Dev nD) (t : Fin cfg0.N) (k : Fin 256) (e : Fin 2048) :
    iblk m c 13 t (ix3 0 k e) = m ((c : Thread nD τ).loc main_arg7) (ix3 1 (col t k) e) := by
  unfold col; blk_point [iblk, (idx t).2.2.2]
theorem b14 (c : Dev nD) (t : Fin cfg0.N) (r : Fin 512) (j : Fin 2048) :
    iblk m c 14 t (ix2 r j) = m ((c : Thread nD τ).loc main_arg8) (ix2 (row t r) j) := by
  unfold row; blk_point [iblk, V, (idx t).2.2.2]

theorem V7 (c : Dev nD) : V m c main_v7 = shapeCast S1x2048 (m ((c : Thread nD τ).loc main_arg9)) shapeCasts_S2048_S1x2048 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil, StableHlo.TRef.binary, StableHlo.TRef.unary, StableHlo.TRef.toBuf, StableHlo.TRef.ofBuf, cast_eq]
  after_results_simp
  all_goals rfl
theorem V1 (c : Dev nD) : V m c main_v1 = pad S2048x128 ![0, 0] ![0, 56] ![0, 0] (concatenate S2048x72 1 [⟨S2048x8, m ((c : Thread nD τ).loc main_arg10)⟩, ⟨S2048x64, m ((c : Thread nD τ).loc main_arg12)⟩] concatenates_S2048x8_S2048x64_S2048x72_d1) (sitofp (F := Ideal) .f32 (constantI S_ 32 0#32)) pads_S2048x72_S2048x128_000_0560 h_S_ := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil, StableHlo.TRef.binary, StableHlo.TRef.unary, StableHlo.TRef.toBuf, StableHlo.TRef.ofBuf, cast_eq]
  after_results_simp
  all_goals rfl
theorem V4 (c : Dev nD) : V m c main_v4 = shapeCast S1x128 (pad S128 ![0] ![56] ![0] (concatenate S72 0 [⟨S8, m ((c : Thread nD τ).loc main_arg11)⟩, ⟨S64, m ((c : Thread nD τ).loc main_arg13)⟩] concatenates_S8_S64_S72_d0) (sitofp (F := Ideal) .f32 (constantI S_ 32 0#32)) pads_S72_S128_0560 h_S_) shapeCasts_S128_S1x128 := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.cons_append, List.nil_append, List.append_nil, StableHlo.TRef.binary, StableHlo.TRef.unary, StableHlo.TRef.toBuf, StableHlo.TRef.ofBuf, cast_eq]
  after_results_simp
  all_goals rfl
theorem V7_at (c : Dev nD) (j : Fin 2048) : V m c main_v7 (ix2 0 j) = m ((c : Thread nD τ).loc main_arg9) (ix1 j) := by
  rw [V7]; pointwise
theorem V1_at (c : Dev nD) (j : Fin 2048) (l : Fin 128) :
    V m c main_v1 (ix2 j l) = rwt (m ((c : Thread nD τ).loc main_arg10)) (m ((c : Thread nD τ).loc main_arg12)) j l := by
  rw [V1]; unfold rwt
  pointwise
  by_cases h1 : l.val < 8
  · have h2 : l.val < 72 := by omega
    simp [h1, h2]
  · by_cases h2 : l.val < 72 <;> simp [h1, h2, FloatOps.sitofp]
theorem V4_at (c : Dev nD) (l : Fin 128) :
    V m c main_v4 (ix2 0 l) = rb (m ((c : Thread nD τ).loc main_arg11)) (m ((c : Thread nD τ).loc main_arg13)) l := by
  rw [V4]; unfold rb
  pointwise
  by_cases h1 : l.val < 8
  · have h2 : l.val < 72 := by omega
    simp [h1, h2]
  · by_cases h2 : l.val < 72 <;> simp [h1, h2, FloatOps.sitofp]
theorem b15 (c : Dev nD) (t : Fin cfg0.N) (j : Fin 2048) :
    iblk m c 15 t (ix2 0 j) = m ((c : Thread nD τ).loc main_arg9) (ix1 j) := by
  refine Eq.trans ?_ (V7_at m c j)
  blk_point [iblk, (idx t).2.2.2]
theorem b16 (c : Dev nD) (t : Fin cfg0.N) (j : Fin 2048) (l : Fin 128) :
    iblk m c 16 t (ix2 j l) = rwt (m ((c : Thread nD τ).loc main_arg10)) (m ((c : Thread nD τ).loc main_arg12)) j l := by
  refine Eq.trans ?_ (V1_at m c j l)
  blk_point [iblk, (idx t).2.2.2]
theorem b17 (c : Dev nD) (t : Fin cfg0.N) (l : Fin 128) :
    iblk m c 17 t (ix2 0 l) = rb (m ((c : Thread nD τ).loc main_arg11)) (m ((c : Thread nD τ).loc main_arg13)) l := by
  refine Eq.trans ?_ (V4_at m c l)
  blk_point [iblk, (idx t).2.2.2]

end Cert.Merge1Blk

end
-- ==== Proof.Merge1Value.lean ====
/- The second layer: the merge kernel's final arrays. -/
module

public import proofs.«01_k».proof.Proof.Merge1Unit

@[expose] public section

set_option maxRecDepth 16384

noncomputable section

namespace Cert.Merge1Value

open Cert.Kernel4Ideal Cert.Kernel4Ideal.Gen Idealize.ShloMosaic Idealize.ShloMosaic.TcCoe
open Cert.Merge1Unit

variable (m : (ℓ : Loc nD τ sig) → Buf (Elt Ideal) ℓ)

/-- A whole buffer filled so as to read `X` reads `X`. -/
theorem carried {Val : EltTy → Type} (b : Ref sig .tc) (h : (Memref.whole b).IsWhole) (X : b.ty.shape.Idx → Val b.ty.elt) :
    View.read Val (View.whole b) (h.unread X) = X := h.read_unread X

/-- The gated branch tile of a point, in two parts as the kernel adds them. -/
def tileA (c : Dev nD) (t : Fin cfg0.N) : FVec Ideal S512x256 .f32 :=
  k0_pay7 (iblk m c 0 t) (k0_pay5 (iblk m c 0 t) (iblk m c 5 t) (iblk m c 1 t) (iblk m c 9 t)) (k0_pay6 (iblk m c 0 t) (iblk m c 6 t)) (iblk m c 2 t) (iblk m c 10 t) (iblk m c 7 t) (iblk m c 3 t) (iblk m c 11 t)
def tileB (c : Dev nD) (t : Fin cfg0.N) : FVec Ideal S512x256 .f32 := k0_pay8 (iblk m c 0 t) (iblk m c 8 t)

theorem accA (c : Dev nD) (t : Fin cfg0.N) (h0 : t.val % 8 = 0) (h1 : ¬t.val % 8 = 7) :
    (outsAt0 m c t.val t.isLt).2.2 = k0_pay1 (tileA m c t) (tileB m c t) (iblk m c 4 t) (iblk m c 12 t) (k0_pay4 (F := Ideal)) (iblk m c 13 t) := by
  rw [outsAt0_A m c t h0 h1]
  frame_out
  all_goals rfl
theorem accB (c : Dev nD) (t : Fin cfg0.N) (h0 : ¬t.val % 8 = 0) :
    (outsAt0 m c t.val t.isLt).2.2 = k0_pay1 (tileA m c t) (tileB m c t) (iblk m c 4 t) (iblk m c 12 t) (outsAt0 m c (t.val - 1) (Nat.lt_of_le_of_lt (Nat.sub_le _ _) t.isLt)).2.2 (iblk m c 13 t) := by
  by_cases h1 : t.val % 8 = 7
  · rw [outsAt0_C m c t h0 h1]
    generalize (outsAt0 m c (t.val - 1) (Nat.lt_of_le_of_lt (Nat.sub_le _ _) t.isLt)).2.2 = X
    frame_out [carried]
    all_goals rfl
  · rw [outsAt0_B m c t h0 h1]
    generalize (outsAt0 m c (t.val - 1) (Nat.lt_of_le_of_lt (Nat.sub_le _ _) t.isLt)).2.2 = X
    frame_out [carried]
    all_goals rfl
theorem out0C (c : Dev nD) (t : Fin cfg0.N) (h1 : t.val % 8 = 7) :
    (outsAt0 m c t.val t.isLt).1 = k0_pay2 (iblk m c 14 t) (outsAt0 m c t.val t.isLt).2.2 := by
  rw [accB m c t (by omega), outsAt0_C m c t (by omega) h1]
  generalize (outsAt0 m c (t.val - 1) (Nat.lt_of_le_of_lt (Nat.sub_le _ _) t.isLt)).2.2 = X
  frame_out [carried]
  all_goals rfl
theorem out1C (c : Dev nD) (t : Fin cfg0.N) (h1 : t.val % 8 = 7) :
    (outsAt0 m c t.val t.isLt).2.1 = k0_pay3 (iblk m c 14 t) (outsAt0 m c t.val t.isLt).2.2 (iblk m c 15 t) (iblk m c 16 t) (iblk m c 17 t) := by
  rw [accB m c t (by omega), outsAt0_C m c t (by omega) h1]
  generalize (outsAt0 m c (t.val - 1) (Nat.lt_of_le_of_lt (Nat.sub_le _ _) t.isLt)).2.2 = X
  frame_out [carried]
  all_goals rfl

end Cert.Merge1Value

end
-- ==== Proof.Merge1Final.lean ====
/- The second layer: the merge kernel's final arrays are the reference's. -/
module

public import proofs.«01_k».proof.Proof.Merge1Blk
public import proofs.«01_k».proof.Proof.Merge1Value

@[expose] public section

set_option maxRecDepth 16384

noncomputable section

namespace Cert.Merge1Final

open Cert.Kernel4Ideal Cert.Kernel4Ideal.Gen Idealize.ShloMosaic Idealize.ShloMosaic.TcCoe
open Cert.Merge1Unit Cert.Merge1Blk Cert.Merge1Value
open Cert.Merge1Ref (REF0 REF1 mg xr gt pj nrow rwt rb ref0_at ref1_at)

variable (m : (ℓ : Loc nD τ sig) → Buf (Elt Ideal) ℓ)

/-- The gated sum, the residual stream, and the two results, at the memory's arguments. -/
def MG (c : Dev nD) (s : Fin 8192) (e : Fin 2048) : EReal :=
  mg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) s e
def XR (c : Dev nD) (s : Fin 8192) (e : Fin 2048) : EReal :=
  xr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s e
def R0 (c : Dev nD) : FVec Ideal S8192x2048 .f32 :=
  REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def R1 (c : Dev nD) : FVec Ideal S8192x128 .f32 :=
  REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem tileA_at (c : Dev nD) (t : Fin cfg0.N) (r : Fin 512) (k : Fin 256) :
    tileA m c t (ix2 r k) = gt (m ((c : Thread nD τ).loc main_arg0)) (m ((c : Thread nD τ).loc main_arg5)) 0 (row t r) (col t k) * pj (φ := .bf16) (m ((c : Thread nD τ).loc main_arg6)) (m ((c : Thread nD τ).loc main_arg1)) 0 (row t r) (col t k)
      + gt (m ((c : Thread nD τ).loc main_arg0)) (m ((c : Thread nD τ).loc main_arg5)) 1 (row t r) (col t k) * pj (φ := .bf16) (m ((c : Thread nD τ).loc main_arg6)) (m ((c : Thread nD τ).loc main_arg2)) 1 (row t r) (col t k)
      + gt (m ((c : Thread nD τ).loc main_arg0)) (m ((c : Thread nD τ).loc main_arg5)) 2 (row t r) (col t k) * pj (φ := .f32) (m ((c : Thread nD τ).loc main_arg6)) (m ((c : Thread nD τ).loc main_arg3)) 2 (row t r) (col t k) := by
  unfold tileA gt pj
  rw [gate2_at, gate0_at, gate1_at]
  simp only [b0, b1, b2, b3, b5, b6, b7, b9, b10, b11]

theorem tileB_at (c : Dev nD) (t : Fin cfg0.N) (r : Fin 512) (k : Fin 256) :
    tileB m c t (ix2 r k) = gt (m ((c : Thread nD τ).loc main_arg0)) (m ((c : Thread nD τ).loc main_arg5)) 3 (row t r) (col t k) := by
  unfold tileB gt
  rw [gate3_at]
  simp only [b0, b8]

/-- What one point adds to the accumulator. -/
def add (c : Dev nD) (t : Fin cfg0.N) (p : Fin 512 × Fin 2048) : EReal :=
  ∑ k : Fin 256, MG m c (row t p.1) (col t k) * m ((c : Thread nD τ).loc main_arg7) (ix3 1 (col t k) p.2)

theorem unit_at (c : Dev nD) (t : Fin cfg0.N) (X : Vec Ideal S512x2048 .f32) (p : Fin 512 × Fin 2048) :
    k0_pay1 (tileA m c t) (tileB m c t) (iblk m c 4 t) (iblk m c 12 t) X (iblk m c 13 t) (ix2 p.1 p.2) = X (ix2 p.1 p.2) + add m c t p := by
  rw [acc_at]
  simp only [tileA_at, tileB_at, b4, b12, b13]
  rfl

theorem acc_sum (c : Dev nD) (t : Fin cfg0.N) (ht : t.val % 8 = 7) (r : Fin 512) (e : Fin 2048) :
    (outsAt0 m c t.val t.isLt).2.2 (ix2 r e) = ∑ j : Fin 2048, MG m c (row t r) j * m ((c : Thread nD τ).loc main_arg7) (ix3 1 j e) := by
  have key := Pipeline.eq_sum_fin_of_reset_step_apply_of_flush (N := cfg0.N)
    (fun n hn (p : Fin 512 × Fin 2048) => (outsAt0 m c n hn).2.2 (ix2 p.1 p.2)) 8 (fun _ => (0 : EReal)) (add m c)
    (fun t h0 p => by
      show (outsAt0 m c t.val t.isLt).2.2 (ix2 p.1 p.2) = _
      rw [accA m c t h0 (by omega), unit_at, zero_at])
    (fun t h0 p => by
      show (outsAt0 m c t.val t.isLt).2.2 (ix2 p.1 p.2) = _
      rw [accB m c t h0, unit_at]) t ht (r, e)
  refine key.trans ?_
  rw [zero_add]
  unfold add
  refine Fin.sum_mul_add_congr (fun s k hl => ?_)
  have e1 : row (⟨8 * (t.val / 8) + s.val, Pipeline.run_point_lt_of_flush t ht s⟩ : Fin cfg0.N) r = row t r := by
    apply Fin.ext; simp only [row]; omega
  have e2 : col (⟨8 * (t.val / 8) + s.val, Pipeline.run_point_lt_of_flush t ht s⟩ : Fin cfg0.N) k = ⟨s.val * 256 + k.val, hl⟩ := by
    apply Fin.ext; simp only [col]; omega
  simp only [e1, e2]

theorem sum0 (c : Dev nD) (t : Fin cfg0.N) (ht : t.val % 8 = 7) (r : Fin 512) (e : Fin 2048) (A B : Vec Ideal S512x2048 .f32)
    (hA : A = iblk m c 14 t) (hB : B = (outsAt0 m c t.val t.isLt).2.2) : A (ix2 r e) + B (ix2 r e) = XR m c (row t r) e :=
  congrArg₂ (fun a b : EReal => a + b) ((congrFun hA _).trans (b14 m c t r e)) ((congrFun hB _).trans (acc_sum m c t ht r e))

theorem logits (A B : Vec Ideal S512x2048 .f32) (G : Vec Ideal S1x2048 .f32) (W : Vec Ideal S2048x128 .f32) (b : Vec Ideal S1x128 .f32)
    (r : Fin 512) (l : Fin 128) (x g w : Fin 2048 → EReal) (z : EReal) (hx : ∀ j, A (ix2 r j) + B (ix2 r j) = x j)
    (hg : ∀ j, G (ix2 0 j) = g j) (hw : ∀ j, W (ix2 j l) = w j) (hb : b (ix2 0 l) = z) :
    k0_pay3 A B G W b (ix2 r l) = (∑ j : Fin 2048, nrow x g j * w j) + z := by
  rw [logit_at]
  simp only [hx, hg, hw, hb]

theorem place0 (t : Fin cfg0.N) (y : S512x2048.Idx) (r : Fin 512) (e : Fin 2048) (h0 : (y 0 : ℕ) = r) (h1 : (y 1 : ℕ) = e)
    (R : FVec Ideal S8192x2048 .f32) : R (ix2 (row t r) e) = R ((win0_18.blk t).view.emb y) := by
  unfold row
  blk_point [(idx t).2.2.2]

theorem place1 (t : Fin cfg0.N) (y : S512x128.Idx) (r : Fin 512) (e : Fin 128) (h0 : (y 0 : ℕ) = r) (h1 : (y 1 : ℕ) = e)
    (R : FVec Ideal S8192x128 .f32) : R (ix2 (row t r) e) = R ((win0_19.blk t).view.emb y) := by
  unfold row
  blk_point [(idx t).2.2.2]

theorem at0 (c : Dev nD) (t : Fin cfg0.N) (ht : t.val % 8 = 7) (r : Fin 512) (e : Fin 2048) :
    (outsAt0 m c t.val t.isLt).1 (ix2 r e) = R0 m c (ix2 (row t r) e) := by
  refine (congrFun (out0C m c t ht) _).trans ((sum_at _ _ _).trans ((sum0 m c t ht r e _ _ rfl rfl).trans ?_))
  unfold R0 XR
  rw [ref0_at]

theorem at1 (c : Dev nD) (t : Fin cfg0.N) (ht : t.val % 8 = 7) (r : Fin 512) (l : Fin 128) :
    (outsAt0 m c t.val t.isLt).2.1 (ix2 r l) = R1 m c (ix2 (row t r) l) := by
  refine (congrFun (out1C m c t ht) _).trans ((logits _ _ _ _ _ r l (XR m c (row t r)) (fun j => m ((c : Thread nD τ).loc main_arg9) (ix1 j))
    (fun j => rwt (m ((c : Thread nD τ).loc main_arg10)) (m ((c : Thread nD τ).loc main_arg12)) j l) (rb (m ((c : Thread nD τ).loc main_arg11)) (m ((c : Thread nD τ).loc main_arg13)) l)
    (fun j => sum0 m c t ht r j _ _ rfl rfl) (fun j => b15 m c t j) (fun j => b16 m c t j l) (b17 m c t l)).trans ?_)
  unfold R1 XR
  rw [ref1_at]

theorem final0 (c : Dev nD) : (dats m 0 c).arrAt 18 (cfgs 0).N = R0 m c := by
  refine (dats m 0 c).arrAt_eq_of_covers 18 _ (by decide +kernel) fun t hf y => ?_
  blk_simp
  rw [after0_18]
  refine Eq.trans ?_ ((at0 m c t ((flush0_18 t).mp hf) (y 0) (y 1)).trans (place0 t y (y 0) (y 1) rfl rfl _))
  exact congrArg (outsAt0 m c t.val t.isLt).1 (by funext a; fin_cases a <;> rfl)

theorem final1 (c : Dev nD) : (dats m 0 c).arrAt 19 (cfgs 0).N = R1 m c := by
  refine (dats m 0 c).arrAt_eq_of_covers 19 _ (by decide +kernel) fun t hf y => ?_
  blk_simp
  rw [after0_19]
  refine Eq.trans ?_ ((at1 m c t ((flush0_19 t).mp hf) (y 0) (y 1)).trans (place1 t y (y 0) (y 1) rfl rfl _))
  exact congrArg (outsAt0 m c t.val t.isLt).2.1 (by funext a; fin_cases a <;> rfl)

end Cert.Merge1Final

end
-- ==== Proof.Merge1Claim.lean ====
/- The second layer: the merge: both programs end with equal results. -/
module

public import Idealize.ShloMosaic.Lib.Claim
public import proofs.«01_k».proof.Defs
public import proofs.«01_k».proof.Proof.Merge1Final

@[expose] public section

set_option maxRecDepth 16384

noncomputable section

namespace Cert.Merge1Claim

open Idealize.ShloMosaic Idealize.ShloMosaic.TcCoe Idealize.SL.Sem

theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · refine (θ_run _ _ _).mono (fun r h c => ⟨(h c).1.trans ((show _ = Cert.Merge1Ref.out0 m' c from rfl).trans ?_),
      (h c).2.1.trans ((Cert.Merge1Ref.res1 m' c).trans ?_), (h c).2.2⟩) (Cert.Reference4Ideal.Value.run m' g')
    · obtain ⟨h0, h1, h2, h3, h4, h5, h6, h7, h8, h9, h10, h11, h12, h13⟩ := hagree c
      unfold Cert.Merge1Ref.out0
      rw [h0, h1, h2, h3, h4, h5, h6, h7, h8]
      exact (Cert.Merge1Final.final0 m c).symm
    · obtain ⟨h0, h1, h2, h3, h4, h5, h6, h7, h8, h9, h10, h11, h12, h13⟩ := hagree c
      unfold Cert.Merge1Ref.out1
      rw [h0, h1, h2, h3, h4, h5, h6, h7, h8, h9, h10, h11, h12, h13]
      exact (Cert.Merge1Final.final1 m c).symm

end Cert.Merge1Claim

end
-- ==== Proof.Proj1Unit.lean ====
/- The second layer: the input projection's tiles, read at an entry. -/
module

public import Idealize.ShloMosaic.Lib.Pipeline.ValueKit
public import proofs.«01_k».proof.Proof.Gen.Kernel5Ideal.Value

@[expose] public section

set_option maxRecDepth 16384

noncomputable section

namespace Cert.Proj1Unit

open Cert.Kernel5Ideal Cert.Kernel5Ideal.Gen Idealize.ShloMosaic Idealize.ShloMosaic.TcCoe

/-- A row of the activations against a column of the weights' block. -/
def mm (x : Vec Ideal S1024x2048 .bf16) (w : Vec Ideal S1x2048x768 .bf16) (r : Fin 1024) (e : Fin 768) : EReal :=
  ∑ j : Fin 2048, x (ix2 r j) * w (ix3 0 j e)

/-- The rotary of a column: the product times the cosine, plus the product half a head away times the signed sine. -/
def rot (x : Vec Ideal S1024x2048 .bf16) (w : Vec Ideal S1x2048x768 .bf16) (C S : Vec Ideal S1024x128 .f32) (r : Fin 1024) (e : Fin 768) : EReal :=
  mm x w r e * C (ix2 r ⟨e % 128, by omega⟩) + mm x w r ⟨e / 128 * 128 + (e % 128 + 64) % 128, by omega⟩ * S (ix2 r ⟨e % 128, by omega⟩)

/-- The rotary written at a row, two columns and a lane that are equal to the ones it names. -/
theorem rot_at (x : Vec Ideal S1024x2048 .bf16) (w : Vec Ideal S1x2048x768 .bf16) (C S : Vec Ideal S1024x128 .f32) (r r' : Fin 1024) (e e' p : Fin 768) (l : Fin 128)
    (hr : (r : ℕ) = r') (he : (e : ℕ) = e') (hp : (e : ℕ) / 128 * 128 + ((e : ℕ) % 128 + 64) % 128 = p) (hl : (e : ℕ) % 128 = l) :
    (∑ j : Fin 2048, x (ix2 r' j) * w (ix3 0 j e')) * C (ix2 r' l) + (∑ j : Fin 2048, x (ix2 r' j) * w (ix3 0 j p)) * S (ix2 r' l) = rot x w C S r e := by
  obtain rfl : r = r' := Fin.ext hr
  obtain rfl : e = e' := Fin.ext he
  have b1 : (e : ℕ) / 128 * 128 + ((e : ℕ) % 128 + 64) % 128 < 768 := by clear hp hl; omega
  have b2 : (e : ℕ) % 128 < 128 := by clear hp hl; omega
  have h1 : p = ⟨(e : ℕ) / 128 * 128 + ((e : ℕ) % 128 + 64) % 128, b1⟩ := Fin.ext hp.symm
  have h2 : l = ⟨(e : ℕ) % 128, b2⟩ := Fin.ext hl.symm
  subst h1 h2
  rfl

/-- The same with a factor behind it. -/
theorem rot_of (x : Vec Ideal S1024x2048 .bf16) (w : Vec Ideal S1x2048x768 .bf16) (C S : Vec Ideal S1024x128 .f32) (z : EReal) (r r' : Fin 1024) (e e' p : Fin 768) (l : Fin 128)
    (hr : (r : ℕ) = r') (he : (e : ℕ) = e') (hp : (e : ℕ) / 128 * 128 + ((e : ℕ) % 128 + 64) % 128 = p) (hl : (e : ℕ) % 128 = l) :
    ((∑ j : Fin 2048, x (ix2 r' j) * w (ix3 0 j e')) * C (ix2 r' l) + (∑ j : Fin 2048, x (ix2 r' j) * w (ix3 0 j p)) * S (ix2 r' l)) * z = rot x w C S r e * z :=
  congrArg (· * z) (rot_at x w C S r r' e e' p l hr he hp hl)

variable (c : Dev nD) (i : grid0.Coords) (arg2 : Memref sig .tc .vmem S1024x2048 .bf16) (harg2 : arg2.IsWhole) (arg3 : Memref sig .tc .vmem S1x2048x768 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x768 .f32) (harg6 : arg6.IsWhole)
variable (X : Vec Ideal S1024x2048 .bf16) (W : Vec Ideal S1x2048x768 .bf16) (C S : Vec Ideal S1024x128 .f32)

theorem outA (hc0 : cond0_0 i) (hc1 : ¬cond0_1 i) (hc2 : ¬cond0_2 i) (y : S1024x768.Idx) :
    out0_A_4 c i arg2 harg2 arg3 harg3 arg4 harg4 arg5 harg5 arg6 harg6 hc0 hc1 hc2 X W C S y = mm X W (y 0) (y 1) := by
  unfold mm
  frame_out
  idx_vars y
  pointwise [k0_pay1]

theorem outB (hc0 : ¬cond0_0 i) (hc1 : cond0_1 i) (hc2 : ¬cond0_2 i) (y : S1024x768.Idx) :
    out0_B_4 c i arg2 harg2 arg3 harg3 arg4 harg4 arg5 harg5 arg6 harg6 hc0 hc1 hc2 X W C S y = rot X W C S (y 0) (y 1) * Ideal.ofBits .f32 0x3DB504F3#32 := by
  frame_out
  canon_tiles x h
  all_goals
    open_payloads
    pointwise
    refine rot_of X W C S _ (y 0) _ (y 1) _ _ _ ?_ ?_ ?_ ?_ <;> simp only [h0, h1] <;> omega

theorem outC (hc0 : ¬cond0_0 i) (hc1 : ¬cond0_1 i) (hc2 : cond0_2 i) (y : S1024x768.Idx) :
    out0_C_4 c i arg2 harg2 arg3 harg3 arg4 harg4 arg5 harg5 arg6 harg6 hc0 hc1 hc2 X W C S y = rot X W C S (y 0) (y 1) := by
  frame_out
  canon_tiles x h
  all_goals
    open_payloads
    pointwise
    refine rot_at X W C S (y 0) _ (y 1) _ _ _ ?_ ?_ ?_ ?_ <;> simp only [h0, h1] <;> omega

end Cert.Proj1Unit

end
-- ==== Proof.Proj1Ref.lean ====
/- The second layer: the reference's projection with rotary, stage by stage, read at an entry. -/
module

public import Idealize.ShloMosaic.Lib.Pipeline.ValueKit
public import proofs.«01_k».proof.Proof.Gen.Reference5Ideal.Run

@[expose] public section

set_option maxRecDepth 16384

noncomputable section

namespace Cert.Proj1Ref

open Cert.Reference5Ideal Cert.Reference5Ideal.Gen Idealize.ShloMosaic Idealize.ShloMosaic.TcCoe

/-- The projection. -/
def uu (h : FVec Ideal S8192x2048 .bf16) (w : FVec Ideal S2x2048x20480 .bf16) : FVec Ideal S8192x12288 .f32 :=
  Host.dotGeneral dot_S8192x2048_S2048x12288_S8192x12288_1_0_0_1_n_n none (extf .f32 h bitsLt_bf16_f32) (extf .f32 (shapeCast _ (extractStridedSlice S1x2048x12288 ![1, 0, 0] w slices_S2x2048x20480_S1x2048x12288_1_0_0) shapeCasts_S1x2048x12288_S2048x12288) bitsLt_bf16_f32)
/-- The angles. -/
def ang (p : Vec Ideal S8192 .i32) : FVec Ideal S8192x1x64 .f32 :=
  shapeCast _ (mulf (broadcastInDim S8192x64 ![0, 1] bcast_S8192x1_S8192x64_0_1 (broadcastInDim S8192x1 ![0] bcast_S8192_S8192x1_0 (sitofp .f32 p))) (broadcastInDim S8192x64 ![0, 1] bcast_S1x64_S8192x64_0_1 (broadcastInDim S1x64 ![1] bcast_S64_S1x64_1 (Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32))))))) shapeCasts_S8192x64_S8192x1x64
/-- The rotary of the heads. -/
def hd (x : FVec Ideal S8192x18x128 .f32) (a : FVec Ideal S8192x1x64 .f32) : FVec Ideal S8192x18x128 .f32 :=
  concatenate S8192x18x128 2 [⟨S8192x18x64, (subf (mulf (extractStridedSlice S8192x18x64 ![0, 0, 0] x slices_S8192x18x128_S8192x18x64_0_0_0) (broadcastInDim S8192x18x64 ![0, 1, 2] bcast_S8192x1x64_S8192x18x64_0_1_2 (Host.cos a))) (mulf (extractStridedSlice S8192x18x64 ![0, 0, 64] x slices_S8192x18x128_S8192x18x64_0_0_64) (broadcastInDim S8192x18x64 ![0, 1, 2] bcast_S8192x1x64_S8192x18x64_0_1_2 (Host.sin a))))⟩, ⟨S8192x18x64, (addf (mulf (extractStridedSlice S8192x18x64 ![0, 0, 64] x slices_S8192x18x128_S8192x18x64_0_0_64) (broadcastInDim S8192x18x64 ![0, 1, 2] bcast_S8192x1x64_S8192x18x64_0_1_2 (Host.cos a))) (mulf (extractStridedSlice S8192x18x64 ![0, 0, 0] x slices_S8192x18x128_S8192x18x64_0_0_0) (broadcastInDim S8192x18x64 ![0, 1, 2] bcast_S8192x1x64_S8192x18x64_0_1_2 (Host.sin a))))⟩] concatenates_S8192x18x64_S8192x18x64_S8192x18x128_d2
/-- The result from the projection. -/
def fin (u : FVec Ideal S8192x12288 .f32) (a : FVec Ideal S8192x1x64 .f32) : FVec Ideal S8192x12288 .f32 :=
  concatenate S8192x12288 1 [⟨S8192x4608, ((extractStridedSlice S8192x4608 ![0, 0] u slices_S8192x12288_S8192x4608_0_0) : (⟨S8192x4608, .f32⟩ : BufTy).Contents (Elt Ideal))⟩, ⟨S8192x2304, ((shapeCast _ (mulf (hd (shapeCast _ (extractStridedSlice S8192x2304 ![0, 4608] u slices_S8192x12288_S8192x2304_0_4608) shapeCasts_S8192x2304_S8192x18x128) a) (broadcastInDim S8192x18x128 ![] bcast_S_S8192x18x128 (constant S_ .f32 0x3DB504F3#32))) shapeCasts_S8192x18x128_S8192x2304) : (⟨S8192x2304, .f32⟩ : BufTy).Contents (Elt Ideal))⟩, ⟨S8192x2304, ((shapeCast _ (hd (shapeCast _ (extractStridedSlice S8192x2304 ![0, 6912] u slices_S8192x12288_S8192x2304_0_6912) shapeCasts_S8192x2304_S8192x18x128) a) shapeCasts_S8192x18x128_S8192x2304) : (⟨S8192x2304, .f32⟩ : BufTy).Contents (Elt Ideal))⟩, ⟨S8192x3072, ((extractStridedSlice S8192x3072 ![0, 9216] u slices_S8192x12288_S8192x3072_0_9216) : (⟨S8192x3072, .f32⟩ : BufTy).Contents (Elt Ideal))⟩] concatenates_S8192x4608_S8192x2304_S8192x2304_S8192x3072_S8192x12288_d1

section
variable (m : (ℓ : Loc nD τ sig) → Buf (Elt Ideal) ℓ) (t : Dev nD)
def out0 : FVec Ideal S8192x12288 .f32 := fin (uu (m ((t.tc : Thread nD τ).loc main_arg0)) (m ((t.tc : Thread nD τ).loc main_arg1))) (ang (m ((t.tc : Thread nD τ).loc main_arg2)))
theorem res0 : Value.res_out0 m t = out0 m t := rfl
end

theorem uu_at (h : FVec Ideal S8192x2048 .bf16) (w : FVec Ideal S2x2048x20480 .bf16) (s : Fin 8192) (e : Fin 12288) :
    uu h w (ix2 s e) = ∑ j : Fin 2048, h (ix2 s j) * w (ix3 1 j ⟨e, by omega⟩) := by
  pointwise [uu]
/-- The angle of a position and a lane. -/
def th (p : BitVec 32) (l : ℕ) : EReal :=
  FloatOps.sitofp (F := Ideal) FTy.f32 p * Ideal.pow (Ideal.ofBits .f32 0x461C4000#32) (Ideal.div (-(FloatOps.sitofp (F := Ideal) FTy.f32 (BitVec.ofNat 32 l)) * Ideal.ofBits .f32 0x40000000#32) (Ideal.ofBits .f32 0x43000000#32))
theorem ang_at (p : Vec Ideal S8192 .i32) (s : Fin 8192) (l : Fin 64) :
    ang p (ix3 s 0 l) = th (p (ix1 s)) l := by
  unfold th
  pointwise [ang]
/-- The rotary of a head's columns by the angles of its lanes. -/
def rotl (x : Fin 128 → EReal) (a : ℕ → EReal) (l : Fin 128) : EReal :=
  if h : (l : ℕ) < 64 then x l * Ideal.cos (a l) - x ⟨64 + l, by omega⟩ * Ideal.sin (a l)
  else x l * Ideal.cos (a (l - 64)) + x ⟨l - 64, by omega⟩ * Ideal.sin (a (l - 64))
theorem hd_at (x : FVec Ideal S8192x18x128 .f32) (p : Vec Ideal S8192 .i32) (s : Fin 8192) (k : Fin 18) (l : Fin 128) :
    hd x (ang p) (ix3 s k l) = rotl (fun l => x (ix3 s k l)) (th (p (ix1 s))) l := by
  unfold rotl
  pointwise [hd, ang_at]
  by_cases h : (l : ℕ) < 64
  · simp only [h, dif_pos, ang_at]
  · simp only [h, dif_neg, not_false_eq_true, ang_at]
    have e : (⟨64 + (l - 64), by omega⟩ : Fin 128) = l := Fin.ext (by simp only; omega)
    rw [e]
theorem cols (u : FVec Ideal S8192x12288 .f32) (s : Fin 8192) (k : Fin 18) (l : Fin 128) :
    (shapeCast S8192x18x128 (extractStridedSlice S8192x2304 ![0, 4608] u slices_S8192x12288_S8192x2304_0_4608) shapeCasts_S8192x2304_S8192x18x128 (ix3 s k l) = u (ix2 s ⟨4608 + (k * 128 + l), by omega⟩)) ∧
    (shapeCast S8192x18x128 (extractStridedSlice S8192x2304 ![0, 6912] u slices_S8192x12288_S8192x2304_0_6912) shapeCasts_S8192x2304_S8192x18x128 (ix3 s k l) = u (ix2 s ⟨6912 + (k * 128 + l), by omega⟩)) := by
  constructor <;> pointwise
theorem rotl_congr (x y : Fin 128 → EReal) (a : ℕ → EReal) (l l' : Fin 128) (h : ∀ j, x j = y j) (hl : (l : ℕ) = l') : rotl x a l = rotl y a l' := by
  obtain rfl : x = y := funext h
  obtain rfl : l = l' := Fin.ext hl
  rfl
/-- The head a column belongs to, turned by the angles of the row's position. -/
def turned (u : FVec Ideal S8192x12288 .f32) (p : Vec Ideal S8192 .i32) (s : Fin 8192) (e : Fin 12288) : EReal :=
  rotl (fun l => u (ix2 s ⟨e / 128 * 128 + l, by omega⟩)) (th (p (ix1 s))) ⟨e % 128, by omega⟩
theorem fin_at (u : FVec Ideal S8192x12288 .f32) (p : Vec Ideal S8192 .i32) (s : Fin 8192) (e : Fin 12288) :
    fin u (ang p) (ix2 s e) = if (e : ℕ) < 4608 then u (ix2 s e) else if (e : ℕ) < 6912 then turned u p s e * Ideal.ofBits .f32 0x3DB504F3#32
      else if (e : ℕ) < 9216 then turned u p s e else u (ix2 s e) := by
  unfold turned
  pointwise [fin]
  simp only [hd_at]
  by_cases h1 : (e : ℕ) < 4608
  · simp only [h1, dif_pos, if_true]
  by_cases h2 : (e : ℕ) < 6912
  · have g2 : (e : ℕ) - 4608 < 2304 := by omega
    simp only [h1, h2, g2, dif_pos, dif_neg, not_false_eq_true, if_true, if_false]
    refine congrArg (fun z : EReal => z * Ideal.ofBits .f32 0x3DB504F3#32) (rotl_congr _ _ _ _ _ (fun l => ?_) ?_)
    · rw [(cols u s _ l).1]
      exact congrArg (fun z => u (ix2 s z)) (Fin.ext (by simp only; omega))
    · simp only; omega
  have g2 : ¬(e : ℕ) - 4608 < 2304 := by omega
  by_cases h3 : (e : ℕ) < 9216
  · have g3 : (e : ℕ) - 4608 - 2304 < 2304 := by omega
    simp only [h1, h2, h3, g2, g3, dif_pos, dif_neg, not_false_eq_true, if_true, if_false]
    refine rotl_congr _ _ _ _ _ (fun l => ?_) ?_
    · rw [(cols u s _ l).2]
      exact congrArg (fun z => u (ix2 s z)) (Fin.ext (by simp only; omega))
    · simp only; omega
  · have g3 : ¬(e : ℕ) - 4608 - 2304 < 2304 := by omega
    simp only [h1, h2, h3, g2, g3, dif_neg, not_false_eq_true, if_false]
    exact congrArg (fun z => u (ix2 s z)) (Fin.ext (by simp only; omega))

end Cert.Proj1Ref

end
-- ==== Proof.Proj1Blk.lean ====
/- The second layer: the projection kernel's staged blocks, read at an entry of the arrays. -/
module

public import proofs.«01_k».proof.Proof.Proj1Unit
public import proofs.«01_k».proof.Proof.Proj1Ref

@[expose] public section

set_option maxRecDepth 16384

noncomputable section

namespace Cert.Proj1Blk

open Cert.Kernel5Ideal Cert.Kernel5Ideal.Gen Idealize.ShloMosaic Idealize.ShloMosaic.TcCoe
open Cert.Proj1Ref (th)

theorem idx : ∀ t : Fin cfg0.N,
    (win0_0.index t = ![t.val % 8, 0] ∧ win0_1.index t = ![1, 0, t.val / 8]) ∧
    (win0_2.index t = ![t.val % 8, 0] ∧ win0_3.index t = ![t.val % 8, 0] ∧ win0_4.index t = ![t.val % 8, t.val / 8]) :=
  (by decide +kernel : ∀ t : Fin grid0.N, _)

variable (m : (ℓ : Loc nD τ sig) → Buf (Elt Ideal) ℓ)

/-- The row of the arrays that row `r` of point `t`'s blocks is, and the column of its tile. -/
def row (t : Fin cfg0.N) (r : Fin 1024) : Fin 8192 := ⟨t.val % 8 * 1024 + r, by omega⟩
def col (t : Fin cfg0.N) (k : Fin 768) : Fin 12288 :=
  ⟨t.val / 8 * 768 + k, by have := lt_of_lt_of_eq t.isLt N_0; omega⟩

theorem b0 (c : Dev nD) (t : Fin cfg0.N) (r : Fin 1024) (j : Fin 2048) :
    iblk m c 0 t (ix2 r j) = m ((c : Thread nD τ).loc main_arg0) (ix2 (row t r) j) := by
  unfold row; blk_point [iblk, V, (idx t).1]

theorem b1 (c : Dev nD) (t : Fin cfg0.N) (j : Fin 2048) (k : Fin 768) :
    X0_1 m c t (ix3 0 j k) = m ((c : Thread nD τ).loc main_arg1) (ix3 1 j ⟨col t k, by omega⟩) := by
  unfold X0_1 Pipeline.Window.fill
  rw [dif_pos (moved0_1 t _)]
  unfold col
  blk_point [iblk, V, (idx t).1]

/-- The angles of the rows and lanes as the kernel's host code writes them. -/
def an (p : Vec Ideal S8192 .i32) : FVec Ideal S8192x128 .f32 :=
  mulf (broadcastInDim S8192x128 ![0, 1] bcast_S8192x1_S8192x128_0_1 (sitofp .f32 (shapeCast S8192x1 p shapeCasts_S8192_S8192x1)))
    (broadcastInDim S8192x128 ![0, 1] bcast_S1x128_S8192x128_0_1 (shapeCast S1x128
      (concatenate S128 0 [⟨S64, Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))⟩,
        ⟨S64, Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))⟩] concatenates_S64_S64_S128_d0) shapeCasts_S128_S1x128))

theorem an_at (p : Vec Ideal S8192 .i32) (s : Fin 8192) (l : Fin 128) : an p (ix2 s l) = th (p (ix1 s)) (if (l : ℕ) < 64 then l else l - 64) := by
  unfold th
  pointwise [an]
  by_cases h : (l : ℕ) < 64 <;> simp only [h, if_true, if_false, dif_pos, dif_neg, not_false_eq_true]

theorem V17 (c : Dev nD) : V m c main_v17 = Host.cos (an (m ((c : Thread nD τ).loc main_arg2))) := by
  show StableHlo.after (List.flatten [hostOps0, hostOps0_1]) _ _ = _
  simp only [hostOps0, hostOps0_1, List.flatten_cons, List.flatten_nil, List.cons_append, List.nil_append, List.append_nil, StableHlo.TRef.ternary, StableHlo.TRef.toBuf, StableHlo.TRef.ofBuf, cast_eq]
  after_results_simp
  all_goals rfl
theorem V21 (c : Dev nD) : V m c main_v21 = select (cmpi .slt (iotaInDim S8192x128 32 1) (broadcastInDim S8192x128 ![] bcast_S_S8192x128 (constantI S_ 32 64#32)))
    (Host.negf (Host.sin (an (m ((c : Thread nD τ).loc main_arg2))))) (Host.sin (an (m ((c : Thread nD τ).loc main_arg2)))) := by
  show StableHlo.after (List.flatten [hostOps0, hostOps0_1]) _ _ = _
  simp only [hostOps0, hostOps0_1, List.flatten_cons, List.flatten_nil, List.cons_append, List.nil_append, List.append_nil, StableHlo.TRef.ternary, StableHlo.TRef.toBuf, StableHlo.TRef.ofBuf, cast_eq]
  after_results_simp
  all_goals rfl

theorem V17_at (c : Dev nD) (s : Fin 8192) (l : Fin 128) :
    V m c main_v17 (ix2 s l) = Ideal.cos (th (m ((c : Thread nD τ).loc main_arg2) (ix1 s)) (if (l : ℕ) < 64 then l else l - 64)) := by
  rw [V17]
  pointwise
  rw [an_at]
/-- The kernel's test of a lane against the half of a head. -/
theorem below : ∀ l : Fin 128, IntOp.cmpi CmpIPredicate.slt (BitVec.ofNat 32 l) 64#32 = if (l : ℕ) < 64 then 1#1 else 0#1 := by
  decide +kernel
theorem V21_at (c : Dev nD) (s : Fin 8192) (l : Fin 128) :
    V m c main_v21 (ix2 s l) = if (l : ℕ) < 64 then -Ideal.sin (th (m ((c : Thread nD τ).loc main_arg2) (ix1 s)) l) else Ideal.sin (th (m ((c : Thread nD τ).loc main_arg2) (ix1 s)) (l - 64)) := by
  rw [V21]
  pointwise
  rw [an_at, below l]
  by_cases h : (l : ℕ) < 64 <;> simp [h, Scalar.select]

theorem b2 (c : Dev nD) (t : Fin cfg0.N) (r : Fin 1024) (l : Fin 128) :
    iblk m c 2 t (ix2 r l) = Ideal.cos (th (m ((c : Thread nD τ).loc main_arg2) (ix1 (row t r))) (if (l : ℕ) < 64 then l else l - 64)) := by
  refine Eq.trans ?_ (V17_at m c (row t r) l)
  unfold row; blk_point [iblk, (idx t).2]
theorem b3 (c : Dev nD) (t : Fin cfg0.N) (r : Fin 1024) (l : Fin 128) :
    iblk m c 3 t (ix2 r l) = if (l : ℕ) < 64 then -Ideal.sin (th (m ((c : Thread nD τ).loc main_arg2) (ix1 (row t r))) l) else Ideal.sin (th (m ((c : Thread nD τ).loc main_arg2) (ix1 (row t r))) (l - 64)) := by
  refine Eq.trans ?_ (V21_at m c (row t r) l)
  unfold row; blk_point [iblk, (idx t).2]

end Cert.Proj1Blk

end
-- ==== Proof.Proj1Final.lean ====
/- The second layer: the projection kernel's final array is the reference's. -/
module

public import proofs.«01_k».proof.Proof.Proj1Blk

@[expose] public section

set_option maxRecDepth 16384

noncomputable section

namespace Cert.Proj1Final

open Cert.Kernel5Ideal Cert.Kernel5Ideal.Gen Idealize.ShloMosaic Idealize.ShloMosaic.TcCoe
open Cert.Proj1Unit Cert.Proj1Blk
open Cert.Proj1Ref (th rotl turned uu uu_at fin fin_at ang)

variable (m : (ℓ : Loc nD τ sig) → Buf (Elt Ideal) ℓ)

/-- The projection at the memory's arguments, and the result. -/
def U (c : Dev nD) : FVec Ideal S8192x12288 .f32 := uu (m ((c : Thread nD τ).loc main_arg0)) (m ((c : Thread nD τ).loc main_arg1))
def P (c : Dev nD) : Vec Ideal S8192 .i32 := m ((c : Thread nD τ).loc main_arg2)
def R (c : Dev nD) : FVec Ideal S8192x12288 .f32 := fin (U m c) (ang (P m c))

theorem mm_at (c : Dev nD) (t : Fin cfg0.N) (r : Fin 1024) (k : Fin 768) :
    mm (iblk m c 0 t) (X0_1 m c t) r k = U m c (ix2 (row t r) (col t k)) := by
  unfold mm U
  rw [uu_at]
  exact Finset.sum_congr rfl fun j _ => congrArg₂ (fun a b : EReal => a * b) (b0 m c t r j) (b1 m c t j k)

/-- The product with the signed table is the turn of the two halves. -/
theorem spin (x : Fin 128 → EReal) (a : ℕ → EReal) (l : Fin 128) :
    x l * Ideal.cos (a (if (l : ℕ) < 64 then l else l - 64)) + x ⟨(l + 64) % 128, by omega⟩ * (if (l : ℕ) < 64 then -Ideal.sin (a l) else Ideal.sin (a (l - 64))) = rotl x a l := by
  unfold rotl
  by_cases h : (l : ℕ) < 64
  · have e : (⟨(l + 64) % 128, by omega⟩ : Fin 128) = ⟨64 + l, by omega⟩ := Fin.ext (by simp only; omega)
    simp only [h, if_true, dif_pos, e, mul_neg, sub_eq_add_neg]
  · have e : (⟨(l + 64) % 128, by omega⟩ : Fin 128) = ⟨l - 64, by omega⟩ := Fin.ext (by simp only; omega)
    simp only [h, if_false, dif_neg, not_false_eq_true, e]

theorem rot_turned (c : Dev nD) (t : Fin cfg0.N) (r : Fin 1024) (k : Fin 768) :
    rot (iblk m c 0 t) (X0_1 m c t) (iblk m c 2 t) (iblk m c 3 t) r k = turned (U m c) (P m c) (row t r) (col t k) := by
  have hc : (col t k : ℕ) = t.val / 8 * 768 + k := rfl
  have hl : (⟨k % 128, by omega⟩ : Fin 128) = ⟨col t k % 128, by omega⟩ := Fin.ext (by simp only [hc]; omega)
  refine Eq.trans ?_ (spin (fun l => U m c (ix2 (row t r) ⟨col t k / 128 * 128 + l, by omega⟩)) (th (P m c (ix1 (row t r)))) ⟨col t k % 128, by omega⟩)
  unfold rot
  refine congrArg₂ (fun a b : EReal => a + b) (congrArg₂ (fun a b : EReal => a * b) ?_ ?_) (congrArg₂ (fun a b : EReal => a * b) ?_ ?_)
  · exact (mm_at m c t r k).trans (congrArg (fun z => U m c (ix2 (row t r) z)) (Fin.ext (by simp only; omega)))
  · rw [hl]
    exact b2 m c t r _
  · exact (mm_at m c t r _).trans (congrArg (fun z => U m c (ix2 (row t r) z)) (Fin.ext (by simp only [col]; omega)))
  · rw [hl]
    exact b3 m c t r _

theorem place (t : Fin cfg0.N) (y : S1024x768.Idx) (r : Fin 1024) (e : Fin 768) (h0 : (y 0 : ℕ) = r) (h1 : (y 1 : ℕ) = e)
    (Z : FVec Ideal S8192x12288 .f32) : Z (ix2 (row t r) (col t e)) = Z ((win0_4.blk t).view.emb y) := by
  unfold row col
  blk_point [(idx t).2]

theorem block_at (c : Dev nD) (t : Fin cfg0.N) (y : S1024x768.Idx) :
    outsAt0 m c t.val t.isLt y = R m c (ix2 (row t (y 0)) (col t (y 1))) := by
  have hN : t.val < 128 := lt_of_lt_of_eq t.isLt N_0
  have hc : (col t (y 1) : ℕ) = t.val / 8 * 768 + (y 1 : ℕ) := rfl
  have hy : (y 1 : ℕ) < 768 := (y 1).isLt
  unfold R
  rw [fin_at]
  by_cases hq : 6 ≤ t.val / 8 % 16 ∧ t.val / 8 % 16 ≤ 8
  · rw [outsAt0_B m c t (by omega) hq (by omega), outB, if_neg (by omega), if_pos (by omega)]
    exact congrArg (fun z : EReal => z * Ideal.ofBits .f32 0x3DB504F3#32) (rot_turned m c t (y 0) (y 1))
  by_cases hk : 9 ≤ t.val / 8 % 16 ∧ t.val / 8 % 16 ≤ 11
  · rw [outsAt0_C m c t (by omega) hq hk, outC, if_neg (by omega), if_neg (by omega), if_pos (by omega)]
    exact rot_turned m c t (y 0) (y 1)
  · rw [outsAt0_A m c t (by omega) hq hk, outA]
    refine (mm_at m c t (y 0) (y 1)).trans ?_
    by_cases h : (col t (y 1) : ℕ) < 4608
    · rw [if_pos h]
    · rw [if_neg h, if_neg (by omega), if_neg (by omega)]

theorem final (c : Dev nD) : (dats m 0 c).arrAt 4 (cfgs 0).N = R m c := by
  refine (dats m 0 c).arrAt_eq_of_covers 4 _ (by decide +kernel) fun t hf y => ?_
  blk_simp
  rw [after0_4]
  exact (block_at m c t y).trans (place t y (y 0) (y 1) rfl rfl _)

end Cert.Proj1Final

end
-- ==== Proof.Proj1Claim.lean ====
/- The second layer: the input projection: both programs end with equal results. -/
module

public import Idealize.ShloMosaic.Lib.Claim
public import proofs.«01_k».proof.Defs
public import proofs.«01_k».proof.Proof.Proj1Final

@[expose] public section

set_option maxRecDepth 16384

noncomputable section

namespace Cert.Proj1Claim

open Idealize.ShloMosaic Idealize.ShloMosaic.TcCoe Idealize.SL.Sem

theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · refine (θ_run _ _ _).mono (fun r h c => ⟨(h c).1.trans ((Cert.Proj1Ref.res0 m' c).trans ?_), (h c).2⟩) (Cert.Reference5Ideal.Value.run m' g')
    obtain ⟨h0, h1, h2⟩ := hagree c
    unfold Cert.Proj1Ref.out0
    rw [h0, h1, h2]
    exact (Cert.Proj1Final.final m c).symm

end Cert.Proj1Claim

end
-- ==== Proof.TablesClaim.lean ====
/- The tables of the rotary: both programs end with equal results. -/
module

public import Idealize.ShloMosaic.Lib.Claim
public import Idealize.ShloMosaic.Lib.Pipeline.ValueKit
public import proofs.«01_k».proof.Defs
public import proofs.«01_k».proof.Proof.Gen.Kernel6Ideal.Frame
public import Idealize.ShloMosaic.Lib.Pipeline.Value
public import proofs.«01_k».proof.Proof.Gen.Reference6Ideal.Run

@[expose] public section

set_option maxRecDepth 16384

noncomputable section

namespace Cert.TablesRef

open Cert.Reference6Ideal Cert.Reference6Ideal.Gen Idealize.ShloMosaic Idealize.ShloMosaic.TcCoe

/-- The angles as the reference writes them. -/
def angles (p : Vec Ideal S8192 .i32) : FVec Ideal S8192x64 .f32 :=
  mulf (broadcastInDim S8192x64 ![0, 1] bcast_S8192x1_S8192x64_0_1 (broadcastInDim S8192x1 ![0] bcast_S8192_S8192x1_0 (sitofp .f32 p))) (broadcastInDim S8192x64 ![0, 1] bcast_S1x64_S8192x64_0_1 (broadcastInDim S1x64 ![1] bcast_S64_S1x64_1 (Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32))))))

def cosines (p : Vec Ideal S8192 .i32) : FVec Ideal S8192x128 .f32 :=
  concatenate S8192x128 1 [⟨S8192x64, Host.cos (angles p)⟩, ⟨S8192x64, Host.cos (angles p)⟩] concatenates_S8192x64_S8192x64_S8192x128_d1

def sines (p : Vec Ideal S8192 .i32) : FVec Ideal S8192x128 .f32 :=
  concatenate S8192x128 1 [⟨S8192x64, Host.negf (Host.sin (angles p))⟩, ⟨S8192x64, Host.sin (angles p)⟩] concatenates_S8192x64_S8192x64_S8192x128_d1

/-- The turning speed of a lane. -/
def speed (l : ℕ) : EReal :=
  Ideal.pow (Ideal.ofBits .f32 0x461C4000#32) (Ideal.div (-(FloatOps.sitofp (F := Ideal) FTy.f32 (BitVec.ofNat 32 l)) * Ideal.ofBits .f32 0x40000000#32) (Ideal.ofBits .f32 0x43000000#32))

/-- The lane of the half a lane of the head falls on. -/
def half (l : Fin 128) : ℕ := if (l : ℕ) < 64 then l else l - 64

/-- The cosine and the signed sine of a position at a lane. -/
def cs (p : BitVec 32) (v : EReal) : EReal := Ideal.cos (FloatOps.sitofp (F := Ideal) FTy.f32 p * v)
def sn (p : BitVec 32) (v : EReal) (l : Fin 128) : EReal :=
  if (l : ℕ) < 64 then -Ideal.sin (FloatOps.sitofp (F := Ideal) FTy.f32 p * v) else Ideal.sin (FloatOps.sitofp (F := Ideal) FTy.f32 p * v)

theorem angles_at (p : Vec Ideal S8192 .i32) (s : Fin 8192) (l : Fin 64) :
    angles p (ix2 s l) = FloatOps.sitofp (F := Ideal) FTy.f32 (p (ix1 s)) * speed l := by
  unfold speed
  pointwise [angles]

theorem cosines_at (p : Vec Ideal S8192 .i32) (s : Fin 8192) (l : Fin 128) :
    cosines p (ix2 s l) = cs (p (ix1 s)) (speed (half l)) := by
  unfold cs half
  by_cases h : (l : ℕ) < 64 <;> pointwise [cosines] <;> simp only [h, if_true, if_false, dif_pos, dif_neg, not_false_eq_true, angles_at]

theorem sines_at (p : Vec Ideal S8192 .i32) (s : Fin 8192) (l : Fin 128) :
    sines p (ix2 s l) = sn (p (ix1 s)) (speed (half l)) l := by
  unfold sn half
  by_cases h : (l : ℕ) < 64 <;> pointwise [sines] <;> simp only [h, if_true, if_false, dif_pos, dif_neg, not_false_eq_true, angles_at]

end Cert.TablesRef

namespace Cert.TablesClaim

open Cert.Kernel6Ideal Cert.Kernel6Ideal.Gen Idealize.ShloMosaic Idealize.ShloMosaic.TcCoe Idealize.SL.Sem
open Cert.TablesRef (cosines sines cosines_at sines_at speed half cs sn)

/-- The kernel's test of a lane against the half of a head. -/
theorem first : ∀ l : Fin 128, IntOp.cmpi CmpIPredicate.slt (BitVec.ofNat 32 l) 64#32 = if (l : ℕ) < 64 then 1#1 else 0#1 := by
  decide +kernel

theorem tile_cos (x : Vec Ideal S1024x1 .i32) (v : Vec Ideal S1x128 .f32) (y : S1024x128.Idx) :
    out0_2 x v y = cs (x (ix2 (y 0) 0)) (v (ix2 0 (y 1))) := by
  unfold cs
  frame_out
  idx_vars y
  pointwise [k0_pay2, k0_pay1]

theorem tile_sin (x : Vec Ideal S1024x1 .i32) (v : Vec Ideal S1x128 .f32) (y : S1024x128.Idx) :
    out0_3 x v y = sn (x (ix2 (y 0) 0)) (v (ix2 0 (y 1))) (y 1) := by
  unfold sn
  frame_out
  idx_vars y
  pointwise [k0_pay3, k0_pay1]
  rw [first y1]
  by_cases h : (y1 : ℕ) < 64 <;> simp [h, Scalar.select]

theorem idx : ∀ t : Fin cfg0.N,
    (win0_0.index t = ![t.val, 0] ∧ win0_1.index t = ![0, 0]) ∧ (win0_2.index t = ![t.val, 0] ∧ win0_3.index t = ![t.val, 0]) :=
  (by decide +kernel : ∀ t : Fin grid0.N, _)

variable (m : (ℓ : Loc nD τ sig) → Buf (Elt Ideal) ℓ)

/-- The row of the arrays that row `r` of point `t`'s block is. -/
def row (t : Fin cfg0.N) (r : Fin 1024) : Fin 8192 := ⟨t.val * 1024 + r, by have := lt_of_lt_of_eq t.isLt N_0; omega⟩

/-- The speeds as the host lines of the kernel write them. -/
def speeds : FVec Ideal S128 .f32 :=
  concatenate S128 0 [⟨S64, Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))⟩,
    ⟨S64, Host.powf (broadcastInDim S64 ![] bcast_S_S64 (constant S_ .f32 0x461C4000#32)) (Host.divf (mulf (Host.negf (sitofp .f32 (iotaInDim S64 32 0))) (broadcastInDim S64 ![] bcast_S_S64 (constant S_ .f32 0x40000000#32))) (broadcastInDim S64 ![] bcast_S_S64 (constant S_ .f32 0x43000000#32)))⟩] concatenates_S64_S64_S128_d0

theorem speeds_at (l : Fin 128) : speeds (ix1 l) = speed (half l) := by
  unfold half speed
  by_cases h : (l : ℕ) < 64 <;> pointwise [speeds] <;> simp only [h, if_true, if_false, dif_pos, dif_neg, not_false_eq_true]

theorem V9 (c : Dev nD) : V m c main_v9 = shapeCast S1x128 speeds shapeCasts_S128_S1x128 := by
  show StableHlo.after hostOps0 _ _ = _
  simp only [hostOps0, StableHlo.TRef.toBuf, StableHlo.TRef.ofBuf, cast_eq]
  after_results_simp
  all_goals rfl

theorem V10 (c : Dev nD) : V m c main_v10 = shapeCast S8192x1 (m ((c : Thread nD τ).loc main_arg0)) shapeCasts_S8192_S8192x1 := by
  show StableHlo.after hostOps0 _ _ = _
  simp only [hostOps0, StableHlo.TRef.toBuf, StableHlo.TRef.ofBuf, cast_eq]
  after_results_simp
  all_goals rfl

theorem V9_at (c : Dev nD) (l : Fin 128) : V m c main_v9 (ix2 0 l) = speed (half l) := by
  rw [V9, ← speeds_at]
  pointwise

theorem V10_at (c : Dev nD) (s : Fin 8192) : V m c main_v10 (ix2 s 0) = m ((c : Thread nD τ).loc main_arg0) (ix1 s) := by
  rw [V10]
  pointwise

theorem poses (c : Dev nD) (t : Fin cfg0.N) (r : Fin 1024) :
    iblk m c 0 t (ix2 r 0) = m ((c : Thread nD τ).loc main_arg0) (ix1 (row t r)) := by
  refine Eq.trans ?_ (V10_at m c (row t r))
  unfold row; blk_point [iblk, (idx t).1]

theorem turns (c : Dev nD) (t : Fin cfg0.N) (l : Fin 128) : iblk m c 1 t (ix2 0 l) = speed (half l) := by
  refine Eq.trans ?_ (V9_at m c l)
  blk_point [iblk, (idx t).1]

theorem place2 (t : Fin cfg0.N) (y : S1024x128.Idx) (r : Fin 1024) (e : Fin 128) (h0 : (y 0 : ℕ) = r) (h1 : (y 1 : ℕ) = e)
    (Z : FVec Ideal S8192x128 .f32) : Z (ix2 (row t r) e) = Z ((win0_2.blk t).view.emb y) := by
  unfold row
  blk_point [(idx t).2]

theorem place3 (t : Fin cfg0.N) (y : S1024x128.Idx) (r : Fin 1024) (e : Fin 128) (h0 : (y 0 : ℕ) = r) (h1 : (y 1 : ℕ) = e)
    (Z : FVec Ideal S8192x128 .f32) : Z (ix2 (row t r) e) = Z ((win0_3.blk t).view.emb y) := by
  unfold row
  blk_point [(idx t).2]

theorem final2 (c : Dev nD) : (dats m 0 c).arrAt 2 (cfgs 0).N = cosines (m ((c : Thread nD τ).loc main_arg0)) := by
  refine (dats m 0 c).arrAt_eq_of_covers 2 _ (by decide +kernel) fun t hf y => ?_
  blk_simp
  rw [after0_2]
  refine (tile_cos _ _ y).trans (Eq.trans ?_ (place2 t y (y 0) (y 1) rfl rfl _))
  refine Eq.trans ?_ (cosines_at _ (row t (y 0)) (y 1)).symm
  exact congrArg₂ (fun a b => cs a b) (poses m c t (y 0)) (turns m c t (y 1))

theorem final3 (c : Dev nD) : (dats m 0 c).arrAt 3 (cfgs 0).N = sines (m ((c : Thread nD τ).loc main_arg0)) := by
  refine (dats m 0 c).arrAt_eq_of_covers 3 _ (by decide +kernel) fun t hf y => ?_
  blk_simp
  rw [after0_3]
  refine (tile_sin _ _ y).trans (Eq.trans ?_ (place3 t y (y 0) (y 1) rfl rfl _))
  refine Eq.trans ?_ (sines_at _ (row t (y 0)) (y 1)).symm
  exact congrArg₂ (fun a b => sn a b (y 1)) (poses m c t (y 0)) (turns m c t (y 1))

/-- The run leaves the two tables and the positions as named. -/
theorem named (g : Dev nD → PrngReg) : θ_run defs (onTc (τ := τ) (main (F := Ideal))) ⟨m, fun _ => 0, g⟩ fun r => ∀ c : Dev nD,
    r.2.mem ((c : Thread nD τ).loc main_v11_0) = (dats m 0 c).arrAt 2 cfg0.N
      ∧ r.2.mem ((c : Thread nD τ).loc main_v11_1) = (dats m 0 c).arrAt 3 cfg0.N
      ∧ r.2.mem ((c : Thread nD τ).loc main_arg0) = m ((c : Thread nD τ).loc main_arg0) := by
  refine (θ_run defs _ _).mono (fun r h c => ⟨(h c).1 2, (h c).1 3, ?_⟩) (run_main m g)
  exact ((h c).2 main_arg0 (Pipeline.mem_restRefs_of main_arg0 (by decide) (by decide))).trans (V_main_arg0 m c)

theorem algebraic : Cert.algebraic_Kernel6Ideal_Reference6Ideal (hKernel6Ideal := Cert.Kernel6Ideal.Gen.facts)
    (hReference6Ideal := Cert.Reference6Ideal.Gen.facts) := by
  pair_intro
  · run_from named m g
  · refine (θ_run _ _ _).mono (fun r h c => ⟨(h c).1.trans ((show _ = cosines _ from rfl).trans ?_),
      (h c).2.1.trans ((show _ = sines _ from rfl).trans ?_), (h c).2.2⟩) (Cert.Reference6Ideal.Value.run m' g')
    · rw [hagree c]
      exact (final2 m c).symm
    · rw [hagree c]
      exact (final3 m c).symm

end Cert.TablesClaim

end
-- ==== Proof.NormClaim.lean ====
/- The first norm: both programs end with equal results. -/
module

public import Idealize.ShloMosaic.Lib.Claim
public import Idealize.ShloMosaic.Lib.Pipeline.ValueKit
public import proofs.«01_k».proof.Defs
public import proofs.«01_k».proof.Proof.Gen.Kernel7Ideal.Value
public import proofs.«01_k».proof.Proof.Gen.Reference7Ideal.Run

@[expose] public section

set_option maxRecDepth 16384

noncomputable section

namespace Cert.NormRef

open Cert.Reference7Ideal Cert.Reference7Ideal.Gen Idealize.ShloMosaic Idealize.ShloMosaic.TcCoe

/-- The norm as the reference writes it. -/
def nrm (x : FVec Ideal S8192x2048 .f32) (g : FVec Ideal S2048 .f32) : FVec Ideal S8192x2048 .bf16 :=
  truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

/-- A row over the root of its mean square, times the gain, at one place. -/
def one (row : Fin 2048 → EReal) (g : EReal) (e : Fin 2048) : EReal :=
  row e * Ideal.rsqrt (Ideal.div (∑ j : Fin 2048, row j * row j) (Ideal.ofBits .f32 0x45000000#32) + Ideal.ofBits .f32 0x358637BD#32) * g

theorem nrm_at (x : FVec Ideal S8192x2048 .f32) (g : FVec Ideal S2048 .f32) (s : Fin 8192) (e : Fin 2048) :
    nrm x g (ix2 s e) = one (fun j => x (ix2 s j)) (g (ix1 e)) e := by
  unfold one
  pointwise [nrm]

end Cert.NormRef

namespace Cert.NormClaim

open Cert.Kernel7Ideal Cert.Kernel7Ideal.Gen Idealize.ShloMosaic Idealize.ShloMosaic.TcCoe Idealize.SL.Sem
open Cert.NormRef (nrm nrm_at one)

theorem tile (x : Vec Ideal S512x2048 .f32) (g : Vec Ideal S1x2048 .f32) (y : S512x2048.Idx) :
    out0_2 x g y = one (fun j => x (ix2 (y 0) j)) (g (ix2 0 (y 1))) (y 1) := by
  unfold one
  frame_out
  idx_vars y
  pointwise [k0_pay1]

theorem idx : ∀ t : Fin cfg0.N,
    (win0_0.index t = ![t.val, 0] ∧ win0_1.index t = ![0, 0]) ∧ win0_2.index t = ![t.val, 0] :=
  (by decide +kernel : ∀ t : Fin grid0.N, _)

variable (m : (ℓ : Loc nD τ sig) → Buf (Elt Ideal) ℓ)

/-- The row of the arrays that row `r` of point `t`'s block is. -/
def row (t : Fin cfg0.N) (r : Fin 512) : Fin 8192 := ⟨t.val * 512 + r, by have := lt_of_lt_of_eq t.isLt N_0; omega⟩

theorem rows (c : Dev nD) (t : Fin cfg0.N) (r : Fin 512) (j : Fin 2048) :
    iblk m c 0 t (ix2 r j) = m ((c : Thread nD τ).loc main_arg0) (ix2 (row t r) j) := by
  refine Eq.trans ?_ (congrFun (V_main_arg0 m c) _)
  unfold row; blk_point [iblk, (idx t).1]

theorem V0 (c : Dev nD) : V m c main_v0 = shapeCast S1x2048 (m ((c : Thread nD τ).loc main_arg1)) shapeCasts_S2048_S1x2048 := by
  show StableHlo.after hostOps0 _ _ = _
  simp only [hostOps0, StableHlo.TRef.toBuf, StableHlo.TRef.ofBuf, cast_eq]
  after_results_simp
  all_goals rfl

theorem V0_at (c : Dev nD) (e : Fin 2048) : V m c main_v0 (ix2 0 e) = m ((c : Thread nD τ).loc main_arg1) (ix1 e) := by
  rw [V0]
  pointwise

theorem gain (c : Dev nD) (t : Fin cfg0.N) (e : Fin 2048) :
    iblk m c 1 t (ix2 0 e) = m ((c : Thread nD τ).loc main_arg1) (ix1 e) := by
  refine Eq.trans ?_ (V0_at m c e)
  blk_point [iblk, (idx t).1]

theorem place (t : Fin cfg0.N) (y : S512x2048.Idx) (r : Fin 512) (e : Fin 2048) (h0 : (y 0 : ℕ) = r) (h1 : (y 1 : ℕ) = e)
    (Z : FVec Ideal S8192x2048 .bf16) : Z (ix2 (row t r) e) = Z ((win0_2.blk t).view.emb y) := by
  unfold row
  blk_point [(idx t).2]

theorem final (c : Dev nD) : (dats m 0 c).arrAt 2 (cfgs 0).N = nrm (m ((c : Thread nD τ).loc main_arg0)) (m ((c : Thread nD τ).loc main_arg1)) := by
  refine (dats m 0 c).arrAt_eq_of_covers 2 _ (by decide +kernel) fun t hf y => ?_
  blk_simp
  rw [after0_2]
  refine (tile _ _ y).trans (Eq.trans ?_ (place t y (y 0) (y 1) rfl rfl _))
  refine Eq.trans ?_ (nrm_at _ _ (row t (y 0)) (y 1)).symm
  exact congrArg₂ (fun (a : Fin 2048 → EReal) (b : EReal) => one a b (y 1)) (funext fun j => rows m c t (y 0) j) (gain m c t (y 1))

theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · refine (θ_run _ _ _).mono (fun r h c => ⟨(h c).1.trans ((show _ = nrm _ _ from rfl).trans ?_), (h c).2⟩) (Cert.Reference7Ideal.Value.run m' g')
    obtain ⟨h0, h1⟩ := hagree c
    rw [h0, h1]
    exact (final m c).symm

end Cert.NormClaim

end
-- ==== Proof.ColsClaim.lean ====
/- The weights of the write strengths and decays: both programs end with equal results. -/
module

public import Idealize.ShloMosaic.Lib.Claim
public import Idealize.ShloMosaic.Lib.Pipeline.ValueKit
public import proofs.«01_k».proof.Defs
public import proofs.«01_k».proof.Proof.Gen.Kernel8Ideal.Value
public import proofs.«01_k».proof.Proof.Gen.Reference8Ideal.Run

@[expose] public section

set_option maxRecDepth 16384

noncomputable section

namespace Cert.ColsClaim

open Cert.Kernel8Ideal Cert.Kernel8Ideal.Gen Idealize.ShloMosaic Idealize.ShloMosaic.TcCoe Idealize.SL.Sem

/-- The columns as the reference takes them. -/
def part (w : FVec Ideal Cert.Reference8Ideal.S2x2048x20492 .f32) : FVec Ideal Cert.Reference8Ideal.S2x2048x128 .bf16 :=
  truncf .bf16 (extractStridedSlice Cert.Reference8Ideal.S2x2048x128 ![0, 0, 3072] w Cert.Reference8Ideal.Gen.facts.slices_S2x2048x20492_S2x2048x128_0_0_3072) bitsLt_bf16_f32

theorem part_at (w : FVec Ideal Cert.Reference8Ideal.S2x2048x20492 .f32) (l : Fin 2) (j : Fin 2048) (k : Fin 128) :
    part w (ix3 l j k) = w (ix3 l j ⟨3072 + k, by omega⟩) := by
  pointwise [part]

theorem tile (c : Dev nD) (i : grid0.Coords) (arg1 : Memref sig .tc .vmem S128x2x2048 .f32) (harg1 : arg1.IsWhole) (arg2 : Memref sig .tc .vmem S2x2048x128 .bf16) (harg2 : arg2.IsWhole)
    (X : Vec Ideal S128x2x2048 .f32) (y : S2x2048x128.Idx) :
    out0_A_1 c i arg1 harg1 arg2 harg2 X y = X (ix3 (y 2) (y 0) (y 1)) := by
  frame_out
  canon_tiles x h
  all_goals
    open_payloads
    pointwise
    refine congrArg X (funext fun a => Fin.ext ?_)
    match a with
    | ⟨0, _⟩ => exact h2.symm
    | ⟨1, _⟩ => first | (show (1 : ℕ) = (y 0 : ℕ); omega) | (show (0 : ℕ) = (y 0 : ℕ); omega)
    | ⟨2, _⟩ => exact h1.symm

theorem idx : ∀ t : Fin cfg0.N, win0_0.index t = ![24, 0, 0] ∧ win0_1.index t = ![0, 0, 0] :=
  (by decide +kernel : ∀ t : Fin grid0.N, _)

variable (m : (ℓ : Loc nD τ sig) → Buf (Elt Ideal) ℓ)

theorem V0 (c : Dev nD) : V m c main_v0 = transpose S20492x2x2048 [2, 0, 1] (m ((c : Thread nD τ).loc main_arg0)) transposes_S2x2048x20492_S20492x2x2048_2_0_1 := by
  show StableHlo.after hostOps0 _ _ = _
  simp only [hostOps0, StableHlo.TRef.toBuf, StableHlo.TRef.ofBuf, cast_eq]
  after_results_simp
  all_goals rfl

theorem V0_at (c : Dev nD) (k : Fin 20492) (l : Fin 2) (j : Fin 2048) : V m c main_v0 (ix3 k l j) = m ((c : Thread nD τ).loc main_arg0) (ix3 l j k) := by
  rw [V0]
  pointwise

theorem block (c : Dev nD) (t : Fin cfg0.N) (k : Fin 128) (l : Fin 2) (j : Fin 2048) :
    X0_0 m c t (ix3 k l j) = m ((c : Thread nD τ).loc main_arg0) (ix3 l j ⟨3072 + k, by omega⟩) := by
  refine Eq.trans ?_ (V0_at m c _ l j)
  unfold X0_0 Pipeline.Window.fill
  rw [dif_pos (moved0_0 t _)]
  blk_point [iblk, (idx t).1]

theorem place (t : Fin cfg0.N) (y : S2x2048x128.Idx) (l : Fin 2) (j : Fin 2048) (k : Fin 128) (h0 : (y 0 : ℕ) = l) (h1 : (y 1 : ℕ) = j) (h2 : (y 2 : ℕ) = k)
    (Z : FVec Ideal S2x2048x128 .bf16) : Z (ix3 l j k) = Z ((win0_1.blk t).view.emb y) := by
  blk_point [(idx t).2]

theorem final (c : Dev nD) : (dats m 0 c).arrAt 1 (cfgs 0).N = part (m ((c : Thread nD τ).loc main_arg0)) := by
  refine (dats m 0 c).arrAt_eq_of_covers 1 _ (by decide +kernel) fun t hf y => ?_
  blk_simp
  rw [after0_1]
  unfold outsAt0
  refine (tile c _ _ _ _ _ _ y).trans (Eq.trans ?_ (place t y (y 0) (y 1) (y 2) rfl rfl rfl _))
  exact (block m c t (y 2) (y 0) (y 1)).trans (part_at _ (y 0) (y 1) (y 2)).symm

theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · refine (θ_run _ _ _).mono (fun r h c => ⟨(h c).1.trans ((show _ = part _ from rfl).trans ?_), (h c).2⟩) (Cert.Reference8Ideal.Value.run m' g')
    rw [hagree c]
    exact (final m c).symm

end Cert.ColsClaim

end
-- ==== Proof.WriteClaim.lean ====
/- The projection of the write strengths and decays: both programs end with equal results. -/
module

public import Idealize.ShloMosaic.Lib.Claim
public import Idealize.ShloMosaic.Lib.Pipeline.ValueKit
public import proofs.«01_k».proof.Defs
public import proofs.«01_k».proof.Proof.Gen.Kernel9Ideal.Value
public import proofs.«01_k».proof.Proof.Gen.Reference9Ideal.Run

@[expose] public section

set_option maxRecDepth 16384

noncomputable section

namespace Cert.WriteRef

open Cert.Reference9Ideal Cert.Reference9Ideal.Gen Idealize.ShloMosaic Idealize.ShloMosaic.TcCoe

/-- The product as the reference writes it. -/
def prod (h : FVec Ideal S8192x2048 .bf16) (w : FVec Ideal S2x2048x128 .bf16) : FVec Ideal S8192x128 .f32 :=
  Host.dotGeneral dot_S8192x2048_S2048x128_S8192x128_1_0_0_1_n_n none (extf .f32 h bitsLt_bf16_f32) (extf .f32 (shapeCast _ (extractStridedSlice S1x2048x128 ![0, 0, 0] w slices_S2x2048x128_S1x2048x128_0_0_0) shapeCasts_S1x2048x128_S2048x128) bitsLt_bf16_f32)

theorem prod_at (h : FVec Ideal S8192x2048 .bf16) (w : FVec Ideal S2x2048x128 .bf16) (s : Fin 8192) (e : Fin 128) :
    prod h w (ix2 s e) = ∑ j : Fin 2048, h (ix2 s j) * w (ix3 0 j e) := by
  pointwise [prod]

end Cert.WriteRef

namespace Cert.WriteClaim

open Cert.Kernel9Ideal Cert.Kernel9Ideal.Gen Idealize.ShloMosaic Idealize.ShloMosaic.TcCoe Idealize.SL.Sem
open Cert.WriteRef (prod prod_at)

theorem tile (x : Vec Ideal S1024x2048 .bf16) (w : Vec Ideal S1x2048x128 .bf16) (y : S1024x128.Idx) :
    out0_2 x w y = ∑ j : Fin 2048, x (ix2 (y 0) j) * w (ix3 0 j (y 1)) := by
  frame_out
  idx_vars y
  pointwise [k0_pay1]

theorem idx : ∀ t : Fin cfg0.N,
    (win0_0.index t = ![t.val, 0] ∧ win0_1.index t = ![0, 0, 0]) ∧ win0_2.index t = ![t.val, 0] :=
  (by decide +kernel : ∀ t : Fin grid0.N, _)

variable (m : (ℓ : Loc nD τ sig) → Buf (Elt Ideal) ℓ)

/-- The row of the arrays that row `r` of point `t`'s block is. -/
def row (t : Fin cfg0.N) (r : Fin 1024) : Fin 8192 := ⟨t.val * 1024 + r, by have := lt_of_lt_of_eq t.isLt N_0; omega⟩

theorem rows (c : Dev nD) (t : Fin cfg0.N) (r : Fin 1024) (j : Fin 2048) :
    iblk m c 0 t (ix2 r j) = m ((c : Thread nD τ).loc main_arg0) (ix2 (row t r) j) := by
  unfold row; blk_point [iblk, V, (idx t).1]

theorem cols (c : Dev nD) (t : Fin cfg0.N) (j : Fin 2048) (e : Fin 128) :
    iblk m c 1 t (ix3 0 j e) = m ((c : Thread nD τ).loc main_arg1) (ix3 0 j e) := by
  blk_point [iblk, V, (idx t).1]

theorem place (t : Fin cfg0.N) (y : S1024x128.Idx) (r : Fin 1024) (e : Fin 128) (h0 : (y 0 : ℕ) = r) (h1 : (y 1 : ℕ) = e)
    (Z : FVec Ideal S8192x128 .f32) : Z (ix2 (row t r) e) = Z ((win0_2.blk t).view.emb y) := by
  unfold row
  blk_point [(idx t).2]

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  blk_simp
  rw [after0_2]
  refine (tile _ _ y).trans (Eq.trans ?_ (place t y (y 0) (y 1) rfl rfl _))
  refine (Finset.sum_congr rfl fun j _ => ?_).trans (prod_at _ _ (row t (y 0)) (y 1)).symm
  exact congrArg₂ (fun a b : EReal => a * b) (rows m c t (y 0) j) (cols m c t j (y 1))

theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · refine (θ_run _ _ _).mono (fun r h c => ⟨(h c).1.trans ((show _ = prod _ _ from rfl).trans ?_), (h c).2⟩) (Cert.Reference9Ideal.Value.run m' g')
    obtain ⟨h0, h1⟩ := hagree c
    rw [h0, h1]
    exact (final m c).symm

end Cert.WriteClaim

end
-- ==== Proof.Write1Claim.lean ====
/- The projection of the write strengths and decays, second layer: both programs end with equal results. -/
module

public import Idealize.ShloMosaic.Lib.Claim
public import Idealize.ShloMosaic.Lib.Pipeline.ValueKit
public import proofs.«01_k».proof.Defs
public import proofs.«01_k».proof.Proof.Gen.Kernel10Ideal.Value
public import proofs.«01_k».proof.Proof.Gen.Reference10Ideal.Run

@[expose] public section

set_option maxRecDepth 16384

noncomputable section

namespace Cert.Write1Ref

open Cert.Reference10Ideal Cert.Reference10Ideal.Gen Idealize.ShloMosaic Idealize.ShloMosaic.TcCoe

/-- The product as the reference writes it. -/
def prod (h : FVec Ideal S8192x2048 .bf16) (w : FVec Ideal S2x2048x128 .bf16) : FVec Ideal S8192x128 .f32 :=
  Host.dotGeneral dot_S8192x2048_S2048x128_S8192x128_1_0_0_1_n_n none (extf .f32 h bitsLt_bf16_f32) (extf .f32 (shapeCast _ (extractStridedSlice S1x2048x128 ![1, 0, 0] w slices_S2x2048x128_S1x2048x128_1_0_0) shapeCasts_S1x2048x128_S2048x128) bitsLt_bf16_f32)

theorem prod_at (h : FVec Ideal S8192x2048 .bf16) (w : FVec Ideal S2x2048x128 .bf16) (s : Fin 8192) (e : Fin 128) :
    prod h w (ix2 s e) = ∑ j : Fin 2048, h (ix2 s j) * w (ix3 1 j e) := by
  pointwise [prod]

end Cert.Write1Ref

namespace Cert.Write1Claim

open Cert.Kernel10Ideal Cert.Kernel10Ideal.Gen Idealize.ShloMosaic Idealize.ShloMosaic.TcCoe Idealize.SL.Sem
open Cert.Write1Ref (prod prod_at)

theorem tile (x : Vec Ideal S1024x2048 .bf16) (w : Vec Ideal S1x2048x128 .bf16) (y : S1024x128.Idx) :
    out0_2 x w y = ∑ j : Fin 2048, x (ix2 (y 0) j) * w (ix3 0 j (y 1)) := by
  frame_out
  idx_vars y
  pointwise [k0_pay1]

theorem idx : ∀ t : Fin cfg0.N,
    (win0_0.index t = ![t.val, 0] ∧ win0_1.index t = ![1, 0, 0]) ∧ win0_2.index t = ![t.val, 0] :=
  (by decide +kernel : ∀ t : Fin grid0.N, _)

variable (m : (ℓ : Loc nD τ sig) → Buf (Elt Ideal) ℓ)

/-- The row of the arrays that row `r` of point `t`'s block is. -/
def row (t : Fin cfg0.N) (r : Fin 1024) : Fin 8192 := ⟨t.val * 1024 + r, by have := lt_of_lt_of_eq t.isLt N_0; omega⟩

theorem rows (c : Dev nD) (t : Fin cfg0.N) (r : Fin 1024) (j : Fin 2048) :
    iblk m c 0 t (ix2 r j) = m ((c : Thread nD τ).loc main_arg0) (ix2 (row t r) j) := by
  unfold row; blk_point [iblk, V, (idx t).1]

theorem cols (c : Dev nD) (t : Fin cfg0.N) (j : Fin 2048) (e : Fin 128) :
    iblk m c 1 t (ix3 0 j e) = m ((c : Thread nD τ).loc main_arg1) (ix3 1 j e) := by
  blk_point [iblk, V, (idx t).1]

theorem place (t : Fin cfg0.N) (y : S1024x128.Idx) (r : Fin 1024) (e : Fin 128) (h0 : (y 0 : ℕ) = r) (h1 : (y 1 : ℕ) = e)
    (Z : FVec Ideal S8192x128 .f32) : Z (ix2 (row t r) e) = Z ((win0_2.blk t).view.emb y) := by
  unfold row
  blk_point [(idx t).2]

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  blk_simp
  rw [after0_2]
  refine (tile _ _ y).trans (Eq.trans ?_ (place t y (y 0) (y 1) rfl rfl _))
  refine (Finset.sum_congr rfl fun j _ => ?_).trans (prod_at _ _ (row t (y 0)) (y 1)).symm
  exact congrArg₂ (fun a b : EReal => a * b) (rows m c t (y 0) j) (cols m c t j (y 1))

theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · refine (θ_run _ _ _).mono (fun r h c => ⟨(h c).1.trans ((show _ = prod _ _ from rfl).trans ?_), (h c).2⟩) (Cert.Reference10Ideal.Value.run m' g')
    obtain ⟨h0, h1⟩ := hagree c
    rw [h0, h1]
    exact (final m c).symm

end Cert.Write1Claim

end
-- ==== Proof.PrepRing.lean ====
/- The call that joins the input weights streams its operand by hand: while one block of 512 rows is turned and
   stored, the copy of the next one is under way into the other half of a scratch buffer. This module holds the
   vocabulary: the two halves, their cells, the blocks (which skip twelve rows from the sixth on), and what is held
   between two points of the grid. -/
module

public import proofs.«01_k».proof.Proof.Gen.Kernel11Ideal.Frame
public import proofs.«01_k».proof.Proof.Gen.Kernel11Ideal.Skeleton

@[expose] public section

set_option maxRecDepth 16384

noncomputable section

namespace Cert.Prep

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Where the blocks start, and the two tests of the body -/

/-- The first row of block `b`: the twelve rows 3072 to 3083 belong to no block. -/
def start (b : ℕ) : ℕ := 512 * b + if 6 ≤ b then 12 else 0

theorem start_room (b : Fin 40) : ∀ a, (![start b.val, 0, 0] : Fin 3 → ℕ) a + S512x2x2048.size a ≤ S20492x2x2048.size a := by
  have hb := b.isLt
  have h : start b.val + 512 ≤ 20492 := by unfold start; split <;> omega
  intro a; fin_cases a
  · exact h
  · exact le_of_eq (Nat.zero_add 2)
  · exact le_of_eq (Nat.zero_add 2048)

/-- The first copy is started at point 0 alone. -/
theorem opens_iff : ∀ t : Fin grid0.N, k0_cond1 (grid0.coords t) = 1#1 ↔ t.val = 0 := by decide +kernel
/-- A next copy is started at every point but the last. -/
theorem goes_iff : ∀ t : Fin grid0.N, k0_cond2 (grid0.coords t) = 1#1 ↔ t.val < 39 := by decide +kernel

/-! ## The buffers -/

/-- The operand in HBM and the scratch of two halves. -/
abbrev opM : Memref sig .tc .hbm S20492x2x2048 .f32 := Memref.whole main_v0
abbrev bufM : Memref sig .tc .vmem S2x512x2x2048 .f32 := Memref.whole cc0_scratch0

theorem half_room (s : Fin 2) : ∀ a, (![s.val, 0, 0, 0] : Fin 4 → ℕ) a + S1x512x2x2048.size a ≤ S2x512x2x2048.size a := by
  revert s; decide
theorem cell_room (s : Fin 2) : ∀ a, (![s.val] : Fin 1 → ℕ) a + S1.size a ≤ S2.size a := by
  revert s; decide

/-- Half `s` of the scratch, block `b` of the operand and the cell of half `s`, written as the body writes them. -/
def half (s : Fin 2) : Memref sig .tc .vmem S512x2x2048 .f32 :=
  (bufM.slice (Rect.unit (s := S2x512x2x2048) ![s.val, 0, 0, 0] S1x512x2x2048.size (half_room s)) (fun _ => rfl)).squeeze
    S512x2x2048 squeezes_S1x512x2x2048_S512x2x2048
def block (b : Fin 40) : Memref sig .tc .hbm S512x2x2048 .f32 :=
  opM.slice (Rect.unit (s := S20492x2x2048) ![start b.val, 0, 0] S512x2x2048.size (start_room b)) (fun _ => rfl)
def cellOfHalf (s : Fin 2) : DmaSems sig S_ :=
  (cc0_scratch1.slice (Rect.unit (s := S2) ![s.val] S1.size (cell_room s))).squeeze S_ squeezes_S1_S_
abbrev cellLoc (s : Fin 2) : SemLoc sig := SemLoc.dma (cellOfHalf s).sem

/-! ## What is held between two points -/

section Held
variable (c : Dev nD) (w : Buf (Elt F) (opM.view.loc (c : Thread nD τ)))

/-- Each half lends from a share of the operand of its own. -/
abbrev shareOf (s : Fin 2) : PosShare TreeShare := if s.val = 0 then fullShare.left else fullShare.right

abbrev HalfBuf (c : Dev nD) (s : Fin 2) : Type := Buf (Elt F) ((half s).view.loc (c : Thread nD τ))

abbrev halfHeld (s : Fin 2) (f : HalfBuf (F := F) c s) : sProp 𝕄 :=
  (half s).view.loc (c : Thread nD τ) ↦[(half s).view.set]{fullShare} f
abbrev cellZero (s : Fin 2) : sProp 𝕄 := semVal ((c : Thread nD τ), cellLoc s) 0
abbrev blockHeld (s : Fin 2) (b : Fin 40) : sProp 𝕄 := (block b).view.loc (c : Thread nD τ) ↦[(block b).view.set]{shareOf s} w
def othersHeld (s : Fin 2) (b : Fin 40) : sProp 𝕄 :=
  ((c : Thread nD τ).loc main_v0) ↦[Finset.univ \ (block b).view.set]{shareOf s} w
abbrev copyHeld (s : Fin 2) : sProp 𝕄 := ((c : Thread nD τ).loc main_v0) ↦[Finset.univ]{shareOf s} w

/-- Half `s` once block `b` has arrived in it. -/
abbrev arrived (s : Fin 2) (b : Fin 40) (f : HalfBuf (F := F) c s) : HalfBuf (F := F) c s :=
  (half s).view.writes (Elt F) f [⟨Rect.whole S512x2x2048, ReadAs.same.apply ((block b).view.read (Elt F) w)⟩]

/-- Half `s` at rest: its cell at zero, the half at some contents, its share of the operand whole. -/
def resting (s : Fin 2) : sProp 𝕄 := iprop(cellZero c s ∗ ∃ f, halfHeld (F := F) c s f ∗ copyHeld c w s)

/-- Block `b` on its way into half `s`: the transfer gives back the half with the block in it and the block's rows;
    the other rows of the share stay here. -/
def coming (s : Fin 2) (b : Fin 40) : sProp 𝕄 :=
  iprop(∃ f, Transfers.Flight countersEmb (c : Thread nD τ) (cellLoc s) default ((half s).view.amount (cellLoc s))
      iprop(halfHeld c s (arrived c w s b f) ∗ blockHeld c w s b) ∗ othersHeld c w s b)

/-- Before point `k`: at the two ends both halves rest; in between block `k` is on its way into its half, and the other
    half rests. -/
def between (k : ℕ) : sProp 𝕄 :=
  if k = 0 ∨ 40 ≤ k then iprop(resting c w (Ring.sl 2 k) ∗ resting c w (Ring.sl 2 (k + 1)))
  else iprop(coming c w (Ring.sl 2 k) (Ring.bk 40 k) ∗ resting c w (Ring.sl 2 (k + 1)))

theorem between_end (k : ℕ) (h : k = 0 ∨ 40 ≤ k) :
    between c w k = iprop(resting c w (Ring.sl 2 k) ∗ resting c w (Ring.sl 2 (k + 1))) := if_pos h
theorem between_mid (k : ℕ) (h : ¬(k = 0 ∨ 40 ≤ k)) :
    between c w k = iprop(coming c w (Ring.sl 2 k) (Ring.bk 40 k) ∗ resting c w (Ring.sl 2 (k + 1))) := if_neg h

/-- A share of the operand is any one block and the rest. -/
theorem copy_split (s : Fin 2) (b : Fin 40) : copyHeld (F := F) c w s ⊣⊢ iprop(blockHeld c w s b ∗ othersHeld c w s b) := by
  unfold othersHeld; exact pointsTo_split_subset (Finset.subset_univ _)

/-- The operand is its two shares. -/
theorem operand_split :
    (opM.view.loc (c : Thread nD τ) ↦{fullShare} w : sProp 𝕄) ⊣⊢ iprop(copyHeld c w 0 ∗ copyHeld c w 1) :=
  pointsTo_share (PosShare.mem_left_op_right fullShare)

end Held

/-! ## The two halves make up the scratch -/

abbrev halfSet (s : Fin 2) : Finset S2x512x2x2048.Idx :=
  (Rect.unit (s := S2x512x2x2048) ![s.val, 0, 0, 0] S1x512x2x2048.size (half_room s)).set

theorem half_set (s : Fin 2) : (half s).view.set = halfSet s := by
  simp only [half, Memref.view_squeeze, View.set_reshape]; exact View.set_slice_whole _ _

theorem halves_apart (s s' : Fin 2) (h : s ≠ s') : Disjoint (halfSet s) (halfSet s') :=
  Ring.lead_disjoint (s := S2x512x2x2048) (0 : Fin 4) 1 (fun s : Fin 2 => (![s.val, 0, 0, 0] : Fin 4 → ℕ))
    S1x512x2x2048.size half_room (fun s => by simp) rfl s s' h

theorem halves_all : Finset.univ.biUnion halfSet = Finset.univ :=
  Ring.lead_cover (s := S2x512x2x2048) (0 : Fin 4) 1 (fun s : Fin 2 => (![s.val, 0, 0, 0] : Fin 4 → ℕ))
    S1x512x2x2048.size half_room (fun s => by simp) (fun s a ha => by fin_cases a <;> first | exact absurd rfl ha | rfl)
    rfl (fun a ha => by fin_cases a <;> first | exact absurd rfl ha | rfl) rfl

theorem halfHeld_eq (c : Dev nD) (s : Fin 2) (f) :
    halfHeld (F := F) c s f = (((c : Thread nD τ).loc cc0_scratch0) ↦[halfSet s]{fullShare} f : sProp 𝕄) := by
  unfold halfHeld; rw [half_set]; rfl

set_option maxHeartbeats 1000000 in
theorem scratch_in (c : Dev nD) : iprop(∃ d, owns (c : Thread nD τ) bufM fullShare d)
    ⊢ (iprop((∃ f, halfHeld (F := F) c 0 f) ∗ ∃ f, halfHeld (F := F) c 1 f) : sProp 𝕄) := by
  simp only [bufM, owns_whole]
  exact Ring.slots2_split (U := Pipeline.UD sig nD τ) (ℓ := (c : Thread nD τ).loc cc0_scratch0) (q := fullShare) halfSet
    halves_apart halves_all (halfHeld c 0) (halfHeld c 1) (halfHeld_eq c 0) (halfHeld_eq c 1)

set_option maxHeartbeats 1000000 in
theorem scratch_out (c : Dev nD) : (iprop((∃ f, halfHeld (F := F) c 0 f) ∗ ∃ f, halfHeld (F := F) c 1 f) : sProp 𝕄)
    ⊢ iprop(∃ d, owns (c : Thread nD τ) bufM fullShare d) := by
  simp only [bufM, owns_whole]
  exact Ring.slots2_join (U := Pipeline.UD sig nD τ) (ℓ := (c : Thread nD τ).loc cc0_scratch0) (q := fullShare) halfSet
    halves_apart halves_all (halfHeld c 0) (halfHeld c 1) (halfHeld_eq c 0) (halfHeld_eq c 1)

/-! ## Into the launch's terms and out of them -/

theorem cell_at0 : cellLoc 0 = SemLoc.dma 2 := by decide
theorem cell_at1 : cellLoc 1 = SemLoc.dma 3 := by decide

/-- The scratch, the two cells and the operand are the two halves at rest. -/
theorem rest_in (c : Dev nD) (w : Buf (Elt F) (opM.view.loc (c : Thread nD τ))) :
    iprop((∃ d, owns (c : Thread nD τ) bufM fullShare d)
        ∗ (semVal ((c : Thread nD τ), SemLoc.dma 2) 0 ∗ semVal ((c : Thread nD τ), SemLoc.dma 3) 0)
        ∗ (opM.view.loc (c : Thread nD τ) ↦{fullShare} w))
      ⊢ (iprop(resting c w 0 ∗ resting c w 1) : sProp 𝕄) := by
  unfold resting cellZero
  rw [cell_at0, cell_at1]
  iintro ⟨HS, ⟨Ha, Hb⟩, HW⟩
  ihave HS' := (scratch_in (F := F) c) $$ HS
  icases HS' with ⟨⟨%d, Hd⟩, ⟨%e, He⟩⟩
  ihave HW' := (operand_split (F := F) c w).1 $$ HW
  icases HW' with ⟨Hl, Hr⟩
  isplitl [Ha Hd Hl]
  · isplitl [Ha]; · iexact Ha
    iexists d; isplitl [Hd]; · iexact Hd
    iexact Hl
  · isplitl [Hb]; · iexact Hb
    iexists e; isplitl [He]; · iexact He
    iexact Hr

theorem rest_out (c : Dev nD) (w : Buf (Elt F) (opM.view.loc (c : Thread nD τ))) :
    (iprop(resting c w 0 ∗ resting c w 1) : sProp 𝕄)
      ⊢ iprop((∃ d, owns (c : Thread nD τ) bufM fullShare d)
        ∗ (semVal ((c : Thread nD τ), SemLoc.dma 2) 0 ∗ semVal ((c : Thread nD τ), SemLoc.dma 3) 0)
        ∗ (opM.view.loc (c : Thread nD τ) ↦{fullShare} w)) := by
  unfold resting cellZero
  rw [cell_at0, cell_at1]
  iintro ⟨⟨Ha, ⟨%d, Hd, Hl⟩⟩, ⟨Hb, ⟨%e, He, Hr⟩⟩⟩
  isplitl [Hd He]
  · iapply (scratch_out (F := F) c); isplitl [Hd]; · iexists d; iexact Hd
    iexists e; iexact He
  isplitl [Ha Hb]
  · isplitl [Ha]; · iexact Ha
    iexact Hb
  · iapply (operand_split (F := F) c w).2; isplitl [Hl]; · iexact Hl
    iexact Hr

/-! ## The body's operands in these terms -/

section Spelled
omit [FloatOps F]

theorem at_half : ∀ t : Fin grid0.N, k0_off5 (grid0.coords t) = ![(Ring.sl 2 t.val).val, 0, 0, 0] := by decide +kernel
theorem at_cell : ∀ t : Fin grid0.N, k0_off4 (grid0.coords t) = ![(Ring.sl 2 t.val).val] := by decide +kernel
theorem at_half0 : ∀ t : Fin grid0.N, k0_off2 (grid0.coords t) = ![(Ring.sl 2 t.val).val, 0, 0, 0] := by decide +kernel
theorem at_cell0 : ∀ t : Fin grid0.N, k0_off1 (grid0.coords t) = ![(Ring.sl 2 t.val).val] := by decide +kernel
theorem at_block0 : ∀ t : Fin grid0.N, k0_off3 (grid0.coords t) = ![start (Ring.bk 40 t.val).val, 0, 0] := by decide +kernel
theorem at_half1 : ∀ t : Fin grid0.N, k0_off8 (grid0.coords t) = ![(Ring.sl 2 (t.val + 1)).val, 0, 0, 0] := by decide +kernel
theorem at_cell1 : ∀ t : Fin grid0.N, k0_off7 (grid0.coords t) = ![(Ring.sl 2 (t.val + 1)).val] := by decide +kernel
theorem at_block1 : ∀ t : Fin grid0.N, k0_cond2 (grid0.coords t) = 1#1 →
    k0_off9 (grid0.coords t) = ![start (Ring.bk 40 (t.val + 1)).val, 0, 0] := by decide +kernel
theorem at_load0 : ∀ t : Fin grid0.N, k0_off10 (grid0.coords t) = ![(Ring.sl 2 t.val).val, 0, 0, 0] := by decide +kernel
theorem at_load1 : ∀ t : Fin grid0.N, k0_off11 (grid0.coords t) = ![(Ring.sl 2 t.val).val, 0, 1, 0] := by decide +kernel

instance (priority := high) load0_closed (t : Fin grid0.N) : ClosedOff (k0_off10 (grid0.coords t)) := ⟨_, at_load0 t⟩
instance (priority := high) load1_closed (t : Fin grid0.N) : ClosedOff (k0_off11 (grid0.coords t)) := ⟨_, at_load1 t⟩

@[sl_canon] theorem is_half (t : Fin grid0.N) :
    (bufM.slice (Rect.unit (s := S2x512x2x2048) (k0_off5 (grid0.coords t)) S1x512x2x2048.size (k0_off5_inb (grid0.coords t)))
      (fun _ => rfl)).squeeze S512x2x2048 squeezes_S1x512x2x2048_S512x2x2048 = half (Ring.sl 2 t.val) :=
  congrArg (fun M : Memref sig .tc .vmem S1x512x2x2048 .f32 => M.squeeze S512x2x2048 squeezes_S1x512x2x2048_S512x2x2048)
    (Memref.slice_unit_congr _ (at_half t) _ _ (fun _ => rfl) (fun _ => rfl))
@[sl_canon] theorem is_half0 (t : Fin grid0.N) (h : k0_cond1 (grid0.coords t) = 1#1) :
    (bufM.slice (Rect.unit (s := S2x512x2x2048) (k0_off2 (grid0.coords t)) S1x512x2x2048.size (k0_off2_inb (grid0.coords t) h))
      (fun _ => rfl)).squeeze S512x2x2048 squeezes_S1x512x2x2048_S512x2x2048 = half (Ring.sl 2 t.val) :=
  congrArg (fun M : Memref sig .tc .vmem S1x512x2x2048 .f32 => M.squeeze S512x2x2048 squeezes_S1x512x2x2048_S512x2x2048)
    (Memref.slice_unit_congr _ (at_half0 t) _ _ (fun _ => rfl) (fun _ => rfl))
@[sl_canon] theorem is_half1 (t : Fin grid0.N) (h : k0_cond2 (grid0.coords t) = 1#1) :
    (bufM.slice (Rect.unit (s := S2x512x2x2048) (k0_off8 (grid0.coords t)) S1x512x2x2048.size (k0_off8_inb (grid0.coords t) h))
      (fun _ => rfl)).squeeze S512x2x2048 squeezes_S1x512x2x2048_S512x2x2048 = half (Ring.sl 2 (t.val + 1)) :=
  congrArg (fun M : Memref sig .tc .vmem S1x512x2x2048 .f32 => M.squeeze S512x2x2048 squeezes_S1x512x2x2048_S512x2x2048)
    (Memref.slice_unit_congr _ (at_half1 t) _ _ (fun _ => rfl) (fun _ => rfl))
@[sl_canon] theorem is_cell (t : Fin grid0.N) :
    (cc0_scratch1.slice (Rect.unit (s := S2) (k0_off4 (grid0.coords t)) S1.size (k0_off4_inb (grid0.coords t)))).squeeze
      S_ squeezes_S1_S_ = cellOfHalf (Ring.sl 2 t.val) :=
  congrArg (fun A : DmaSems sig S1 => A.squeeze S_ squeezes_S1_S_) (SemArray.slice_unit_congr _ (at_cell t) _ _)
@[sl_canon] theorem is_cell0 (t : Fin grid0.N) (h : k0_cond1 (grid0.coords t) = 1#1) :
    (cc0_scratch1.slice (Rect.unit (s := S2) (k0_off1 (grid0.coords t)) S1.size (k0_off1_inb (grid0.coords t) h))).squeeze
      S_ squeezes_S1_S_ = cellOfHalf (Ring.sl 2 t.val) :=
  congrArg (fun A : DmaSems sig S1 => A.squeeze S_ squeezes_S1_S_) (SemArray.slice_unit_congr _ (at_cell0 t) _ _)
@[sl_canon] theorem is_cell1 (t : Fin grid0.N) (h : k0_cond2 (grid0.coords t) = 1#1) :
    (cc0_scratch1.slice (Rect.unit (s := S2) (k0_off7 (grid0.coords t)) S1.size (k0_off7_inb (grid0.coords t) h))).squeeze
      S_ squeezes_S1_S_ = cellOfHalf (Ring.sl 2 (t.val + 1)) :=
  congrArg (fun A : DmaSems sig S1 => A.squeeze S_ squeezes_S1_S_) (SemArray.slice_unit_congr _ (at_cell1 t) _ _)
@[sl_canon] theorem is_block0 (t : Fin grid0.N) (h : k0_cond1 (grid0.coords t) = 1#1) :
    opM.slice (Rect.unit (s := S20492x2x2048) (k0_off3 (grid0.coords t)) S512x2x2048.size (k0_off3_inb (grid0.coords t) h))
      (fun _ => rfl) = block (Ring.bk 40 t.val) :=
  Memref.slice_unit_congr _ (at_block0 t) _ _ (fun _ => rfl) (fun _ => rfl)
@[sl_canon] theorem is_block1 (t : Fin grid0.N) (h : k0_cond2 (grid0.coords t) = 1#1) :
    opM.slice (Rect.unit (s := S20492x2x2048) (k0_off9 (grid0.coords t)) S512x2x2048.size (k0_off9_inb (grid0.coords t) h))
      (fun _ => rfl) = block (Ring.bk 40 (t.val + 1)) :=
  Memref.slice_unit_congr _ (at_block1 t h) _ _ (fun _ => rfl) (fun _ => rfl)

end Spelled

end Cert.Prep

end
-- ==== Proof.PrepRun.lean ====
/- The body of the weights' call at one point, run three times: at the first point, which starts two copies, at the
   points in between, which start one, and at the last, which starts none. Each run names the pieces that are stored. -/
module

public import proofs.«01_k».proof.Proof.PrepRing

@[expose] public section

set_option maxRecDepth 16384

noncomputable section

namespace Cert.Prep

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (t : Fin cfg0.N) (o : Memref sig .tc .vmem S2x2048x512 .bf16) (ho : o.IsWhole)
  (w : Buf (Elt F) (opM.view.loc (c : Thread nD τ)))

/-- The body at point `t`, storing to `o`. -/
abbrev bodyOn : Prog (TpuEff nD τ sig (Elt F) Λ₀ .tc) PUnit :=
  cc0_prepare_w_in (grid0.coords t) opM (Memref.isWhole_whole _) o ho bufM (Memref.isWhole_whole _) cc0_scratch1

set_option maxHeartbeats 1000000 in
/-- The first point: both halves at rest before; after it the first rests and the next block is on its way. -/
def firstRun (h1 : k0_cond1 (grid0.coords t) = 1#1) (h2 : k0_cond2 (grid0.coords t) = 1#1) :
    { L : List (View.Piece (Elt F) S2x2048x512 .bf16) //
      ∀ (W : Waits sig Unit) (K : PUnit → sProp 𝕄),
        iprop((∃ d, owns (c : Thread nD τ) o fullShare d) ∗ resting c w (Ring.sl 2 t.val) ∗ resting c w (Ring.sl 2 (t.val + 1))
            ∗ owes (c : Thread nD τ) 0 W
            ∗ (iprop((∃ f, o.view.loc (c : Thread nD τ) ↦[o.view.set]{fullShare} o.view.writes (Elt F) f L)
                ∗ coming c w (Ring.sl 2 (t.val + 1)) (Ring.bk 40 (t.val + 1)) ∗ resting c w (Ring.sl 2 t.val)
                ∗ (∃ W', owes (c : Thread nD τ) 0 W')) -∗ K ⟨⟩))
          ⊢ wp frame (wpE (defs₀ (F := F)) Variants.none c none) Set.univ (bodyOn t o ho) K } := by
  refine ⟨?_, fun W K => ?run⟩
  case run =>
    haveI : Fact (k0_cond1 (grid0.coords t) = 1#1) := ⟨h1⟩
    haveI : Fact (k0_cond2 (grid0.coords t) = 1#1) := ⟨h2⟩
    unfold bodyOn
    simp only [cc0_prepare_w_in_eq_skeleton]; unfold cc0_prepare_w_in_skel
    simp only [k0_part1_eq_skeleton]
    unfold owns resting coming
    iintro ⟨⟨%d, %f, -, HO⟩, ⟨Ca, ⟨%a, Ha, Wa⟩⟩, ⟨Cb, ⟨%b, Hb, Wb⟩⟩, HW, Hk⟩
    ihave Sa := (copy_split c w (Ring.sl 2 t.val) (Ring.bk 40 t.val)).1 $$ Wa
    icases Sa with ⟨Ba, Ra⟩
    ihave Sb := (copy_split c w (Ring.sl 2 (t.val + 1)) (Ring.bk 40 (t.val + 1))).1 $$ Wb
    icases Sb with ⟨Bb, Rb⟩
    sl_exec (disch := first | sl_exact h1 | sl_exact h2)
    sl_step
    iapply Hk
    isplitl [HO]; · iexists _; iexact HO
    isplitl [Cb Rb]
    · iexists _; isplitl [Cb]; · iexact Cb
      iexact Rb
    isplitl [Ca Ha Ba Ra]
    · isplitl [Ca]; · iexact Ca
      iexists _; isplitl [Ha]; · iexact Ha
      iapply (copy_split c w (Ring.sl 2 t.val) (Ring.bk 40 t.val)).2; isplitl [Ba]; · iexact Ba
      iexact Ra
    iexists _; iexact HW

set_option maxHeartbeats 1000000 in
/-- A point in between: its block is on its way before; after it its half rests and the next block is on its way. -/
def midRun (h1 : ¬k0_cond1 (grid0.coords t) = 1#1) (h2 : k0_cond2 (grid0.coords t) = 1#1) :
    { L : List (View.Piece (Elt F) S2x2048x512 .bf16) //
      ∀ (W : Waits sig Unit) (K : PUnit → sProp 𝕄),
        iprop((∃ d, owns (c : Thread nD τ) o fullShare d) ∗ coming c w (Ring.sl 2 t.val) (Ring.bk 40 t.val)
            ∗ resting c w (Ring.sl 2 (t.val + 1)) ∗ owes (c : Thread nD τ) 0 W
            ∗ (iprop((∃ f, o.view.loc (c : Thread nD τ) ↦[o.view.set]{fullShare} o.view.writes (Elt F) f L)
                ∗ coming c w (Ring.sl 2 (t.val + 1)) (Ring.bk 40 (t.val + 1)) ∗ resting c w (Ring.sl 2 t.val)
                ∗ (∃ W', owes (c : Thread nD τ) 0 W')) -∗ K ⟨⟩))
          ⊢ wp frame (wpE (defs₀ (F := F)) Variants.none c none) Set.univ (bodyOn t o ho) K } := by
  refine ⟨?_, fun W K => ?run⟩
  case run =>
    haveI : Fact (¬k0_cond1 (grid0.coords t) = 1#1) := ⟨h1⟩
    haveI : Fact (k0_cond2 (grid0.coords t) = 1#1) := ⟨h2⟩
    unfold bodyOn
    simp only [cc0_prepare_w_in_eq_skeleton]; unfold cc0_prepare_w_in_skel
    simp only [k0_part1_eq_skeleton]
    unfold owns resting coming
    iintro ⟨⟨%d, %f, -, HO⟩, ⟨%a, Fa, Ra⟩, ⟨Cb, ⟨%b, Hb, Wb⟩⟩, HW, Hk⟩
    ihave Sb := (copy_split c w (Ring.sl 2 (t.val + 1)) (Ring.bk 40 (t.val + 1))).1 $$ Wb
    icases Sb with ⟨Bb, Rb⟩
    sl_exec (disch := first | sl_exact h1 | sl_exact h2)
    sl_step
    iapply Hk
    isplitl [HO]; · iexists _; iexact HO
    isplitl [Cb Rb]
    · iexists _; isplitl [Cb]; · iexact Cb
      iexact Rb
    isplitl [Fa Fa_dst Fa_src Ra]
    · isplitl [Fa]; · iexact Fa
      iexists _; isplitl [Fa_dst]; · iexact Fa_dst
      iapply (copy_split c w (Ring.sl 2 t.val) (Ring.bk 40 t.val)).2; isplitl [Fa_src]; · iexact Fa_src
      iexact Ra
    iexists _; iexact HW

set_option maxHeartbeats 1000000 in
/-- The last point: its block is on its way before; after it its half rests. -/
def lastRun (h1 : ¬k0_cond1 (grid0.coords t) = 1#1) (h2 : ¬k0_cond2 (grid0.coords t) = 1#1) :
    { L : List (View.Piece (Elt F) S2x2048x512 .bf16) //
      ∀ (W : Waits sig Unit) (K : PUnit → sProp 𝕄),
        iprop((∃ d, owns (c : Thread nD τ) o fullShare d) ∗ coming c w (Ring.sl 2 t.val) (Ring.bk 40 t.val)
            ∗ owes (c : Thread nD τ) 0 W
            ∗ (iprop((∃ f, o.view.loc (c : Thread nD τ) ↦[o.view.set]{fullShare} o.view.writes (Elt F) f L)
                ∗ resting c w (Ring.sl 2 t.val) ∗ (∃ W', owes (c : Thread nD τ) 0 W')) -∗ K ⟨⟩))
          ⊢ wp frame (wpE (defs₀ (F := F)) Variants.none c none) Set.univ (bodyOn t o ho) K } := by
  refine ⟨?_, fun W K => ?run⟩
  case run =>
    haveI : Fact (¬k0_cond1 (grid0.coords t) = 1#1) := ⟨h1⟩
    haveI : Fact (¬k0_cond2 (grid0.coords t) = 1#1) := ⟨h2⟩
    unfold bodyOn
    simp only [cc0_prepare_w_in_eq_skeleton]; unfold cc0_prepare_w_in_skel
    simp only [k0_part1_eq_skeleton]
    unfold owns resting coming
    iintro ⟨⟨%d, %f, -, HO⟩, ⟨%a, Fa, Ra⟩, HW, Hk⟩
    sl_exec (disch := first | sl_exact h1 | sl_exact h2)
    sl_step
    iapply Hk
    isplitl [HO]; · iexists _; iexact HO
    isplitl [Fa Fa_dst Fa_src Ra]
    · isplitl [Fa]; · iexact Fa
      iexists _; isplitl [Fa_dst]; · iexact Fa_dst
      iapply (copy_split c w (Ring.sl 2 t.val) (Ring.bk 40 t.val)).2; isplitl [Fa_src]; · iexact Fa_src
      iexact Ra
    iexists _; iexact HW

end Cert.Prep

end
-- ==== Proof.PrepFrame.lean ====
/- The run of the weights' call: what every point stores, the obligation at every point, and the launch. It is stated
   for any floats, over the text printed for the reals, which is the text of the kernel. -/
module

public import proofs.«01_k».proof.Proof.PrepRun
public import Idealize.ShloMosaic.Lib.Claim

@[expose] public section

set_option maxRecDepth 16384

noncomputable section

namespace Cert.Prep

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point stores -/

section Stored
variable (c : Dev nD) (t : Fin cfg0.N) (w : Buf (Elt F) (opM.view.loc (c : Thread nD τ)))

/-- Half of point `t` with the point's block in it. -/
def landed : Buf (Elt F) ((half (Ring.sl 2 t.val)).view.loc (c : Thread nD τ)) :=
  (half (Ring.sl 2 t.val)).view.writes (Elt F) (half (Ring.sl 2 t.val)).view.junk
    [⟨Rect.whole S512x2x2048, ReadAs.same.apply ((block (Ring.bk 40 t.val)).view.read (Elt F) w)⟩]

/-- The rows of the block for the first layer and for the second, as loaded from the scratch. -/
def rows0 : Vec F S1x512x1x2048 .f32 :=
  bufM.view.readAt (Elt F) (Rect.unit (s := S2x512x2x2048) (k0_off10 (grid0.coords t)) S1x512x1x2048.size
    (k0_off10_inb (grid0.coords t))).toLoadRect (landed c t w)
def rows1 : Vec F S1x512x1x2048 .f32 :=
  bufM.view.readAt (Elt F) (Rect.unit (s := S2x512x2x2048) (k0_off11 (grid0.coords t)) S1x512x1x2048.size
    (k0_off11_inb (grid0.coords t))).toLoadRect (landed c t w)

/-- The two pieces stored at point `t`, the last first. -/
def pieces : List (View.Piece (Elt F) S2x2048x512 .bf16) :=
  [⟨Rect.unit (s := S2x2048x512) ![1, 0, 0] S1x2048x512.size inb_S2x2048x512_S1x2048x512_1_0_0, k0_pay2 (rows1 c t w)⟩,
   ⟨Rect.unit (s := S2x2048x512) ![0, 0, 0] S1x2048x512.size inb_S2x2048x512_S1x2048x512_0_0_0, k0_pay1 (k0_pay3 (rows0 c t w))⟩]

theorem firstRun_pieces (o ho h1 h2) : (firstRun c t o ho w h1 h2).1 = pieces c t w := rfl
theorem midRun_pieces (o ho h1 h2) : (midRun c t o ho w h1 h2).1 = pieces c t w := rfl
theorem lastRun_pieces (o ho h1 h2) : (lastRun c t o ho w h1 h2).1 = pieces c t w := rfl

/-- The two pieces fill the block. -/
theorem pieces_fill (y : S2x2048x512.Idx) : ∃ pc ∈ pieces c t w, y ∈ pc.1.set :=
  View.cover_of_tiledL (pieces c t w) S1x2048x512.size (by sl_kernel_rfl) y

/-- The block stored at point `t`, read from a staging buffer. -/
abbrev stgV : View sig .tc .vmem S2x2048x512 .bf16 := (Memref.whole cc0_stg0_0 : Memref sig .tc .vmem S2x2048x512 .bf16).view
def stored : Vec F S2x2048x512 .bf16 := stgV.read (Elt F) (stgV.writes (Elt F) stgV.junk (pieces c t w))

end Stored

/-! ## The proof data and the obligation -/

/-- Between points the generator register and the halves are held. -/
def inv (c : Dev nD) (k : ℕ) : sProp 𝕄 := iprop((∃ r, prngReg c r) ∗ between c (V m c main_v0) k)

def data (_ : Fin 1) (c : Dev nD) : Dat τ (Elt F) Unit ℕ (Pipeline.UD sig nD τ) ℕ cfg0 c where
  A w := V m c (Pipeline.arrRef spec0 w)
  after w t := match w with
    | ⟨0, _⟩ => stored c t (V m c main_v0)
  Φ t := inv m c t.val
  q _ := fullShare
  owed _ := 0

theorem data_A (c : Dev nD) (w : Fin cfg0.W) : (data m 0 c).A w = V m c (Pipeline.arrRef spec0 w) := by
  dsimp only [data]
theorem data_after (c : Dev nD) (t : Fin cfg0.N) : (data m 0 c).after 0 t = stored c t (V m c main_v0) := by
  dsimp only [data]

abbrev outM (t : Fin cfg0.N) : Memref sig .tc .vmem S2x2048x512 .bf16 := win0_0.stage (cfg0.slots t 0)
abbrev outM_whole (t : Fin cfg0.N) : (outM t).IsWhole := hstage0_0 ((cfg0.slots t 0).cast nbuf0_0)

def pre (c : Dev nD) (t : Fin cfg0.N) : sProp 𝕄 :=
  iprop((data m 0 c).Φ t.castSucc ∗ (data m 0 c).owesAt () t.castSucc
    ∗ (∃ d, owns (c : Thread nD τ) (outM t) fullShare ((data m 0 c).before 0 t d)))
def post (c : Dev nD) (t : Fin cfg0.N) : sProp 𝕄 :=
  iprop((data m 0 c).Φ t.succ ∗ (data m 0 c).owesAt () t.succ
    ∗ owns (c : Thread nD τ) (outM t) fullShare ((data m 0 c).after 0 t))

theorem sl_two (k : ℕ) : Ring.sl 2 (k + 1 + 1) = Ring.sl 2 k := Ring.sl_add 2 k

/-- Written pieces, read back, are the point's block. -/
theorem owns_stored (c : Dev nD) (t : Fin cfg0.N) (w : Buf (Elt F) (opM.view.loc (c : Thread nD τ))) :
    iprop(∃ f, (outM t).view.loc (c : Thread nD τ) ↦[(outM t).view.set]{fullShare} (outM t).view.writes (Elt F) f (pieces c t w))
      ⊢ (owns (c : Thread nD τ) (outM t) fullShare (stored c t w) : sProp 𝕄) := by
  iintro ⟨%f, H⟩
  unfold owns; iexists _; isplitr
  swap; · iexact H
  ipureintro; exact View.read_writes_of_cover _ _ _ _ _ (pieces_fill c t w)

set_option maxHeartbeats 1200000 in
/-- The body at any point. -/
theorem body_ok (c : Dev nD) (t : Fin cfg0.N) :
    pre m c t ⊢ wp frame (wpE (defs₀ (F := F)) Variants.none c none) Set.univ (bodyAt0 t) (fun _ => post m c t) := by
  unfold pre post
  rw [data_after]
  rw [show (data m 0 c).Φ t.castSucc = inv m c t.val from rfl, show (data m 0 c).Φ t.succ = inv m c (t.val + 1) from rfl]
  unfold Dat.owesAt Pipeline.owesWithin
  rw [show (data m 0 c).owed t.castSucc = 0 from rfl, show (data m 0 c).owed t.succ = 0 from rfl]
  unfold inv
  have ht : t.val < 40 := lt_of_lt_of_eq t.isLt (show cfg0.N = 40 from N_0)
  by_cases h1 : t.val = 0
  · have g1 := (opens_iff t).mpr h1
    have g2 := (goes_iff t).mpr (by omega)
    rw [between_end c _ t.val (Or.inl h1), between_mid c _ (t.val + 1) (by omega), sl_two]
    iintro ⟨⟨Hg, Ha, Hb⟩, ⟨%W, -, HW⟩, ⟨%d, HO⟩⟩
    iapply ((firstRun c t (outM t) (outM_whole t) (V m c main_v0) g1 g2).2 W _)
    isplitl [HO]; · iexists _; iexact HO
    isplitl [Ha]; · iexact Ha
    isplitl [Hb]; · iexact Hb
    isplitl [HW]; · iexact HW
    iintro ⟨HO, Hc, Hr, ⟨%W', HW⟩⟩
    isplitl [Hg Hc Hr]
    · isplitl [Hg]; · iexact Hg
      isplitl [Hc]; · iexact Hc
      iexact Hr
    isplitl [HW]
    · iexists W'; isplitr; · ipureintro; exact fun _ _ => Or.inl trivial
      iexact HW
    iapply (owns_stored c t (V m c main_v0)); iexact HO
  · have g1 : ¬k0_cond1 (grid0.coords t) = 1#1 := fun h => h1 ((opens_iff t).mp h)
    rw [between_mid c _ t.val (by omega)]
    by_cases h2 : t.val < 39
    · have g2 := (goes_iff t).mpr h2
      rw [between_mid c _ (t.val + 1) (by omega), sl_two]
      iintro ⟨⟨Hg, Ha, Hb⟩, ⟨%W, -, HW⟩, ⟨%d, HO⟩⟩
      iapply ((midRun c t (outM t) (outM_whole t) (V m c main_v0) g1 g2).2 W _)
      isplitl [HO]; · iexists _; iexact HO
      isplitl [Ha]; · iexact Ha
      isplitl [Hb]; · iexact Hb
      isplitl [HW]; · iexact HW
      iintro ⟨HO, Hc, Hr, ⟨%W', HW⟩⟩
      isplitl [Hg Hc Hr]
      · isplitl [Hg]; · iexact Hg
        isplitl [Hc]; · iexact Hc
        iexact Hr
      isplitl [HW]
      · iexists W'; isplitr; · ipureintro; exact fun _ _ => Or.inl trivial
        iexact HW
      iapply (owns_stored c t (V m c main_v0)); iexact HO
    · have g2 : ¬k0_cond2 (grid0.coords t) = 1#1 := fun h => h2 ((goes_iff t).mp h)
      rw [between_end c _ (t.val + 1) (Or.inr (by omega)), sl_two]
      iintro ⟨⟨Hg, Ha, Hb⟩, ⟨%W, -, HW⟩, ⟨%d, HO⟩⟩
      iapply ((lastRun c t (outM t) (outM_whole t) (V m c main_v0) g1 g2).2 W _)
      isplitl [HO]; · iexists _; iexact HO
      isplitl [Ha]; · iexact Ha
      isplitl [HW]; · iexact HW
      iintro ⟨HO, Hr, ⟨%W', HW⟩⟩
      isplitl [Hg Hb Hr]
      · isplitl [Hg]; · iexact Hg
        isplitl [Hb]; · iexact Hb
        iexact Hr
      isplitl [HW]
      · iexists W'; isplitr; · ipureintro; exact fun _ _ => Or.inl trivial
        iexact HW
      iapply (owns_stored c t (V m c main_v0)); iexact HO

theorem row_at (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row_at]
  exact triple_restated (body_ok m c t) rfl .rfl fun _ => .rfl

/-! ## The launch -/

/-- The cells of the two halves, and the operand. -/
abbrev cells : Fin 2 → SemLoc sig := fun j => (![SemLoc.dma 2, SemLoc.dma 3] : Fin 2 → SemLoc sig) j
theorem cells_own : Pipeline.OwnSemFacts spec0 cells := by decide
def operands : Finset (Ref sig .tc) := {main_v0}
theorem operands_rest : operands ⊆ Pipeline.restRefs sig spec0 := by decide

theorem cells_listed (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 2) 0 ∗ semVal ((c : Thread nD τ), SemLoc.dma 3) 0) := by
  rw [Pipeline.ownSems0_eq_of_list c cells [0, 1] (by decide) (by decide)]; rfl

theorem operands_listed (c : Dev nD) :
    (bigSep operands (fun b => ((c : Thread nD τ).loc b) ↦{fullShare} V m c b) : sProp 𝕄)
      = iprop(opM.view.loc (c : Thread nD τ) ↦{fullShare} V m c main_v0) := by
  rw [BI.bigSep_eq_bigSepL_of_eq [main_v0] (by decide) (by decide)]; rfl

theorem lent_eq (c : Dev nD) :
    (Pipeline.ΦD cells spec0 operands (V m) c : sProp 𝕄)
      = iprop((∃ d, owns (c : Thread nD τ) bufM fullShare d) ∗ (∃ r, prngReg c r)
          ∗ (semVal ((c : Thread nD τ), SemLoc.dma 2) 0 ∗ semVal ((c : Thread nD τ), SemLoc.dma 3) 0)
          ∗ (opM.view.loc (c : Thread nD τ) ↦{fullShare} V m c main_v0)) := by
  rw [Pipeline.ΦD_eq, scopedRest0_eq, cells_listed, operands_listed]; simp only [bufM, owns_whole]; try rfl

theorem enter (c : Dev nD) : Pipeline.ΦD cells spec0 operands (V m) c ⊢ (data m 0 c).Φ 0 := by
  rw [lent_eq, show (data m 0 c).Φ 0 = inv m c 0 from rfl]
  unfold inv
  rw [between_end c _ 0 (Or.inl rfl)]
  iintro ⟨HS, Hg, Hq, HW⟩
  isplitl [Hg]; · iexact Hg
  iapply (rest_in c (V m c main_v0))
  isplitl [HS]; · iexact HS
  isplitl [Hq]; · iexact Hq
  iexact HW

theorem leave (c : Dev nD) : (data m 0 c).Φ (Fin.last cfg0.N) ⊢ Pipeline.ΦD cells spec0 operands (V m) c := by
  rw [lent_eq, show (data m 0 c).Φ (Fin.last cfg0.N) = inv m c grid0.N from rfl]
  unfold inv
  rw [N_0, between_end c _ 40 (Or.inr le_rfl), show Ring.sl 2 40 = 0 by decide, show Ring.sl 2 (40 + 1) = 1 by decide]
  iintro ⟨Hg, HR⟩
  ihave HX := (rest_out c (V m c main_v0)) $$ HR
  icases HX with ⟨HS, Hq, HW⟩
  isplitl [HS]; · iexact HS
  isplitl [Hg]; · iexact Hg
  isplitl [Hq]; · iexact Hq
  iexact HW

theorem host_part : Pipeline.HMain (Ix := Unit) (Name := ℕ) (U := Pipeline.UD sig nD τ) (Lvl := ℕ) cfgs 0 defs₀ Variants.none m
    (main (F := F)) (V m) :=
  Pipeline.hmain_prefix cfgs 0 defs₀ Variants.none m main hostOps0 hostOps0_sub hostOps0_fresh main_chain

set_option backward.isDefEq.respectTransparency.types false in
/-- Every execution ends with the arrays as the proof data say and with every counter at zero. -/
theorem run : θ_run defs (onTc (τ := τ) (main (F := F))) (s₀ m ρ)
    (fun r => Pipeline.FramePost cfgs (data m) 0 (V m) r ∧ r.2.sem = fun _ => 0) :=
  Pipeline.θ_run_frame_dma (Q' := _) cfgs (data m) (0 : Fin 1) launch0 cells defs₀ Variants.none cells_own operands operands_rest
    m ρ main (hbody := fun c => (obligation m c).loose) (hshare := fun c => (data m 0 c).share_full fun _ => rfl)
    (howed := fun _ _ => rfl) (V := V m) (hmain := host_part m) (hA := data_A m) (hin := enter m) (hout := leave m)

/-- The frame. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => ((h.1 c).2 main_arg0
    (Pipeline.mem_restRefs_of main_arg0 (by decide) (by decide))).trans (V_main_arg0 m c), h.2⟩) (run m ρ)

/-- The result's array is the one the data lead to, and the argument's array is the one of the launch. -/
theorem named : θ_run defs (onTc (τ := τ) (main (F := F))) ⟨m, fun _ => 0, ρ⟩ (fun r => ∀ c : Dev nD,
      r.2.mem ((c.tc : Thread nD τ).loc main_v1) = (data m 0 c).arrAt 0 (cfgs 0).N
      ∧ r.2.mem ((c.tc : Thread nD τ).loc main_arg0) = m ((c.tc : Thread nD τ).loc main_arg0)) :=
  (θ_run defs _ _).mono (fun r h c => ⟨(h.1 c).1 0, ((h.1 c).2 main_arg0
    (Pipeline.mem_restRefs_of main_arg0 (by decide) (by decide))).trans (V_main_arg0 m c)⟩) (run m ρ)

end Cert.Prep

end
-- ==== Proof.PrepBits.lean ====
/- The frames of the weights' call: the text printed for bits is the one printed for the reals, so one run serves both. -/
module

public import proofs.«01_k».proof.Proof.PrepFrame
public import proofs.«01_k».proof.Proof.Gen.Kernel11.Frame
public import proofs.«01_k».proof.Defs

@[expose] public section

noncomputable section

namespace Cert.PrepBits

open Idealize.ShloMosaic Idealize.SL.Sem
variable {F : FTy → Type} [FloatOps F]
set_option backward.isDefEq.respectTransparency.types false

/-- The two programs run the same body, -/
theorem same₀ : (Cert.Kernel11.defs₀ (F := F)) = Cert.Kernel11Ideal.defs₀ (F := F) := by
  unfold Cert.Kernel11.defs₀ Cert.Kernel11Ideal.defs₀
  refine congrArg Defs.onTc (funext fun l => ?_)
  match l with
  | ⟨0, _⟩ => rfl
/-- and so the same procedures. -/
theorem same : (Cert.Kernel11.defs (F := F)) = Cert.Kernel11Ideal.defs (F := F) :=
  congrArg (Pipeline.defs (Cert.Kernel11Ideal.pcfgs (F := F))) (same₀ (F := F))
theorem frameIdeal : Cert.quiescent_Kernel11Ideal (hKernel11Ideal := Cert.Kernel11Ideal.Gen.facts) :=
  fun m ρ _ => Cert.Prep.whole (F := Ideal) m ρ

theorem frame : Cert.quiescent_Kernel11 (hKernel11 := Cert.Kernel11.Gen.facts) := by
  intro m ρ _
  have h := Cert.Prep.whole (F := Bits) m ρ
  rw [← same] at h
  exact h

end Cert.PrepBits

end
-- ==== Proof.PrepClaim.lean ====
/- The joined weights: both programs end with equal results. -/
module

public import Idealize.ShloMosaic.Lib.Claim
public import Idealize.ShloMosaic.Lib.Pipeline.ValueKit
public import proofs.«01_k».proof.Defs
public import proofs.«01_k».proof.Proof.PrepFrame
public import proofs.«01_k».proof.Proof.Gen.Reference11Ideal.Run

@[expose] public section

set_option maxRecDepth 16384

noncomputable section

namespace Cert.PrepClaim

open Cert.Kernel11Ideal Cert.Kernel11Ideal.Gen Cert.Prep Idealize.ShloMosaic Idealize.ShloMosaic.TcCoe Idealize.SL.Sem

/-- The columns as the reference joins them. -/
def joined (w : FVec Ideal Cert.Reference11Ideal.S2x2048x20492 .f32) : FVec Ideal Cert.Reference11Ideal.S2x2048x20480 .bf16 :=
  truncf .bf16 (concatenate Cert.Reference11Ideal.S2x2048x20480 2
    [⟨Cert.Reference11Ideal.S2x2048x3072, extractStridedSlice Cert.Reference11Ideal.S2x2048x3072 ![0, 0, 0] w Cert.Reference11Ideal.Gen.facts.slices_S2x2048x20492_S2x2048x3072_0_0_0⟩,
     ⟨Cert.Reference11Ideal.S2x2048x17408, extractStridedSlice Cert.Reference11Ideal.S2x2048x17408 ![0, 0, 3084] w Cert.Reference11Ideal.Gen.facts.slices_S2x2048x20492_S2x2048x17408_0_0_3084⟩]
    Cert.Reference11Ideal.Gen.facts.concatenates_S2x2048x3072_S2x2048x17408_S2x2048x20480_d2) bitsLt_bf16_f32

theorem joined_low (w : FVec Ideal Cert.Reference11Ideal.S2x2048x20492 .f32) (l : Fin 2) (j : Fin 2048) (k : Fin 20480) (h : k.val < 3072) :
    joined w (ix3 l j k) = w (ix3 l j ⟨k, by omega⟩) := by
  pointwise [joined]
  rw [dif_pos h]

theorem joined_high (w : FVec Ideal Cert.Reference11Ideal.S2x2048x20492 .f32) (l : Fin 2) (j : Fin 2048) (k : Fin 20480) (h : ¬ k.val < 3072) :
    joined w (ix3 l j k) = w (ix3 l j ⟨k + 12, by omega⟩) := by
  pointwise [joined]
  rw [dif_neg h]
  exact congrArg w (congrArg (ix3 l j) (Fin.ext (show 3084 + ((k : ℕ) - 3072) = k + 12 by omega)))

/-! ## The rows loaded from the scratch -/

section Rows
variable (c : Dev nD) (t : Fin cfg0.N) (w : Buf (Elt Ideal) (opM.view.loc (c : Thread nD τ)))

theorem row_lt (k : Fin 512) : start (Ring.bk 40 t.val).val + k < 20492 := by
  have hb := (Ring.bk 40 t.val).isLt
  have hk := k.isLt
  unfold start; split <;> omega

theorem half_reads (k : Fin 512) (l : Fin 2) (j : Fin 2048) :
    (half (Ring.sl 2 t.val)).view.read (Elt Ideal) (landed c t w) (ix3 k l j) = w (ix3 ⟨start (Ring.bk 40 t.val).val + k, row_lt t k⟩ l j) := by
  unfold landed
  refine (View.read_writes_cons_hit_of_coords _ _ _ _ _ (ix3 k l j) _ fun a => ?_).trans ?_
  · match a with
    | ⟨0, _⟩ => show (k : ℕ) = 0 + 1 * k; omega
    | ⟨1, _⟩ => show (l : ℕ) = 0 + 1 * l; omega
    | ⟨2, _⟩ => show (j : ℕ) = 0 + 1 * j; omega
  · show w _ = w _
    refine congrArg w (funext fun a => Fin.ext ?_)
    match a with
    | ⟨0, _⟩ => show start _ + 1 * (k : ℕ) = start _ + (k : ℕ); rw [Nat.one_mul]
    | ⟨1, _⟩ => show 0 + 1 * (l : ℕ) = l; omega
    | ⟨2, _⟩ => show 0 + 1 * (j : ℕ) = j; omega

/-- A row of a half of the scratch, whatever the scratch holds. -/
theorem half_at (s : Fin 2) (f : (half s).view.ty.Contents (Elt Ideal)) (k : Fin 512) (l : Fin 2) (j : Fin 2048) :
    (half s).view.read (Elt Ideal) f (ix3 k l j) = bufM.view.read (Elt Ideal) f (ix4 s k l j) := by
  show shapeCast S512x2x2048 (fun x : S1x512x2x2048.Idx => bufM.view.read (Elt Ideal) f
    ((Rect.unit (s := S2x512x2x2048) ![s.val, 0, 0, 0] S1x512x2x2048.size (half_room s)).toLoadRect.idx x)) (by decide) (ix3 k l j) = _
  pointwise

/-- A load of one layer's rows of a half. -/
theorem load_at (s l : Fin 2) (off : Fin 4 → ℕ) (ho : off = ![s.val, 0, l.val, 0]) (room)
    (f : bufM.view.ty.Contents (Elt Ideal)) (k : Fin 512) (j : Fin 2048) :
    bufM.view.readAt (Elt Ideal) (Rect.unit (s := S2x512x2x2048) off S1x512x1x2048.size room).toLoadRect f (ix4 0 k 0 j)
      = bufM.view.read (Elt Ideal) f (ix4 s k l j) := by
  subst ho
  refine congrArg f (funext fun a => Fin.ext ?_)
  match a with
  | ⟨0, _⟩ => show s.val + 1 * 0 = s.val; omega
  | ⟨1, _⟩ => show 0 + 1 * (k : ℕ) = k; omega
  | ⟨2, _⟩ => show l.val + 1 * 0 = l.val; omega
  | ⟨3, _⟩ => show 0 + 1 * (j : ℕ) = j; omega

theorem rows0_at (k : Fin 512) (j : Fin 2048) :
    rows0 c t w (ix4 0 k 0 j) = w (ix3 ⟨start (Ring.bk 40 t.val).val + k, row_lt t k⟩ 0 j) :=
  (load_at (Ring.sl 2 t.val) 0 _ (at_load0 t) _ (landed c t w) k j).trans
    ((half_at _ (landed c t w) k 0 j).symm.trans (half_reads c t w k 0 j))

theorem rows1_at (k : Fin 512) (j : Fin 2048) :
    rows1 c t w (ix4 0 k 0 j) = w (ix3 ⟨start (Ring.bk 40 t.val).val + k, row_lt t k⟩ 1 j) :=
  (load_at (Ring.sl 2 t.val) 1 _ (at_load1 t) _ (landed c t w) k j).trans
    ((half_at _ (landed c t w) k 1 j).symm.trans (half_reads c t w k 1 j))

/-- What the two stores hold, turned. -/
theorem pay0_at (X : Vec Ideal S1x512x1x2048 .f32) (j : Fin 2048) (k : Fin 512) :
    k0_pay1 (k0_pay3 X) (ix3 0 j k) = X (ix4 0 k 0 j) := by
  pointwise [k0_pay1, k0_pay3]
theorem pay1_at (X : Vec Ideal S1x512x1x2048 .f32) (j : Fin 2048) (k : Fin 512) :
    k0_pay2 X (ix3 0 j k) = X (ix4 0 k 0 j) := by
  pointwise [k0_pay2]

theorem stored_at (y : S2x2048x512.Idx) :
    stored c t w y = w (ix3 ⟨start (Ring.bk 40 t.val).val + (y 2 : ℕ), row_lt t (y 2)⟩ (y 0) (y 1)) := by
  refine View.read_writes_apply_of_pieces stgV _
    (fun y : S2x2048x512.Idx => w (ix3 ⟨start (Ring.bk 40 t.val).val + (y 2 : ℕ), row_lt t (y 2)⟩ (y 0) (y 1))) (pieces c t w) ?_ y (pieces_fill c t w y)
  intro p hp
  simp only [pieces, List.mem_cons, List.not_mem_nil, or_false] at hp
  rcases hp with rfl | rfl
  · intro (x : S1x2048x512.Idx)
    obtain ⟨a, j, k, rfl⟩ : ∃ a j k, x = ix3 a j k := ⟨x 0, x 1, x 2, by funext i; fin_cases i <;> rfl⟩
    obtain rfl : a = 0 := Subsingleton.elim _ _
    refine (pay1_at (rows1 c t w) j k).trans ((rows1_at c t w k j).trans (congrArg w (funext fun a => Fin.ext ?_)))
    match a with
    | ⟨0, _⟩ => show start _ + (k : ℕ) = start _ + (0 + 1 * (k : ℕ)); omega
    | ⟨1, _⟩ => show 1 = 1 + 1 * 0; omega
    | ⟨2, _⟩ => show (j : ℕ) = 0 + 1 * (j : ℕ); omega
  · intro (x : S1x2048x512.Idx)
    obtain ⟨a, j, k, rfl⟩ : ∃ a j k, x = ix3 a j k := ⟨x 0, x 1, x 2, by funext i; fin_cases i <;> rfl⟩
    obtain rfl : a = 0 := Subsingleton.elim _ _
    refine (pay0_at (rows0 c t w) j k).trans ((rows0_at c t w k j).trans (congrArg w (funext fun a => Fin.ext ?_)))
    match a with
    | ⟨0, _⟩ => show start _ + (k : ℕ) = start _ + (0 + 1 * (k : ℕ)); omega
    | ⟨1, _⟩ => show 0 = 0 + 1 * 0; omega
    | ⟨2, _⟩ => show (j : ℕ) = 0 + 1 * (j : ℕ); omega

end Rows

/-! ## The result -/

theorem idx : ∀ t : Fin cfg0.N, win0_0.index t = ![0, 0, t.val] := (by decide +kernel : ∀ t : Fin grid0.N, _)

variable (m : (ℓ : Loc nD τ sig) → Buf (Elt Ideal) ℓ)

theorem V0 (c : Dev nD) : V m c main_v0 = transpose S20492x2x2048 [2, 0, 1] (m ((c : Thread nD τ).loc main_arg0)) transposes_S2x2048x20492_S20492x2x2048_2_0_1 := by
  show StableHlo.after hostOps0 _ _ = _
  simp only [hostOps0, StableHlo.TRef.toBuf, StableHlo.TRef.ofBuf, cast_eq]
  after_results_simp
  all_goals rfl

theorem V0_at (c : Dev nD) (k : Fin 20492) (l : Fin 2) (j : Fin 2048) : V m c main_v0 (ix3 k l j) = m ((c : Thread nD τ).loc main_arg0) (ix3 l j k) := by
  rw [V0]
  pointwise

theorem t_lt (t : Fin cfg0.N) : t.val < 40 := lt_of_lt_of_eq t.isLt (show cfg0.N = 40 from N_0)

/-- The column of the result that column `k` of block `t` is. -/
def col (t : Fin cfg0.N) (k : Fin 512) : Fin 20480 := ⟨512 * t.val + k, by have := t_lt t; omega⟩

theorem joined_col (w : FVec Ideal Cert.Reference11Ideal.S2x2048x20492 .f32) (t : Fin cfg0.N) (l : Fin 2) (j : Fin 2048) (k : Fin 512) :
    joined w (ix3 l j (col t k)) = w (ix3 l j ⟨start (Ring.bk 40 t.val).val + k, row_lt t k⟩) := by
  have hb : (Ring.bk 40 t.val).val = t.val := Nat.mod_eq_of_lt (t_lt t)
  by_cases h : 6 ≤ t.val
  · refine (joined_high w l j (col t k) (by show ¬ 512 * t.val + (k : ℕ) < 3072; omega)).trans ?_
    refine congrArg w (congrArg (ix3 l j) (Fin.ext ?_))
    show 512 * t.val + (k : ℕ) + 12 = start _ + (k : ℕ)
    rw [hb]; unfold start; rw [if_pos h]; omega
  · refine (joined_low w l j (col t k) (by show 512 * t.val + (k : ℕ) < 3072; omega)).trans ?_
    refine congrArg w (congrArg (ix3 l j) (Fin.ext ?_))
    show 512 * t.val + (k : ℕ) = start _ + (k : ℕ)
    rw [hb]; unfold start; rw [if_neg h]; omega

theorem place (t : Fin cfg0.N) (y : S2x2048x512.Idx) (Z : FVec Ideal S2x2048x20480 .bf16) :
    Z (ix3 (y 0) (y 1) (col t (y 2))) = Z ((win0_0.blk t).view.emb y) := by
  unfold col
  blk_point [idx t]

theorem final (c : Dev nD) : (data m 0 c).arrAt 0 (cfgs 0).N = joined (m ((c : Thread nD τ).loc main_arg0)) := by
  refine (data m 0 c).arrAt_eq_of_covers 0 _ (by decide +kernel) fun t hf y => ?_
  blk_simp
  rw [data_after]
  refine (stored_at c t _ y).trans (Eq.trans ?_ (place t y _))
  exact (V0_at m c _ (y 0) (y 1)).trans (joined_col _ t (y 0) (y 1) (y 2)).symm

theorem algebraic : Cert.algebraic_Kernel11Ideal_Reference11Ideal (hKernel11Ideal := Cert.Kernel11Ideal.Gen.facts)
    (hReference11Ideal := Cert.Reference11Ideal.Gen.facts) := by
  pair_intro
  · run_from Cert.Prep.named m g
  · refine (θ_run _ _ _).mono (fun r h c => ⟨(h c).1.trans ((show _ = joined _ from rfl).trans ?_), (h c).2⟩) (Cert.Reference11Ideal.Value.run m' g')
    rw [hagree c]
    exact (final m c).symm

end Cert.PrepClaim

end
-- ==== Proof.lean ====
/- The claims about the eleven kernels, put together: the frames of the first ten are the generated ones, those of the
   eleventh stand in PrepBits, those of the references in RefFrames; the equalities in WindowClaim, MergeClaim, ProjClaim,
   Merge1Claim, Proj1Claim, TablesClaim, NormClaim, ColsClaim, WriteClaim, Write1Claim and PrepClaim. -/
module

public import proofs.«01_k».proof.Defs
public import proofs.«01_k».proof.Proof.Gen.Reference3Ideal.Run
public import proofs.«01_k».proof.Proof.Gen.Reference3Ideal
public import proofs.«01_k».proof.Proof.Gen.Reference2Ideal.Run
public import proofs.«01_k».proof.Proof.Gen.Reference2Ideal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Kernel3Ideal.Value
public import proofs.«01_k».proof.Proof.Gen.Reference5Ideal.Run
public import proofs.«01_k».proof.Proof.Gen.Reference5Ideal
public import proofs.«01_k».proof.Proof.Gen.Reference4Ideal.Run
public import proofs.«01_k».proof.Proof.Gen.Reference4Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel4Ideal.Value
public import proofs.«01_k».proof.Proof.Gen.Kernel5Ideal.Value
public import proofs.«01_k».proof.Proof.Gen.Reference6Ideal.Run
public import proofs.«01_k».proof.Proof.Gen.Reference6Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference7Ideal.Run
public import proofs.«01_k».proof.Proof.Gen.Reference7Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference8Ideal.Run
public import proofs.«01_k».proof.Proof.Gen.Reference8Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference9Ideal.Run
public import proofs.«01_k».proof.Proof.Gen.Reference9Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference10Ideal.Run
public import proofs.«01_k».proof.Proof.Gen.Reference10Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference11Ideal.Run
public import proofs.«01_k».proof.Proof.Gen.Reference11Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.RefFrames
public import proofs.«01_k».proof.Proof.WindowClaim
public import proofs.«01_k».proof.Proof.MergeClaim
public import proofs.«01_k».proof.Proof.ProjClaim
public import proofs.«01_k».proof.Proof.Merge1Claim
public import proofs.«01_k».proof.Proof.Proj1Claim
public import proofs.«01_k».proof.Proof.TablesClaim
public import proofs.«01_k».proof.Proof.NormClaim
public import proofs.«01_k».proof.Proof.ColsClaim
public import proofs.«01_k».proof.Proof.WriteClaim
public import proofs.«01_k».proof.Proof.Write1Claim
public import proofs.«01_k».proof.Proof.PrepBits
public import proofs.«01_k».proof.Proof.PrepClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  fun m ρ _ => Cert.Kernel.Gen.frame m ρ, fun m ρ _ => Cert.KernelIdeal.Gen.frame m ρ, Cert.RefFrames.ref1,
  fun m ρ _ => Cert.Kernel2.Gen.frame m ρ, fun m ρ _ => Cert.Kernel2Ideal.Gen.frame m ρ, Cert.RefFrames.ref2,
  fun m ρ _ => Cert.Kernel3.Gen.frame m ρ, fun m ρ _ => Cert.Kernel3Ideal.Gen.frame m ρ, Cert.RefFrames.ref3,
  fun m ρ _ => Cert.Kernel4.Gen.frame m ρ, fun m ρ _ => Cert.Kernel4Ideal.Gen.frame m ρ, Cert.RefFrames.ref4,
  fun m ρ _ => Cert.Kernel5.Gen.frame m ρ, fun m ρ _ => Cert.Kernel5Ideal.Gen.frame m ρ, Cert.RefFrames.ref5,
  fun m ρ _ => Cert.Kernel6.Gen.frame m ρ, fun m ρ _ => Cert.Kernel6Ideal.Gen.frame m ρ, Cert.RefFrames.ref6,
  fun m ρ _ => Cert.Kernel7.Gen.frame m ρ, fun m ρ _ => Cert.Kernel7Ideal.Gen.frame m ρ, Cert.RefFrames.ref7,
  fun m ρ _ => Cert.Kernel8.Gen.frame m ρ, fun m ρ _ => Cert.Kernel8Ideal.Gen.frame m ρ, Cert.RefFrames.ref8,
  fun m ρ _ => Cert.Kernel9.Gen.frame m ρ, fun m ρ _ => Cert.Kernel9Ideal.Gen.frame m ρ, Cert.RefFrames.ref9,
  fun m ρ _ => Cert.Kernel10.Gen.frame m ρ, fun m ρ _ => Cert.Kernel10Ideal.Gen.frame m ρ, Cert.RefFrames.ref10,
  Cert.PrepBits.frame, Cert.PrepBits.frameIdeal, Cert.RefFrames.ref11,
  trivial, Cert.WindowClaim.algebraic, trivial, Cert.MergeClaim.algebraic, trivial, Cert.ProjClaim.algebraic,
  trivial, Cert.Merge1Claim.algebraic, trivial, Cert.Proj1Claim.algebraic,
  trivial, Cert.TablesClaim.algebraic, trivial, Cert.NormClaim.algebraic, trivial, Cert.ColsClaim.algebraic, trivial, Cert.WriteClaim.algebraic, trivial, Cert.Write1Claim.algebraic,
  trivial, Cert.PrepClaim.algebraic⟩

end Cert.Proof

end
